-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "lo" .f32 0xC2700000#32 ⊥
  ∧ IdealRules.named_const.Statement Cert.ReferenceIdeal.κ "hi" .f32 0x42700000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4x512x640 : Shape := ⟨3, ![4, 512, 640]⟩
abbrev S2x512x640 : Shape := ⟨3, ![2, 512, 640]⟩
abbrev S1x512x640 : Shape := ⟨3, ![1, 512, 640]⟩
abbrev S3 : Shape := ⟨1, ![3]⟩
abbrev S4x512x768 : Shape := ⟨3, ![4, 512, 768]⟩
abbrev S2x512x768 : Shape := ⟨3, ![2, 512, 768]⟩
abbrev S1x512x768 : Shape := ⟨3, ![1, 512, 768]⟩
abbrev S_ : Shape := ⟨0, ![]⟩
abbrev S512x640 : Shape := ⟨2, ![512, 640]⟩
abbrev S512x768 : Shape := ⟨2, ![512, 768]⟩
abbrev S512x512 : Shape := ⟨2, ![512, 512]⟩

abbrev nBuf : Space → Nat
  | .hbm => 5
  | .vmem => 24
  | .smem => 2
  | _ => 0

abbrev bufTy : (tb : Table) → Fin (tcTables nBuf tb) → BufTy
  | .hbm, ⟨0, _⟩ => ⟨S4096x512, .fp8e5m2⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e5m2⟩
  | .local _ .vmem, ⟨1, _⟩ => ⟨S512x2048, .fp8e5m2⟩
  | .local _ .vmem, ⟨2, _⟩ => ⟨S512x2048, .f32⟩
  | .local _ .vmem, ⟨3, _⟩ => ⟨S4x512x640, .f32⟩
  | .local _ .vmem, ⟨4, _⟩ => ⟨S4x512x640, .bf16⟩
  | .local _ .vmem, ⟨5, _⟩ => ⟨S4x512x640, .bf16⟩
  | .local _ .vmem, ⟨6, _⟩ => ⟨S2x512x640, .bf16⟩
  | .local _ .vmem, ⟨7, _⟩ => ⟨S2x512x640, .bf16⟩
  | .local _ .vmem, ⟨8, _⟩ => ⟨S1x512x640, .bf16⟩
  | .local _ .vmem, ⟨9, _⟩ => ⟨S1x512x640, .bf16⟩
  | .local _ .vmem, ⟨10, _⟩ => ⟨S4x512x640, .f32⟩
  | .local _ .vmem, ⟨11, _⟩ => ⟨S4x512x640, .bf16⟩
  | .local _ .vmem, ⟨12, _⟩ => ⟨S4x512x640, .bf16⟩
  | .local _ .vmem, ⟨13, _⟩ => ⟨S2x512x640, .bf16⟩
  | .local _ .vmem, ⟨14, _⟩ => ⟨S2x512x640, .bf16⟩
  | .local _ .vmem, ⟨15, _⟩ => ⟨S1x512x640, .bf16⟩
  | .local _ .vmem, ⟨16, _⟩ => ⟨S1x512x640, .bf16⟩
  | .local _ .vmem, ⟨17, _⟩ => ⟨S4x512x768, .f32⟩
  | .local _ .vmem, ⟨18, _⟩ => ⟨S4x512x768, .bf16⟩
  | .local _ .vmem, ⟨19, _⟩ => ⟨S4x512x768, .bf16⟩
  | .local _ .vmem, ⟨20, _⟩ => ⟨S2x512x768, .bf16⟩
  | .local _ .vmem, ⟨21, _⟩ => ⟨S2x512x768, .bf16⟩
  | .local _ .vmem, ⟨22, _⟩ => ⟨S1x512x768, .bf16⟩
  | .local _ .vmem, ⟨23, _⟩ => ⟨S1x512x768, .bf16⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch18 : Ref sig .tc := ⟨.vmem, 17, rfl⟩
abbrev cc0_scratch19 : Ref sig .tc := ⟨.vmem, 18, rfl⟩
abbrev cc0_scratch20 : Ref sig .tc := ⟨.vmem, 19, rfl⟩
abbrev cc0_scratch21 : Ref sig .tc := ⟨.vmem, 20, rfl⟩
abbrev cc0_scratch22 : Ref sig .tc := ⟨.vmem, 21, rfl⟩
abbrev cc0_scratch23 : Ref sig .tc := ⟨.vmem, 22, rfl⟩
abbrev cc0_scratch24 : Ref sig .tc := ⟨.vmem, 23, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_26 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v60 : BitVec 32 := Scalar.muli c4_i32_22 v57
  let c1_i32_21 : BitVec 32 := 1#32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v59 : BitVec 32 := Scalar.subi c1_i32_21 v23
  let v61 : BitVec 32 := Scalar.addi v60 v59
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32 : BitVec 32 := 3#32
  let c2_i32_23 : BitVec 32 := 2#32
  let v62 : BitVec 32 := Scalar.muli c2_i32_23 v59
  let v63 : BitVec 32 := Scalar.subi c3_i32 v62
  let v64 : BitVec 32 := Scalar.muli v40 v63
  let v65 : BitVec 32 := Scalar.addi v61 v64
  let c1_i32_25 : BitVec 32 := 1#32
  let v66 : BitVec 32 := Scalar.muli v65 c1_i32_25
  let v67 : BitVec 32 := Scalar.addi c0_i32_26 v66
  v67.toNat
def k0_dev2 (d0 : Dev nD) : Nat :=
  let c0_i32_33 : BitVec 32 := 0#32
  let c4_i32_28 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v69 : BitVec 32 := Scalar.muli c4_i32_28 v57
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v70 : BitVec 32 := Scalar.addi v69 v23
  let c1_i32_27 : BitVec 32 := 1#32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v68 : BitVec 32 := Scalar.subi c1_i32_27 v40
  let c3_i32_30 : BitVec 32 := 3#32
  let c2_i32_29 : BitVec 32 := 2#32
  let v71 : BitVec 32 := Scalar.muli c2_i32_29 v23
  let v72 : BitVec 32 := Scalar.subi c3_i32_30 v71
  let v73 : BitVec 32 := Scalar.muli v68 v72
  let v74 : BitVec 32 := Scalar.addi v70 v73
  let c1_i32_32 : BitVec 32 := 1#32
  let v75 : BitVec 32 := Scalar.muli v74 c1_i32_32
  let v76 : BitVec 32 := Scalar.addi c0_i32_33 v75
  v76.toNat
def k0_dev3 (d0 : Dev nD) : Nat :=
  let c0_i32_40 : BitVec 32 := 0#32
  let c4_i32_35 : BitVec 32 := 4#32
  let c1_i32_34 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v77 : BitVec 32 := Scalar.subi c1_i32_34 v57
  let v78 : BitVec 32 := Scalar.muli c4_i32_35 v77
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v79 : BitVec 32 := Scalar.addi v78 v23
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_37 : BitVec 32 := 3#32
  let c2_i32_36 : BitVec 32 := 2#32
  let v80 : BitVec 32 := Scalar.muli c2_i32_36 v23
  let v81 : BitVec 32 := Scalar.subi c3_i32_37 v80
  let v82 : BitVec 32 := Scalar.muli v40 v81
  let v83 : BitVec 32 := Scalar.addi v79 v82
  let c1_i32_39 : BitVec 32 := 1#32
  let v84 : BitVec 32 := Scalar.muli v83 c1_i32_39
  let v85 : BitVec 32 := Scalar.addi c0_i32_40 v84
  v85.toNat
def k0_off1 (d0 : Dev nD) (c0_i32_47 : BitVec 32) (c0_i32_48 : BitVec 32) : Fin 2 → Nat :=
  let c4_i32_46 : BitVec 32 := 4#32
  let c1_i32_45 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v95 : BitVec 32 := Scalar.subi c1_i32_45 v57
  let v96 : BitVec 32 := Scalar.muli c4_i32_46 v95
  let v97 : BitVec 32 := Scalar.addi v96 c0_i32_47
  let v98 : BitVec 32 := Scalar.addi v97 c0_i32_48
  let c512_i32 : BitVec 32 := 512#32
  let v99 : BitVec 32 := Scalar.muli v98 c512_i32
  let v100 : Index := Scalar.indexCast v99
  let c0_49 : Index := 0#32
  ![v100.toNat, 0]
def k0_off1_at (r : Fin 4) : BitVec 32 × BitVec 32 :=
  if r.val < 2 then
    if r.val < 1 then
      (0#32, 0#32)
    else
      (1#32, 0#32)
  else
    if r.val < 3 then
      (0#32, 3#32)
    else
      (1#32, 1#32)
def k0_dev4 (d0 : Dev nD) : Nat :=
  let c0_i32_87 : BitVec 32 := 0#32
  let c4_i32_81 : BitVec 32 := 4#32
  let c1_i32_80 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v151 : BitVec 32 := Scalar.subi c1_i32_80 v57
  let v152 : BitVec 32 := Scalar.muli c4_i32_81 v151
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v153 : BitVec 32 := Scalar.addi v152 v23
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_83 : BitVec 32 := 3#32
  let c2_i32_82 : BitVec 32 := 2#32
  let v154 : BitVec 32 := Scalar.muli c2_i32_82 v23
  let v155 : BitVec 32 := Scalar.subi c3_i32_83 v154
  let v156 : BitVec 32 := Scalar.muli v40 v155
  let v157 : BitVec 32 := Scalar.addi v153 v156
  let c1_i32_86 : BitVec 32 := 1#32
  let v158 : BitVec 32 := Scalar.muli v157 c1_i32_86
  let v159 : BitVec 32 := Scalar.addi c0_i32_87 v158
  v159.toNat
def k0_off2 (d0 : Dev nD) (c0_i32_90 : BitVec 32) (c3_i32_89 : BitVec 32) : Fin 2 → Nat :=
  let c1_i32_88 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v164 : BitVec 32 := Scalar.subi c1_i32_88 v40
  let v165 : BitVec 32 := Scalar.muli v164 c3_i32_89
  let v166 : BitVec 32 := Scalar.addi c0_i32_90 v165
  let c512_i32_91 : BitVec 32 := 512#32
  let v167 : BitVec 32 := Scalar.muli v166 c512_i32_91
  let v168 : Index := Scalar.indexCast v167
  let c0_92 : Index := 0#32
  ![v168.toNat, 0]
def k0_off2_at (r : Fin 4) : BitVec 32 × BitVec 32 :=
  if r.val < 2 then
    if r.val < 1 then
      (0#32, 3#32)
    else
      (4#32, 3#32)
  else
    if r.val < 3 then
      (1#32, 1#32)
    else
      (5#32, 1#32)
def k0_dev5 (d0 : Dev nD) : Nat :=
  let c0_i32_130 : BitVec 32 := 0#32
  let c4_i32_124 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v217 : BitVec 32 := Scalar.muli c4_i32_124 v57
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v218 : BitVec 32 := Scalar.addi v217 v23
  let c1_i32_123 : BitVec 32 := 1#32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v216 : BitVec 32 := Scalar.subi c1_i32_123 v40
  let c3_i32_126 : BitVec 32 := 3#32
  let c2_i32_125 : BitVec 32 := 2#32
  let v219 : BitVec 32 := Scalar.muli c2_i32_125 v23
  let v220 : BitVec 32 := Scalar.subi c3_i32_126 v219
  let v221 : BitVec 32 := Scalar.muli v216 v220
  let v222 : BitVec 32 := Scalar.addi v218 v221
  let c1_i32_129 : BitVec 32 := 1#32
  let v223 : BitVec 32 := Scalar.muli v222 c1_i32_129
  let v224 : BitVec 32 := Scalar.addi c0_i32_130 v223
  v224.toNat
def k0_off3 (d0 : Dev nD) (c0_i32_132 : BitVec 32) (c0_i32_135 : BitVec 32) : Fin 2 → Nat :=
  let c1_i32_131 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v229 : BitVec 32 := Scalar.subi c1_i32_131 v23
  let v230 : BitVec 32 := Scalar.addi c0_i32_132 v229
  let c3_i32_134 : BitVec 32 := 3#32
  let c2_i32_133 : BitVec 32 := 2#32
  let v231 : BitVec 32 := Scalar.muli c2_i32_133 v229
  let v232 : BitVec 32 := Scalar.subi c3_i32_134 v231
  let v233 : BitVec 32 := Scalar.muli c0_i32_135 v232
  let v234 : BitVec 32 := Scalar.addi v230 v233
  let c512_i32_136 : BitVec 32 := 512#32
  let v235 : BitVec 32 := Scalar.muli v234 c512_i32_136
  let v236 : Index := Scalar.indexCast v235
  let c0_137 : Index := 0#32
  ![v236.toNat, 0]
def k0_dev6 (d0 : Dev nD) : Nat :=
  let c0_i32_182 : BitVec 32 := 0#32
  let c4_i32_176 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v294 : BitVec 32 := Scalar.muli c4_i32_176 v57
  let c1_i32_175 : BitVec 32 := 1#32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v293 : BitVec 32 := Scalar.subi c1_i32_175 v23
  let v295 : BitVec 32 := Scalar.addi v294 v293
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_178 : BitVec 32 := 3#32
  let c2_i32_177 : BitVec 32 := 2#32
  let v296 : BitVec 32 := Scalar.muli c2_i32_177 v293
  let v297 : BitVec 32 := Scalar.subi c3_i32_178 v296
  let v298 : BitVec 32 := Scalar.muli v40 v297
  let v299 : BitVec 32 := Scalar.addi v295 v298
  let c1_i32_181 : BitVec 32 := 1#32
  let v300 : BitVec 32 := Scalar.muli v299 c1_i32_181
  let v301 : BitVec 32 := Scalar.addi c0_i32_182 v300
  v301.toNat
def k0_off4 (d0 : Dev nD) (c0_i32_184 : BitVec 32) (c0_i32_185 : BitVec 32) : Fin 2 → Nat :=
  let c4_i32_183 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v306 : BitVec 32 := Scalar.muli c4_i32_183 v57
  let v307 : BitVec 32 := Scalar.addi v306 c0_i32_184
  let v308 : BitVec 32 := Scalar.addi v307 c0_i32_185
  let c512_i32_186 : BitVec 32 := 512#32
  let v309 : BitVec 32 := Scalar.muli v308 c512_i32_186
  let v310 : Index := Scalar.indexCast v309
  let c0_187 : Index := 0#32
  ![v310.toNat, 0]
def k0_off4_at (r : Fin 4) : BitVec 32 × BitVec 32 :=
  if r.val < 2 then
    if r.val < 1 then
      (0#32, 0#32)
    else
      (1#32, 0#32)
  else
    if r.val < 3 then
      (0#32, 3#32)
    else
      (1#32, 1#32)
def k0_off5 (d0 : Dev nD) (c0_i32_220 : BitVec 32) (c3_i32_219 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v354 : BitVec 32 := Scalar.muli v40 c3_i32_219
  let v355 : BitVec 32 := Scalar.addi c0_i32_220 v354
  let c512_i32_221 : BitVec 32 := 512#32
  let v356 : BitVec 32 := Scalar.muli v355 c512_i32_221
  let v357 : Index := Scalar.indexCast v356
  let c0_222 : Index := 0#32
  ![v357.toNat, 0]
def k0_off5_at (r : Fin 4) : BitVec 32 × BitVec 32 :=
  if r.val < 2 then
    if r.val < 1 then
      (0#32, 3#32)
    else
      (4#32, 3#32)
  else
    if r.val < 3 then
      (1#32, 1#32)
    else
      (5#32, 1#32)
def k0_off6 (d0 : Dev nD) (c0_i32_251 : BitVec 32) (c0_i32_254 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v398 : BitVec 32 := Scalar.addi c0_i32_251 v23
  let c3_i32_253 : BitVec 32 := 3#32
  let c2_i32_252 : BitVec 32 := 2#32
  let v399 : BitVec 32 := Scalar.muli c2_i32_252 v23
  let v400 : BitVec 32 := Scalar.subi c3_i32_253 v399
  let v401 : BitVec 32 := Scalar.muli c0_i32_254 v400
  let v402 : BitVec 32 := Scalar.addi v398 v401
  let c512_i32_255 : BitVec 32 := 512#32
  let v403 : BitVec 32 := Scalar.muli v402 c512_i32_255
  let v404 : Index := Scalar.indexCast v403
  let c0_256 : Index := 0#32
  ![v404.toNat, 0]
def k0_off7 (d0 : Dev nD) : Fin 3 → Nat :=
  let c2_i32_340 : BitVec 32 := 2#32
  let c1_i32_339 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v493 : BitVec 32 := Scalar.subi c1_i32_339 v40
  let v494 : BitVec 32 := Scalar.muli c2_i32_340 v493
  let v495 : Index := Scalar.indexCast v494
  let c0_341 : Index := 0#32
  let c0_342 : Index := 0#32
  ![v495.toNat, 0, 0]
def k0_dev7 (d0 : Dev nD) : Nat :=
  let c0_i32_353 : BitVec 32 := 0#32
  let c4_i32_347 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v502 : BitVec 32 := Scalar.muli c4_i32_347 v57
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v503 : BitVec 32 := Scalar.addi v502 v23
  let c1_i32_346 : BitVec 32 := 1#32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v501 : BitVec 32 := Scalar.subi c1_i32_346 v40
  let c3_i32_349 : BitVec 32 := 3#32
  let c2_i32_348 : BitVec 32 := 2#32
  let v504 : BitVec 32 := Scalar.muli c2_i32_348 v23
  let v505 : BitVec 32 := Scalar.subi c3_i32_349 v504
  let v506 : BitVec 32 := Scalar.muli v501 v505
  let v507 : BitVec 32 := Scalar.addi v503 v506
  let c1_i32_352 : BitVec 32 := 1#32
  let v508 : BitVec 32 := Scalar.muli v507 c1_i32_352
  let v509 : BitVec 32 := Scalar.addi c0_i32_353 v508
  v509.toNat
def k0_off8 (d0 : Dev nD) : Fin 3 → Nat :=
  let c2_i32_355 : BitVec 32 := 2#32
  let c1_i32_354 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v514 : BitVec 32 := Scalar.subi c1_i32_354 v23
  let v515 : BitVec 32 := Scalar.muli c2_i32_355 v514
  let v516 : Index := Scalar.indexCast v515
  let c0_356 : Index := 0#32
  let c0_357 : Index := 0#32
  ![v516.toNat, 0, 0]
def k0_dev8 (d0 : Dev nD) : Nat :=
  let c0_i32_368 : BitVec 32 := 0#32
  let c4_i32_362 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v523 : BitVec 32 := Scalar.muli c4_i32_362 v57
  let c1_i32_361 : BitVec 32 := 1#32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v522 : BitVec 32 := Scalar.subi c1_i32_361 v23
  let v524 : BitVec 32 := Scalar.addi v523 v522
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_364 : BitVec 32 := 3#32
  let c2_i32_363 : BitVec 32 := 2#32
  let v525 : BitVec 32 := Scalar.muli c2_i32_363 v522
  let v526 : BitVec 32 := Scalar.subi c3_i32_364 v525
  let v527 : BitVec 32 := Scalar.muli v40 v526
  let v528 : BitVec 32 := Scalar.addi v524 v527
  let c1_i32_367 : BitVec 32 := 1#32
  let v529 : BitVec 32 := Scalar.muli v528 c1_i32_367
  let v530 : BitVec 32 := Scalar.addi c0_i32_368 v529
  v530.toNat
def k0_off9 (d0 : Dev nD) : Fin 3 → Nat :=
  let c2_i32_370 : BitVec 32 := 2#32
  let c1_i32_369 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v535 : BitVec 32 := Scalar.subi c1_i32_369 v57
  let v536 : BitVec 32 := Scalar.muli c2_i32_370 v535
  let v537 : Index := Scalar.indexCast v536
  let c0_371 : Index := 0#32
  let c0_372 : Index := 0#32
  ![v537.toNat, 0, 0]
def k0_dev9 (d0 : Dev nD) : Nat :=
  let c0_i32_383 : BitVec 32 := 0#32
  let c4_i32_377 : BitVec 32 := 4#32
  let c1_i32_376 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v543 : BitVec 32 := Scalar.subi c1_i32_376 v57
  let v544 : BitVec 32 := Scalar.muli c4_i32_377 v543
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v545 : BitVec 32 := Scalar.addi v544 v23
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_379 : BitVec 32 := 3#32
  let c2_i32_378 : BitVec 32 := 2#32
  let v546 : BitVec 32 := Scalar.muli c2_i32_378 v23
  let v547 : BitVec 32 := Scalar.subi c3_i32_379 v546
  let v548 : BitVec 32 := Scalar.muli v40 v547
  let v549 : BitVec 32 := Scalar.addi v545 v548
  let c1_i32_382 : BitVec 32 := 1#32
  let v550 : BitVec 32 := Scalar.muli v549 c1_i32_382
  let v551 : BitVec 32 := Scalar.addi c0_i32_383 v550
  v551.toNat
def k0_off10 (d0 : Dev nD) : Fin 3 → Nat :=
  let c2_i32_391 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v562 : BitVec 32 := Scalar.muli c2_i32_391 v40
  let v563 : Index := Scalar.indexCast v562
  let c0_392 : Index := 0#32
  let c0_393 : Index := 0#32
  ![v563.toNat, 0, 0]
def k0_off11 (d0 : Dev nD) : Fin 3 → Nat :=
  let c2_i32_406 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v578 : BitVec 32 := Scalar.muli c2_i32_406 v23
  let v579 : Index := Scalar.indexCast v578
  let c0_407 : Index := 0#32
  let c0_408 : Index := 0#32
  ![v579.toNat, 0, 0]
def k0_off12 (d0 : Dev nD) : Fin 3 → Nat :=
  let c2_i32_421 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v594 : BitVec 32 := Scalar.muli c2_i32_421 v57
  let v595 : Index := Scalar.indexCast v594
  let c0_422 : Index := 0#32
  let c0_423 : Index := 0#32
  ![v595.toNat, 0, 0]
def k0_off13 (d0 : Dev nD) : Fin 3 → Nat :=
  let c2_i32_429 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v604 : BitVec 32 := Scalar.muli c2_i32_429 v40
  let c1_i32_430 : BitVec 32 := 1#32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v605 : BitVec 32 := Scalar.subi c1_i32_430 v23
  let v606 : BitVec 32 := Scalar.addi v604 v605
  let v607 : Index := Scalar.indexCast v606
  let c0_431 : Index := 0#32
  let c0_432 : Index := 0#32
  ![v607.toNat, 0, 0]
def k0_dev10 (d0 : Dev nD) : Nat :=
  let c0_i32_443 : BitVec 32 := 0#32
  let c4_i32_437 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v614 : BitVec 32 := Scalar.muli c4_i32_437 v57
  let c1_i32_436 : BitVec 32 := 1#32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v613 : BitVec 32 := Scalar.subi c1_i32_436 v23
  let v615 : BitVec 32 := Scalar.addi v614 v613
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_439 : BitVec 32 := 3#32
  let c2_i32_438 : BitVec 32 := 2#32
  let v616 : BitVec 32 := Scalar.muli c2_i32_438 v613
  let v617 : BitVec 32 := Scalar.subi c3_i32_439 v616
  let v618 : BitVec 32 := Scalar.muli v40 v617
  let v619 : BitVec 32 := Scalar.addi v615 v618
  let c1_i32_442 : BitVec 32 := 1#32
  let v620 : BitVec 32 := Scalar.muli v619 c1_i32_442
  let v621 : BitVec 32 := Scalar.addi c0_i32_443 v620
  v621.toNat
def k0_off14 (d0 : Dev nD) : Fin 3 → Nat :=
  let c2_i32_444 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v626 : BitVec 32 := Scalar.muli c2_i32_444 v23
  let c1_i32_445 : BitVec 32 := 1#32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v627 : BitVec 32 := Scalar.subi c1_i32_445 v57
  let v628 : BitVec 32 := Scalar.addi v626 v627
  let v629 : Index := Scalar.indexCast v628
  let c0_446 : Index := 0#32
  let c0_447 : Index := 0#32
  ![v629.toNat, 0, 0]
def k0_dev11 (d0 : Dev nD) : Nat :=
  let c0_i32_458 : BitVec 32 := 0#32
  let c4_i32_452 : BitVec 32 := 4#32
  let c1_i32_451 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v635 : BitVec 32 := Scalar.subi c1_i32_451 v57
  let v636 : BitVec 32 := Scalar.muli c4_i32_452 v635
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v637 : BitVec 32 := Scalar.addi v636 v23
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let c3_i32_454 : BitVec 32 := 3#32
  let c2_i32_453 : BitVec 32 := 2#32
  let v638 : BitVec 32 := Scalar.muli c2_i32_453 v23
  let v639 : BitVec 32 := Scalar.subi c3_i32_454 v638
  let v640 : BitVec 32 := Scalar.muli v40 v639
  let v641 : BitVec 32 := Scalar.addi v637 v640
  let c1_i32_457 : BitVec 32 := 1#32
  let v642 : BitVec 32 := Scalar.muli v641 c1_i32_457
  let v643 : BitVec 32 := Scalar.addi c0_i32_458 v642
  v643.toNat
def k0_off15 (d0 : Dev nD) : Fin 3 → Nat :=
  let c2_i32_459 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v648 : BitVec 32 := Scalar.muli c2_i32_459 v57
  let c1_i32_460 : BitVec 32 := 1#32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v649 : BitVec 32 := Scalar.subi c1_i32_460 v40
  let v650 : BitVec 32 := Scalar.addi v648 v649
  let v651 : Index := Scalar.indexCast v650
  let c0_461 : Index := 0#32
  let c0_462 : Index := 0#32
  ![v651.toNat, 0, 0]
def k0_dev12 (d0 : Dev nD) : Nat :=
  let c0_i32_473 : BitVec 32 := 0#32
  let c4_i32_467 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v658 : BitVec 32 := Scalar.muli c4_i32_467 v57
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v659 : BitVec 32 := Scalar.addi v658 v23
  let c1_i32_466 : BitVec 32 := 1#32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v657 : BitVec 32 := Scalar.subi c1_i32_466 v40
  let c3_i32_469 : BitVec 32 := 3#32
  let c2_i32_468 : BitVec 32 := 2#32
  let v660 : BitVec 32 := Scalar.muli c2_i32_468 v23
  let v661 : BitVec 32 := Scalar.subi c3_i32_469 v660
  let v662 : BitVec 32 := Scalar.muli v657 v661
  let v663 : BitVec 32 := Scalar.addi v659 v662
  let c1_i32_472 : BitVec 32 := 1#32
  let v664 : BitVec 32 := Scalar.muli v663 c1_i32_472
  let v665 : BitVec 32 := Scalar.addi c0_i32_473 v664
  v665.toNat
def k0_off16 (d0 : Dev nD) : Fin 3 → Nat :=
  let c2_i32_483 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v679 : BitVec 32 := Scalar.muli c2_i32_483 v40
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v680 : BitVec 32 := Scalar.addi v679 v23
  let v681 : Index := Scalar.indexCast v680
  let c0_484 : Index := 0#32
  let c0_485 : Index := 0#32
  ![v681.toNat, 0, 0]
def k0_off17 (d0 : Dev nD) : Fin 3 → Nat :=
  let c2_i32_498 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v4 : BitVec 32 := Scalar.remsi v3 c2_i32
  let c0_i32 : BitVec 32 := 0#32
  let v6 : BitVec 1 := Scalar.cmpi .sgt v3 c0_i32
  let v7 : BitVec 32 := Scalar.extui v6
  let c0_i32_1 : BitVec 32 := 0#32
  let v8 : BitVec 1 := Scalar.cmpi .slt v3 c0_i32_1
  let v9 : BitVec 32 := Scalar.extui v8
  let v10 : BitVec 32 := Scalar.subi v7 v9
  let c2_i32_0 : BitVec 32 := 2#32
  let c0_i32_2 : BitVec 32 := 0#32
  let v11 : BitVec 1 := Scalar.cmpi .sgt c2_i32_0 c0_i32_2
  let v12 : BitVec 32 := Scalar.extui v11
  let c0_i32_3 : BitVec 32 := 0#32
  let v13 : BitVec 1 := Scalar.cmpi .slt c2_i32_0 c0_i32_3
  let v14 : BitVec 32 := Scalar.extui v13
  let v15 : BitVec 32 := Scalar.subi v12 v14
  let v16 : BitVec 1 := Scalar.cmpi .ne v10 v15
  let v17 : BitVec 32 := Scalar.remsi v3 c2_i32_0
  let c0_i32_4 : BitVec 32 := 0#32
  let v18 : BitVec 1 := Scalar.cmpi .ne v17 c0_i32_4
  let v19 : BitVec 1 := Scalar.andi v16 v18
  let v5 : BitVec 32 := Scalar.divsi v3 c2_i32_0
  let c1_i32_5 : BitVec 32 := 1#32
  let v20 : BitVec 32 := Scalar.subi v5 c1_i32_5
  let v21 : BitVec 32 := Scalar.select v19 v20 v5
  let v22 : BitVec 32 := Scalar.addi v4 v21
  let c2_i32_6 : BitVec 32 := 2#32
  let v23 : BitVec 32 := Scalar.remsi v22 c2_i32_6
  let v699 : BitVec 32 := Scalar.muli c2_i32_498 v23
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v700 : BitVec 32 := Scalar.addi v699 v57
  let v701 : Index := Scalar.indexCast v700
  let c0_499 : Index := 0#32
  let c0_500 : Index := 0#32
  ![v701.toNat, 0, 0]
def k0_off18 (d0 : Dev nD) : Fin 3 → Nat :=
  let c2_i32_513 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_15 : BitVec 32 := 0#32
  let v42 : BitVec 1 := Scalar.cmpi .sgt v2 c0_i32_15
  let v43 : BitVec 32 := Scalar.extui v42
  let c0_i32_16 : BitVec 32 := 0#32
  let v44 : BitVec 1 := Scalar.cmpi .slt v2 c0_i32_16
  let v45 : BitVec 32 := Scalar.extui v44
  let v46 : BitVec 32 := Scalar.subi v43 v45
  let c4_i32_14 : BitVec 32 := 4#32
  let c0_i32_17 : BitVec 32 := 0#32
  let v47 : BitVec 1 := Scalar.cmpi .sgt c4_i32_14 c0_i32_17
  let v48 : BitVec 32 := Scalar.extui v47
  let c0_i32_18 : BitVec 32 := 0#32
  let v49 : BitVec 1 := Scalar.cmpi .slt c4_i32_14 c0_i32_18
  let v50 : BitVec 32 := Scalar.extui v49
  let v51 : BitVec 32 := Scalar.subi v48 v50
  let v52 : BitVec 1 := Scalar.cmpi .ne v46 v51
  let v53 : BitVec 32 := Scalar.remsi v2 c4_i32_14
  let c0_i32_19 : BitVec 32 := 0#32
  let v54 : BitVec 1 := Scalar.cmpi .ne v53 c0_i32_19
  let v55 : BitVec 1 := Scalar.andi v52 v54
  let v41 : BitVec 32 := Scalar.divsi v2 c4_i32_14
  let c1_i32_20 : BitVec 32 := 1#32
  let v56 : BitVec 32 := Scalar.subi v41 c1_i32_20
  let v57 : BitVec 32 := Scalar.select v55 v56 v41
  let v719 : BitVec 32 := Scalar.muli c2_i32_513 v57
  let c4_i32 : BitVec 32 := 4#32
  let v3 : BitVec 32 := Scalar.remsi v2 c4_i32
  let c0_i32_8 : BitVec 32 := 0#32
  let v25 : BitVec 1 := Scalar.cmpi .sgt v3 c0_i32_8
  let v26 : BitVec 32 := Scalar.extui v25
  let c0_i32_9 : BitVec 32 := 0#32
  let v27 : BitVec 1 := Scalar.cmpi .slt v3 c0_i32_9
  let v28 : BitVec 32 := Scalar.extui v27
  let v29 : BitVec 32 := Scalar.subi v26 v28
  let c2_i32_7 : BitVec 32 := 2#32
  let c0_i32_10 : BitVec 32 := 0#32
  let v30 : BitVec 1 := Scalar.cmpi .sgt c2_i32_7 c0_i32_10
  let v31 : BitVec 32 := Scalar.extui v30
  let c0_i32_11 : BitVec 32 := 0#32
  let v32 : BitVec 1 := Scalar.cmpi .slt c2_i32_7 c0_i32_11
  let v33 : BitVec 32 := Scalar.extui v32
  let v34 : BitVec 32 := Scalar.subi v31 v33
  let v35 : BitVec 1 := Scalar.cmpi .ne v29 v34
  let v36 : BitVec 32 := Scalar.remsi v3 c2_i32_7
  let c0_i32_12 : BitVec 32 := 0#32
  let v37 : BitVec 1 := Scalar.cmpi .ne v36 c0_i32_12
  let v38 : BitVec 1 := Scalar.andi v35 v37
  let v24 : BitVec 32 := Scalar.divsi v3 c2_i32_7
  let c1_i32_13 : BitVec 32 := 1#32
  let v39 : BitVec 32 := Scalar.subi v24 c1_i32_13
  let v40 : BitVec 32 := Scalar.select v38 v39 v24
  let v720 : BitVec 32 := Scalar.addi v719 v40
  let v721 : Index := Scalar.indexCast v720
  let c0_514 : Index := 0#32
  let c0_515 : Index := 0#32
  ![v721.toNat, 0, 0]
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
variable {F : FTy → Type} [FloatOps F] [Named F]
def κ : String → Option EReal := fun
  | "hi" => some ⊤
  | "lo" => some ⊥
  | _ => none
-- ==== Reference.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KiVals.lean ====
/-
# The contents of the kernel's buffers

Every buffer of device `c` at each stage of the kernel, as a function of the four operands of all devices. For each of
the three column groups `g`: `S1_g` the four slabs sent in stage 1, `A0_g` the four slabs kept, `A1_g` the kept slabs
plus those received, `S2_g` the two slabs sent in stage 2, `A2_g` the two of `A1_g` that stage 2 updates, `S3_g` the slab
sent in stage 3; at the end `outC`, the block of the result.
-/
module

public import proofs.«01_k».proof.Proof.Gen.KernelIdeal.Frame
public import proofs.«01_k».proof.Proof.Gen.KernelIdeal.Skeleton
public import Idealize.ShloMosaic.Lib.Writes
public import Idealize.ShloMosaic.Lib.Exec

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partners on the three axes of the cube -/

set_option backward.proofsInPublic true in
/-- The device across the first axis: the neighbour in its pair of a plane. -/
def pt0 (c : Dev nD) : Dev nD := ⟨(c.val + 1 - 2 * (c.val % 2)) % 8, Nat.mod_lt _ (by decide)⟩
set_option backward.proofsInPublic true in
/-- The device across the second axis: the other pair of the plane, in reverse order. -/
def pt1 (c : Dev nD) : Dev nD := ⟨(c.val / 4 * 4 + (3 - c.val % 4)) % 8, Nat.mod_lt _ (by decide)⟩
set_option backward.proofsInPublic true in
/-- The device across the third axis: the same place in the other plane. -/
def pt2 (c : Dev nD) : Dev nD := ⟨(c.val + 4) % 8, Nat.mod_lt _ (by decide)⟩
/-- The device across axis `a`. -/
def pt (a : Fin 3) (c : Dev nD) : Dev nD := match a with | 0 => pt0 c | 1 => pt1 c | 2 => pt2 c

theorem pt_pt (a : Fin 3) (c : Dev nD) : pt a (pt a c) = c := by revert a c; decide
/-- Crossing an axis, as a permutation of the devices. -/
def ptE (a : Fin 3) : Dev nD ≃ Dev nD := ⟨pt a, pt a, pt_pt a, pt_pt a⟩

/-! The kernel's device numbers name the partners. -/
theorem dev1_eq (c : Dev nD) : (⟨k0_dev1 c, k0_dev1_lt c⟩ : Dev nD) = pt 0 c := by revert c; decide +kernel
theorem dev2_eq (c : Dev nD) : (⟨k0_dev2 c, k0_dev2_lt c⟩ : Dev nD) = pt 1 c := by revert c; decide +kernel
theorem dev3_eq (c : Dev nD) : (⟨k0_dev3 c, k0_dev3_lt c⟩ : Dev nD) = pt 2 c := by revert c; decide +kernel
theorem dev4_eq (c : Dev nD) : (⟨k0_dev4 c, k0_dev4_lt c⟩ : Dev nD) = pt 2 c := by revert c; decide +kernel
theorem dev5_eq (c : Dev nD) : (⟨k0_dev5 c, k0_dev5_lt c⟩ : Dev nD) = pt 1 c := by revert c; decide +kernel
theorem dev6_eq (c : Dev nD) : (⟨k0_dev6 c, k0_dev6_lt c⟩ : Dev nD) = pt 0 c := by revert c; decide +kernel
theorem dev7_eq (c : Dev nD) : (⟨k0_dev7 c, k0_dev7_lt c⟩ : Dev nD) = pt 1 c := by revert c; decide +kernel
theorem dev8_eq (c : Dev nD) : (⟨k0_dev8 c, k0_dev8_lt c⟩ : Dev nD) = pt 0 c := by revert c; decide +kernel
theorem dev9_eq (c : Dev nD) : (⟨k0_dev9 c, k0_dev9_lt c⟩ : Dev nD) = pt 2 c := by revert c; decide +kernel
theorem dev10_eq (c : Dev nD) : (⟨k0_dev10 c, k0_dev10_lt c⟩ : Dev nD) = pt 0 c := by revert c; decide +kernel
theorem dev11_eq (c : Dev nD) : (⟨k0_dev11 c, k0_dev11_lt c⟩ : Dev nD) = pt 2 c := by revert c; decide +kernel
theorem dev12_eq (c : Dev nD) : (⟨k0_dev12 c, k0_dev12_lt c⟩ : Dev nD) = pt 1 c := by revert c; decide +kernel

variable (m : (ℓ : Loc nD τ sig) → Buf (Elt F) ℓ)

/-! ## The operands as staged -/
/-- Device `c`'s block of `x`. -/
def xstg (c : Dev nD) : (cc0_stg0_0 : Ref sig .tc).ty.Contents (Elt F) := iblk m c 0 t0_0
/-- Device `c`'s block of `w`. -/
def wstg (c : Dev nD) : (cc0_stg1_0 : Ref sig .tc).ty.Contents (Elt F) := iblk m c 1 t0_0
/-- Device `c`'s block of `scale_x`. -/
def sxstg (c : Dev nD) : (cc0_stg2_0 : Ref sig .tc).ty.Contents (Elt F) := iblk m c 2 t0_0
/-- Device `c`'s block of `scale_w`. -/
def swstg (c : Dev nD) : (cc0_stg3_0 : Ref sig .tc).ty.Contents (Elt F) := iblk m c 3 t0_0

abbrev xM : Memref sig .tc .vmem S4096x512 .fp8e5m2 := Memref.whole cc0_stg0_0
abbrev wM : Memref sig .tc .vmem S512x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S512x2048 .f32 := Memref.whole cc0_stg4_0
abbrev acc0 : Memref sig .tc .vmem S4x512x640 .f32 := Memref.whole cc0_scratch0
abbrev sa0 : Memref sig .tc .vmem S4x512x640 .bf16 := Memref.whole cc0_scratch1
abbrev ra0 : Memref sig .tc .vmem S4x512x640 .bf16 := Memref.whole cc0_scratch2
abbrev sb0 : Memref sig .tc .vmem S2x512x640 .bf16 := Memref.whole cc0_scratch3
abbrev rb0 : Memref sig .tc .vmem S2x512x640 .bf16 := Memref.whole cc0_scratch4
abbrev sc0 : Memref sig .tc .vmem S1x512x640 .bf16 := Memref.whole cc0_scratch5
abbrev rc0 : Memref sig .tc .vmem S1x512x640 .bf16 := Memref.whole cc0_scratch6
abbrev acc1 : Memref sig .tc .vmem S4x512x640 .f32 := Memref.whole cc0_scratch9
abbrev sa1 : Memref sig .tc .vmem S4x512x640 .bf16 := Memref.whole cc0_scratch10
abbrev ra1 : Memref sig .tc .vmem S4x512x640 .bf16 := Memref.whole cc0_scratch11
abbrev sb1 : Memref sig .tc .vmem S2x512x640 .bf16 := Memref.whole cc0_scratch12
abbrev rb1 : Memref sig .tc .vmem S2x512x640 .bf16 := Memref.whole cc0_scratch13
abbrev sc1 : Memref sig .tc .vmem S1x512x640 .bf16 := Memref.whole cc0_scratch14
abbrev rc1 : Memref sig .tc .vmem S1x512x640 .bf16 := Memref.whole cc0_scratch15
abbrev acc2 : Memref sig .tc .vmem S4x512x768 .f32 := Memref.whole cc0_scratch18
abbrev sa2 : Memref sig .tc .vmem S4x512x768 .bf16 := Memref.whole cc0_scratch19
abbrev ra2 : Memref sig .tc .vmem S4x512x768 .bf16 := Memref.whole cc0_scratch20
abbrev sb2 : Memref sig .tc .vmem S2x512x768 .bf16 := Memref.whole cc0_scratch21
abbrev rb2 : Memref sig .tc .vmem S2x512x768 .bf16 := Memref.whole cc0_scratch22
abbrev sc2 : Memref sig .tc .vmem S1x512x768 .bf16 := Memref.whole cc0_scratch23
abbrev rc2 : Memref sig .tc .vmem S1x512x768 .bf16 := Memref.whole cc0_scratch24

/-- Eight rows' block of `x`: the 512 rows from `off 0`. -/
def xRd (c : Dev nD) (off : Fin 2 → Nat) (h : ∀ a, off a + S512x512.size a ≤ S4096x512.size a) : Vec F S512x512 .fp8e5m2 :=
  xM.view.readAt (Elt F) (Rect.unit (s := S4096x512) off S512x512.size h).toLoadRect (xstg m c)
/-- The columns 0 to 640 of `w`. -/
def wRd0 (c : Dev nD) : Vec F S512x640 .fp8e5m2 :=
  wM.view.readAt (Elt F) (Rect.unit (s := S512x2048) ![0, 0] S512x640.size inb_S512x2048_S512x640_0_0).toLoadRect (wstg m c)
/-- Those columns, converted. -/
def wv0 (c : Dev nD) : FVec F S512x640 .bf16 := k0_pay2 (wRd0 m c)
/-- The columns 640 to 1280 of `w`. -/
def wRd1 (c : Dev nD) : Vec F S512x640 .fp8e5m2 :=
  wM.view.readAt (Elt F) (Rect.unit (s := S512x2048) ![0, 640] S512x640.size inb_S512x2048_S512x640_0_640).toLoadRect (wstg m c)
/-- Those columns, converted. -/
def wv1 (c : Dev nD) : FVec F S512x640 .bf16 := k0_pay3 (wRd1 m c)
/-- The columns 1280 to 2048 of `w`. -/
def wRd2 (c : Dev nD) : Vec F S512x768 .fp8e5m2 :=
  wM.view.readAt (Elt F) (Rect.unit (s := S512x2048) ![0, 1280] S512x768.size inb_S512x2048_S512x768_0_1280).toLoadRect (wstg m c)
/-- Those columns, converted. -/
def wv2 (c : Dev nD) : FVec F S512x768 .bf16 := k0_pay4 (wRd2 m c)

/-! ## The slabs each device computes: to send (`p1`) and to keep (`p0`) -/
/-- Group 0, slab 0 sent in stage 1. -/
def p1_00 (c : Dev nD) : FVec F S1x512x640 .bf16 := k0_pay5 (wRd0 m c) (xRd m c (k0_off1 c 0#32 0#32) (k0_off1_inb c 0))
/-- Group 0, slab 1 sent in stage 1. -/
def p1_01 (c : Dev nD) : FVec F S1x512x640 .bf16 := k0_pay6 (wv0 m c) (xRd m c (k0_off1 c 1#32 0#32) (k0_off1_inb c 1))
/-- Group 0, slab 2 sent in stage 1. -/
def p1_02 (c : Dev nD) : FVec F S1x512x640 .bf16 := k0_pay7 (wv0 m c) (xRd m c (k0_off1 c 0#32 3#32) (k0_off1_inb c 2))
/-- Group 0, slab 3 sent in stage 1. -/
def p1_03 (c : Dev nD) : FVec F S1x512x640 .bf16 := k0_pay8 (wv0 m c) (xRd m c (k0_off1 c 1#32 1#32) (k0_off1_inb c 3))
/-- Group 0, slab 0 kept. -/
def p0_00 (c : Dev nD) : FVec F S1x512x640 .f32 := k0_pay19 (k0_pay18 (wv0 m c) (xRd m c (k0_off4 c 0#32 0#32) (k0_off4_inb c 0)))
/-- Group 0, slab 1 kept. -/
def p0_01 (c : Dev nD) : FVec F S1x512x640 .f32 := k0_pay20 (wv0 m c) (xRd m c (k0_off4 c 1#32 0#32) (k0_off4_inb c 1))
/-- Group 0, slab 2 kept. -/
def p0_02 (c : Dev nD) : FVec F S1x512x640 .f32 := k0_pay21 (wv0 m c) (xRd m c (k0_off4 c 0#32 3#32) (k0_off4_inb c 2))
/-- Group 0, slab 3 kept. -/
def p0_03 (c : Dev nD) : FVec F S1x512x640 .f32 := k0_pay22 (wv0 m c) (xRd m c (k0_off4 c 1#32 1#32) (k0_off4_inb c 3))
/-- Group 1, slab 0 sent in stage 1. -/
def p1_10 (c : Dev nD) : FVec F S1x512x640 .bf16 := k0_pay9 (wv1 m c) (xRd m c (k0_off2 c 0#32 3#32) (k0_off2_inb c 0))
/-- Group 1, slab 1 sent in stage 1. -/
def p1_11 (c : Dev nD) : FVec F S1x512x640 .bf16 := k0_pay10 (wv1 m c) (xRd m c (k0_off2 c 4#32 3#32) (k0_off2_inb c 1))
/-- Group 1, slab 2 sent in stage 1. -/
def p1_12 (c : Dev nD) : FVec F S1x512x640 .bf16 := k0_pay11 (wv1 m c) (xRd m c (k0_off2 c 1#32 1#32) (k0_off2_inb c 2))
/-- Group 1, slab 3 sent in stage 1. -/
def p1_13 (c : Dev nD) : FVec F S1x512x640 .bf16 := k0_pay13 (wv1 m c) (k0_pay12 (xRd m c (k0_off2 c 5#32 1#32) (k0_off2_inb c 3))) (constant S512x640 .f32 0x00000000#32)
/-- Group 1, slab 0 kept. -/
def p0_10 (c : Dev nD) : FVec F S1x512x640 .f32 := k0_pay23 (wv1 m c) (xRd m c (k0_off5 c 0#32 3#32) (k0_off5_inb c 0))
/-- Group 1, slab 1 kept. -/
def p0_11 (c : Dev nD) : FVec F S1x512x640 .f32 := k0_pay24 (wv1 m c) (xRd m c (k0_off5 c 4#32 3#32) (k0_off5_inb c 1))
/-- Group 1, slab 2 kept. -/
def p0_12 (c : Dev nD) : FVec F S1x512x640 .f32 := k0_pay25 (wv1 m c) (xRd m c (k0_off5 c 1#32 1#32) (k0_off5_inb c 2))
/-- Group 1, slab 3 kept. -/
def p0_13 (c : Dev nD) : FVec F S1x512x640 .f32 := k0_pay26 (wv1 m c) (xRd m c (k0_off5 c 5#32 1#32) (k0_off5_inb c 3))
/-- Group 2, slab 0 sent in stage 1. -/
def p1_20 (c : Dev nD) : FVec F S1x512x768 .bf16 := k0_pay14 (wv2 m c) (xRd m c (k0_off3 c 0#32 0#32) (k0_off3_inb c 0 0))
/-- Group 2, slab 1 sent in stage 1. -/
def p1_21 (c : Dev nD) : FVec F S1x512x768 .bf16 := k0_pay15 (wv2 m c) (xRd m c (k0_off3 c 0#32 1#32) (k0_off3_inb c 0 1))
/-- Group 2, slab 2 sent in stage 1. -/
def p1_22 (c : Dev nD) : FVec F S1x512x768 .bf16 := k0_pay16 (wv2 m c) (xRd m c (k0_off3 c 4#32 0#32) (k0_off3_inb c 1 0))
/-- Group 2, slab 3 sent in stage 1. -/
def p1_23 (c : Dev nD) : FVec F S1x512x768 .bf16 := k0_pay17 (wv2 m c) (xRd m c (k0_off3 c 4#32 1#32) (k0_off3_inb c 1 1))
/-- Group 2, slab 0 kept. -/
def p0_20 (c : Dev nD) : FVec F S1x512x768 .f32 := k0_pay27 (wv2 m c) (xRd m c (k0_off6 c 0#32 0#32) (k0_off6_inb c 0 0))
/-- Group 2, slab 1 kept. -/
def p0_21 (c : Dev nD) : FVec F S1x512x768 .f32 := k0_pay28 (wv2 m c) (xRd m c (k0_off6 c 0#32 1#32) (k0_off6_inb c 0 1))
/-- Group 2, slab 2 kept. -/
def p0_22 (c : Dev nD) : FVec F S1x512x768 .f32 := k0_pay29 (wv2 m c) (xRd m c (k0_off6 c 4#32 0#32) (k0_off6_inb c 1 0))
/-- Group 2, slab 3 kept. -/
def p0_23 (c : Dev nD) : FVec F S1x512x768 .f32 := k0_pay30 (wv2 m c) (xRd m c (k0_off6 c 4#32 1#32) (k0_off6_inb c 1 1))

/-! ## The buffers, stage by stage -/
/-- The writes that fill the four slabs of group 0, the last first. -/
abbrev L1_0 (c : Dev nD) : List (View.Piece (Elt F) S4x512x640 .bf16) :=
  [⟨Rect.unit (s := S4x512x640) ![3, 0, 0] S1x512x640.size inb_S4x512x640_S1x512x640_3_0_0, p1_03 m c⟩,
   ⟨Rect.unit (s := S4x512x640) ![2, 0, 0] S1x512x640.size inb_S4x512x640_S1x512x640_2_0_0, p1_02 m c⟩,
   ⟨Rect.unit (s := S4x512x640) ![1, 0, 0] S1x512x640.size inb_S4x512x640_S1x512x640_1_0_0, p1_01 m c⟩,
   ⟨Rect.unit (s := S4x512x640) ![0, 0, 0] S1x512x640.size inb_S4x512x640_S1x512x640_0_0_0, p1_00 m c⟩]
def S1_0 (c : Dev nD) : FVec F S4x512x640 .bf16 := sa0.view.writes (Elt F) sa0.view.junk (L1_0 m c)
/-- The writes that fill the four slabs of group 0, the last first. -/
abbrev L0_0 (c : Dev nD) : List (View.Piece (Elt F) S4x512x640 .f32) :=
  [⟨Rect.unit (s := S4x512x640) ![3, 0, 0] S1x512x640.size inb_S4x512x640_S1x512x640_3_0_0, p0_03 m c⟩,
   ⟨Rect.unit (s := S4x512x640) ![2, 0, 0] S1x512x640.size inb_S4x512x640_S1x512x640_2_0_0, p0_02 m c⟩,
   ⟨Rect.unit (s := S4x512x640) ![1, 0, 0] S1x512x640.size inb_S4x512x640_S1x512x640_1_0_0, p0_01 m c⟩,
   ⟨Rect.unit (s := S4x512x640) ![0, 0, 0] S1x512x640.size inb_S4x512x640_S1x512x640_0_0_0, p0_00 m c⟩]
def A0_0 (c : Dev nD) : FVec F S4x512x640 .f32 := acc0.view.writes (Elt F) acc0.view.junk (L0_0 m c)
/-- The kept slabs of group 0 plus the slabs its stage-1 partner sent. -/
def A1_0 (c : Dev nD) : FVec F S4x512x640 .f32 := k0_pay31 (A0_0 m c) (S1_0 m (pt 2 c))
/-- The two slabs of group 0 sent in stage 2. -/
def S2_0 (c : Dev nD) : FVec F S2x512x640 .bf16 := k0_pay35 (k0_pay34 (acc0.view.readAt (Elt F) (Rect.unit (s := S4x512x640) (k0_off7 c) S2x512x640.size (k0_off7_inb c)).toLoadRect (A1_0 m c)))
/-- What stage 2 leaves in the two slabs it updates. -/
def p2_0 (c : Dev nD) : FVec F S2x512x640 .f32 :=
  k0_pay38 (acc0.view.readAt (Elt F) (Rect.unit (s := S4x512x640) (k0_off10 c) S2x512x640.size (k0_off10_inb c)).toLoadRect (A1_0 m c)) (S2_0 m (pt 1 c))
/-- The four slabs of group 0 after stage 2. -/
def A2_0 (c : Dev nD) : FVec F S4x512x640 .f32 := acc0.view.writes (Elt F) (A1_0 m c) [⟨(Rect.unit (s := S4x512x640) (k0_off10 c) S2x512x640.size (k0_off10_inb c)), p2_0 m c⟩]
/-- The slab of group 0 sent in stage 3. -/
def S3_0 (c : Dev nD) : FVec F S1x512x640 .bf16 :=
  k0_pay41 (acc0.view.readAt (Elt F) (Rect.unit (s := S4x512x640) (k0_off13 c) S1x512x640.size (k0_off13_inb c)).toLoadRect (A2_0 m c))
/-- The slab of group 0 that stays with device `c`. -/
def fin0 (c : Dev nD) : FVec F S1x512x640 .f32 :=
  acc0.view.readAt (Elt F) (Rect.unit (s := S4x512x640) (k0_off16 c) S1x512x640.size (k0_off16_inb c)).toLoadRect (A2_0 m c)
/-- The writes that fill the four slabs of group 1, the last first. -/
abbrev L1_1 (c : Dev nD) : List (View.Piece (Elt F) S4x512x640 .bf16) :=
  [⟨Rect.unit (s := S4x512x640) ![3, 0, 0] S1x512x640.size inb_S4x512x640_S1x512x640_3_0_0, p1_13 m c⟩,
   ⟨Rect.unit (s := S4x512x640) ![2, 0, 0] S1x512x640.size inb_S4x512x640_S1x512x640_2_0_0, p1_12 m c⟩,
   ⟨Rect.unit (s := S4x512x640) ![1, 0, 0] S1x512x640.size inb_S4x512x640_S1x512x640_1_0_0, p1_11 m c⟩,
   ⟨Rect.unit (s := S4x512x640) ![0, 0, 0] S1x512x640.size inb_S4x512x640_S1x512x640_0_0_0, p1_10 m c⟩]
def S1_1 (c : Dev nD) : FVec F S4x512x640 .bf16 := sa1.view.writes (Elt F) sa1.view.junk (L1_1 m c)
/-- The writes that fill the four slabs of group 1, the last first. -/
abbrev L0_1 (c : Dev nD) : List (View.Piece (Elt F) S4x512x640 .f32) :=
  [⟨Rect.unit (s := S4x512x640) ![3, 0, 0] S1x512x640.size inb_S4x512x640_S1x512x640_3_0_0, p0_13 m c⟩,
   ⟨Rect.unit (s := S4x512x640) ![2, 0, 0] S1x512x640.size inb_S4x512x640_S1x512x640_2_0_0, p0_12 m c⟩,
   ⟨Rect.unit (s := S4x512x640) ![1, 0, 0] S1x512x640.size inb_S4x512x640_S1x512x640_1_0_0, p0_11 m c⟩,
   ⟨Rect.unit (s := S4x512x640) ![0, 0, 0] S1x512x640.size inb_S4x512x640_S1x512x640_0_0_0, p0_10 m c⟩]
def A0_1 (c : Dev nD) : FVec F S4x512x640 .f32 := acc1.view.writes (Elt F) acc1.view.junk (L0_1 m c)
/-- The kept slabs of group 1 plus the slabs its stage-1 partner sent. -/
def A1_1 (c : Dev nD) : FVec F S4x512x640 .f32 := k0_pay32 (A0_1 m c) (S1_1 m (pt 1 c))
/-- The two slabs of group 1 sent in stage 2. -/
def S2_1 (c : Dev nD) : FVec F S2x512x640 .bf16 := k0_pay36 (acc1.view.readAt (Elt F) (Rect.unit (s := S4x512x640) (k0_off8 c) S2x512x640.size (k0_off8_inb c)).toLoadRect (A1_1 m c))
/-- What stage 2 leaves in the two slabs it updates. -/
def p2_1 (c : Dev nD) : FVec F S2x512x640 .f32 :=
  k0_pay39 (acc1.view.readAt (Elt F) (Rect.unit (s := S4x512x640) (k0_off11 c) S2x512x640.size (k0_off11_inb c)).toLoadRect (A1_1 m c)) (S2_1 m (pt 0 c))
/-- The four slabs of group 1 after stage 2. -/
def A2_1 (c : Dev nD) : FVec F S4x512x640 .f32 := acc1.view.writes (Elt F) (A1_1 m c) [⟨(Rect.unit (s := S4x512x640) (k0_off11 c) S2x512x640.size (k0_off11_inb c)), p2_1 m c⟩]
/-- The slab of group 1 sent in stage 3. -/
def S3_1 (c : Dev nD) : FVec F S1x512x640 .bf16 :=
  k0_pay42 (acc1.view.readAt (Elt F) (Rect.unit (s := S4x512x640) (k0_off14 c) S1x512x640.size (k0_off14_inb c)).toLoadRect (A2_1 m c))
/-- The slab of group 1 that stays with device `c`. -/
def fin1 (c : Dev nD) : FVec F S1x512x640 .f32 :=
  acc1.view.readAt (Elt F) (Rect.unit (s := S4x512x640) (k0_off17 c) S1x512x640.size (k0_off17_inb c)).toLoadRect (A2_1 m c)
/-- The writes that fill the four slabs of group 2, the last first. -/
abbrev L1_2 (c : Dev nD) : List (View.Piece (Elt F) S4x512x768 .bf16) :=
  [⟨Rect.unit (s := S4x512x768) ![3, 0, 0] S1x512x768.size inb_S4x512x768_S1x512x768_3_0_0, p1_23 m c⟩,
   ⟨Rect.unit (s := S4x512x768) ![2, 0, 0] S1x512x768.size inb_S4x512x768_S1x512x768_2_0_0, p1_22 m c⟩,
   ⟨Rect.unit (s := S4x512x768) ![1, 0, 0] S1x512x768.size inb_S4x512x768_S1x512x768_1_0_0, p1_21 m c⟩,
   ⟨Rect.unit (s := S4x512x768) ![0, 0, 0] S1x512x768.size inb_S4x512x768_S1x512x768_0_0_0, p1_20 m c⟩]
def S1_2 (c : Dev nD) : FVec F S4x512x768 .bf16 := sa2.view.writes (Elt F) sa2.view.junk (L1_2 m c)
/-- The writes that fill the four slabs of group 2, the last first. -/
abbrev L0_2 (c : Dev nD) : List (View.Piece (Elt F) S4x512x768 .f32) :=
  [⟨Rect.unit (s := S4x512x768) ![3, 0, 0] S1x512x768.size inb_S4x512x768_S1x512x768_3_0_0, p0_23 m c⟩,
   ⟨Rect.unit (s := S4x512x768) ![2, 0, 0] S1x512x768.size inb_S4x512x768_S1x512x768_2_0_0, p0_22 m c⟩,
   ⟨Rect.unit (s := S4x512x768) ![1, 0, 0] S1x512x768.size inb_S4x512x768_S1x512x768_1_0_0, p0_21 m c⟩,
   ⟨Rect.unit (s := S4x512x768) ![0, 0, 0] S1x512x768.size inb_S4x512x768_S1x512x768_0_0_0, p0_20 m c⟩]
def A0_2 (c : Dev nD) : FVec F S4x512x768 .f32 := acc2.view.writes (Elt F) acc2.view.junk (L0_2 m c)
/-- The kept slabs of group 2 plus the slabs its stage-1 partner sent. -/
def A1_2 (c : Dev nD) : FVec F S4x512x768 .f32 := k0_pay33 (A0_2 m c) (S1_2 m (pt 0 c))
/-- The two slabs of group 2 sent in stage 2. -/
def S2_2 (c : Dev nD) : FVec F S2x512x768 .bf16 := k0_pay37 (acc2.view.readAt (Elt F) (Rect.unit (s := S4x512x768) (k0_off9 c) S2x512x768.size (k0_off9_inb c)).toLoadRect (A1_2 m c))
/-- What stage 2 leaves in the two slabs it updates. -/
def p2_2 (c : Dev nD) : FVec F S2x512x768 .f32 :=
  k0_pay40 (acc2.view.readAt (Elt F) (Rect.unit (s := S4x512x768) (k0_off12 c) S2x512x768.size (k0_off12_inb c)).toLoadRect (A1_2 m c)) (S2_2 m (pt 2 c))
/-- The four slabs of group 2 after stage 2. -/
def A2_2 (c : Dev nD) : FVec F S4x512x768 .f32 := acc2.view.writes (Elt F) (A1_2 m c) [⟨(Rect.unit (s := S4x512x768) (k0_off12 c) S2x512x768.size (k0_off12_inb c)), p2_2 m c⟩]
/-- The slab of group 2 sent in stage 3. -/
def S3_2 (c : Dev nD) : FVec F S1x512x768 .bf16 :=
  k0_pay43 (acc2.view.readAt (Elt F) (Rect.unit (s := S4x512x768) (k0_off15 c) S1x512x768.size (k0_off15_inb c)).toLoadRect (A2_2 m c))
/-- The slab of group 2 that stays with device `c`. -/
def fin2 (c : Dev nD) : FVec F S1x512x768 .f32 :=
  acc2.view.readAt (Elt F) (Rect.unit (s := S4x512x768) (k0_off18 c) S1x512x768.size (k0_off18_inb c)).toLoadRect (A2_2 m c)

/-! ## The result -/

/-- The two scales as the body reads them, and their product. -/
def sxv (c : Dev nD) : Elt F .f32 := (sxM.view.readAt (Elt F) (Rect.unit (s := S1) ![0] S1.size inb_S1_S1_0).toLoadRect (sxstg m c)) (Shape.Idx.first (numel1_S1.symm ▸ Nat.one_pos))
def swv (c : Dev nD) : Elt F .f32 := (swM.view.readAt (Elt F) (Rect.unit (s := S1) ![0] S1.size inb_S1_S1_0).toLoadRect (swstg m c)) (Shape.Idx.first (numel1_S1.symm ▸ Nat.one_pos))
def scv (c : Dev nD) : F .f32 := k0_pay44 (sxv m c) (swv m c)

/-- The three column blocks of device `c`'s block of the result. -/
def o0 (c : Dev nD) : FVec F S512x640 .f32 :=
  k0_pay47 (k0_pay45 (sxv m c) (swv m c) (fin0 m c) (S3_0 m (pt 0 c))) (k0_pay46 (sxv m c) (swv m c) (fin0 m c) (S3_0 m (pt 0 c)))
def o1 (c : Dev nD) : FVec F S512x640 .f32 := k0_pay48 (scv m c) (fin1 m c) (S3_1 m (pt 2 c))
def o2 (c : Dev nD) : FVec F S512x768 .f32 := k0_pay1 (scv m c) (fin2 m c) (S3_2 m (pt 1 c))
abbrev LO (c : Dev nD) : List (View.Piece (Elt F) S512x2048 .f32) :=
  [⟨Rect.unit (s := S512x2048) ![0, 1280] S512x768.size inb_S512x2048_S512x768_0_1280, o2 m c⟩,
   ⟨Rect.unit (s := S512x2048) ![0, 640] S512x640.size inb_S512x2048_S512x640_0_640, o1 m c⟩,
   ⟨Rect.unit (s := S512x2048) ![0, 0] S512x640.size inb_S512x2048_S512x640_0_0, o0 m c⟩]
/-- Device `c`'s block of the result. -/
def outC (c : Dev nD) : FVec F S512x2048 .f32 := oM.view.writes (Elt F) oM.view.junk (LO m c)

/-! ## Buffers written whole hold the writes whatever they held before -/

omit [FloatOps F] in
theorem writes_whole_of_cover (b : Ref sig .tc) (f f' : b.ty.Contents (Elt F)) (L : List (View.Piece (Elt F) b.ty.shape b.ty.elt))
    (h : ∀ y, ∃ p ∈ L, y ∈ p.1.set) : (View.whole b).writes (Elt F) f L = (View.whole b).writes (Elt F) f' L := by
  have := View.read_writes_of_cover (View.whole b) f (View.whole b) f' L h
  rwa [View.read_whole, View.read_whole] at this
theorem S1_0_cover (c : Dev nD) (y : S4x512x640.Idx) : ∃ p ∈ L1_0 m c, y ∈ p.1.set :=
  View.cover_of_tiled (s := S4x512x640) (L1_0 m c) S1x512x640.size (by rfl) y
theorem S1_0_eq (c : Dev nD) (f) : sa0.view.writes (Elt F) f (L1_0 m c) = S1_0 m c :=
  writes_whole_of_cover cc0_scratch1 f _ (L1_0 m c) (S1_0_cover m c)
theorem A0_0_cover (c : Dev nD) (y : S4x512x640.Idx) : ∃ p ∈ L0_0 m c, y ∈ p.1.set :=
  View.cover_of_tiled (s := S4x512x640) (L0_0 m c) S1x512x640.size (by rfl) y
theorem A0_0_eq (c : Dev nD) (f) : acc0.view.writes (Elt F) f (L0_0 m c) = A0_0 m c :=
  writes_whole_of_cover cc0_scratch0 f _ (L0_0 m c) (A0_0_cover m c)
theorem S1_1_cover (c : Dev nD) (y : S4x512x640.Idx) : ∃ p ∈ L1_1 m c, y ∈ p.1.set :=
  View.cover_of_tiled (s := S4x512x640) (L1_1 m c) S1x512x640.size (by rfl) y
theorem S1_1_eq (c : Dev nD) (f) : sa1.view.writes (Elt F) f (L1_1 m c) = S1_1 m c :=
  writes_whole_of_cover cc0_scratch10 f _ (L1_1 m c) (S1_1_cover m c)
theorem A0_1_cover (c : Dev nD) (y : S4x512x640.Idx) : ∃ p ∈ L0_1 m c, y ∈ p.1.set :=
  View.cover_of_tiled (s := S4x512x640) (L0_1 m c) S1x512x640.size (by rfl) y
theorem A0_1_eq (c : Dev nD) (f) : acc1.view.writes (Elt F) f (L0_1 m c) = A0_1 m c :=
  writes_whole_of_cover cc0_scratch9 f _ (L0_1 m c) (A0_1_cover m c)
theorem S1_2_cover (c : Dev nD) (y : S4x512x768.Idx) : ∃ p ∈ L1_2 m c, y ∈ p.1.set :=
  View.cover_of_tiled (s := S4x512x768) (L1_2 m c) S1x512x768.size (by rfl) y
theorem S1_2_eq (c : Dev nD) (f) : sa2.view.writes (Elt F) f (L1_2 m c) = S1_2 m c :=
  writes_whole_of_cover cc0_scratch19 f _ (L1_2 m c) (S1_2_cover m c)
theorem A0_2_cover (c : Dev nD) (y : S4x512x768.Idx) : ∃ p ∈ L0_2 m c, y ∈ p.1.set :=
  View.cover_of_tiled (s := S4x512x768) (L0_2 m c) S1x512x768.size (by rfl) y
theorem A0_2_eq (c : Dev nD) (f) : acc2.view.writes (Elt F) f (L0_2 m c) = A0_2 m c :=
  writes_whole_of_cover cc0_scratch18 f _ (L0_2 m c) (A0_2_cover m c)

theorem col_cover (c : Dev nD) (y : S512x2048.Idx) : ∃ p ∈ LO m c, y ∈ p.1.set := by
  have hy : (y 1).val < 2048 := (y 1).isLt
  have hy0 : (y 0).val < 512 := (y 0).isLt
  by_cases h1 : (y 1).val < 640
  · refine ⟨_, .tail _ (.tail _ (.head _)), ?_⟩
    rw [Rect.mem_set_unit]; intro a
    fin_cases a
    · exact ⟨Nat.zero_le _, by show (y 0).val < 0 + 512; omega⟩
    · exact ⟨Nat.zero_le _, by show (y 1).val < 0 + 640; omega⟩
  by_cases h2 : (y 1).val < 1280
  · refine ⟨_, .tail _ (.head _), ?_⟩
    rw [Rect.mem_set_unit]; intro a
    fin_cases a
    · exact ⟨Nat.zero_le _, by show (y 0).val < 0 + 512; omega⟩
    · exact ⟨by show 640 ≤ (y 1).val; omega, by show (y 1).val < 640 + 640; omega⟩
  · refine ⟨_, .head _, ?_⟩
    rw [Rect.mem_set_unit]; intro a
    fin_cases a
    · exact ⟨Nat.zero_le _, by show (y 0).val < 0 + 512; omega⟩
    · exact ⟨by show 1280 ≤ (y 1).val; omega, by show (y 1).val < 1280 + 768; omega⟩
theorem outC_eq (c : Dev nD) (f) : oM.view.writes (Elt F) f (LO m c) = outC m c :=
  writes_whole_of_cover cc0_stg4_0 f _ (LO m c) (col_cover m c)

end Cert.KernelIdeal.Pf

end
-- ==== Proof.KiProto.lean ====
/-
# The exchange protocol

Each device meets three partners, one across each axis of the cube (`pt`). On its barrier semaphore it is told once by each
partner; the telling hands over the three landing buffers that the told device will fill on the teller. Transfer `i = 3 s + g`
(stage `s`, column group `g`) crosses axis `axT i`: it copies the send buffer of the device to the landing buffer of the
partner, adds its credit to the sender's send semaphore `i` (with it the send buffer comes back) and to the partner's receive
semaphore `i` (with it the partner gets its landing buffer, holding what was sent).
-/
module

public import proofs.«01_k».proof.Proof.KiVals
public import Idealize.ShloMosaic.Lib.Pipeline.Launch
public import Idealize.ShloMosaic.Lib.Pipeline.Kit
public import Idealize.ShloMosaic.Lib.Rounds
public import Idealize.ShloMosaic.Lib.Tactic

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's, and that of the exchange, whose duties are numbered by axes. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

/-- The barrier semaphore. -/
abbrev barS : Sem sig := (SemArray.scalar (sig.barrier 0 rfl) : Sems sig S_).sem
/-- The semaphore on which transfer `i` reports to its sender. -/
def sendS : Fin 9 → DmaSem sig
  | 0 => ((cc0_scratch7.slice (Rect.unit (s := S3) ![0] S1.size inb_S3_S1_0)).squeeze S_ squeezes_S1_S_).sem
  | 1 => ((cc0_scratch16.slice (Rect.unit (s := S3) ![0] S1.size inb_S3_S1_0)).squeeze S_ squeezes_S1_S_).sem
  | 2 => ((cc0_scratch25.slice (Rect.unit (s := S3) ![0] S1.size inb_S3_S1_0)).squeeze S_ squeezes_S1_S_).sem
  | 3 => ((cc0_scratch7.slice (Rect.unit (s := S3) ![1] S1.size inb_S3_S1_1)).squeeze S_ squeezes_S1_S_).sem
  | 4 => ((cc0_scratch16.slice (Rect.unit (s := S3) ![1] S1.size inb_S3_S1_1)).squeeze S_ squeezes_S1_S_).sem
  | 5 => ((cc0_scratch25.slice (Rect.unit (s := S3) ![1] S1.size inb_S3_S1_1)).squeeze S_ squeezes_S1_S_).sem
  | 6 => ((cc0_scratch7.slice (Rect.unit (s := S3) ![2] S1.size inb_S3_S1_2)).squeeze S_ squeezes_S1_S_).sem
  | 7 => ((cc0_scratch16.slice (Rect.unit (s := S3) ![2] S1.size inb_S3_S1_2)).squeeze S_ squeezes_S1_S_).sem
  | 8 => ((cc0_scratch25.slice (Rect.unit (s := S3) ![2] S1.size inb_S3_S1_2)).squeeze S_ squeezes_S1_S_).sem
/-- The semaphore on which transfer `i` reports to its receiver. -/
def recvS : Fin 9 → DmaSem sig
  | 0 => ((cc0_scratch8.slice (Rect.unit (s := S3) ![0] S1.size inb_S3_S1_0)).squeeze S_ squeezes_S1_S_).sem
  | 1 => ((cc0_scratch17.slice (Rect.unit (s := S3) ![0] S1.size inb_S3_S1_0)).squeeze S_ squeezes_S1_S_).sem
  | 2 => ((cc0_scratch26.slice (Rect.unit (s := S3) ![0] S1.size inb_S3_S1_0)).squeeze S_ squeezes_S1_S_).sem
  | 3 => ((cc0_scratch8.slice (Rect.unit (s := S3) ![1] S1.size inb_S3_S1_1)).squeeze S_ squeezes_S1_S_).sem
  | 4 => ((cc0_scratch17.slice (Rect.unit (s := S3) ![1] S1.size inb_S3_S1_1)).squeeze S_ squeezes_S1_S_).sem
  | 5 => ((cc0_scratch26.slice (Rect.unit (s := S3) ![1] S1.size inb_S3_S1_1)).squeeze S_ squeezes_S1_S_).sem
  | 6 => ((cc0_scratch8.slice (Rect.unit (s := S3) ![2] S1.size inb_S3_S1_2)).squeeze S_ squeezes_S1_S_).sem
  | 7 => ((cc0_scratch17.slice (Rect.unit (s := S3) ![2] S1.size inb_S3_S1_2)).squeeze S_ squeezes_S1_S_).sem
  | 8 => ((cc0_scratch26.slice (Rect.unit (s := S3) ![2] S1.size inb_S3_S1_2)).squeeze S_ squeezes_S1_S_).sem

/-- The kernel's own semaphores: those that report to senders (`false`) and to receivers (`true`); -/
abbrev CI : Type := Bool × Fin 9
def osem (k : CI) : SemLoc sig := .dma (if k.1 then recvS k.2 else sendS k.2)
/-- and with the barrier semaphore (`none`). -/
def csem : Option CI → SemLoc sig
  | none => .reg barS
  | some k => osem k
def kcell (ck : Dev nD × Option CI) : GSem nD τ sig := ((ck.1 : Thread nD τ), csem ck.2)
abbrev barCell (c : Dev nD) : GSem nD τ sig := ((c : Thread nD τ), .reg barS)
abbrev sendCell (i : Fin 9) (c : Dev nD) : GSem nD τ sig := ((c : Thread nD τ), .dma (sendS i))
abbrev recvCell (i : Fin 9) (c : Dev nD) : GSem nD τ sig := ((c : Thread nD τ), .dma (recvS i))

theorem csem_injective : Function.Injective csem := by
  have h : ∀ a b : CI, osem a = osem b → a = b := by decide +kernel
  rintro (_ | a) (_ | b) e
  · rfl
  · exact absurd e (fun h => by cases h)
  · exact absurd e (fun h => by cases h)
  · exact congrArg some (h a b e)

theorem kcell_injective : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Which of the semaphores above a semaphore is. -/
def dec (s : SemLoc sig) : Option (Option CI) := Function.partialInv csem s
theorem dec_csem (k : Option CI) : dec (csem k) = some k := Function.partialInv_left csem_injective k
theorem csem_of_dec {s : SemLoc sig} {k : Option CI} (h : dec s = some k) : csem k = s :=
  (Function.partialInv_of_injective csem_injective k s).mp h
theorem dec_bar : dec (.reg barS) = some none := dec_csem none
theorem dec_send (i : Fin 9) : dec (.dma (sendS i)) = some (some (false, i)) := dec_csem (some (false, i))
theorem dec_recv (i : Fin 9) : dec (.dma (recvS i)) = some (some (true, i)) := dec_csem (some (true, i))

/-! ## The transfers -/

/-- The axis transfer `i` crosses. -/
def axT : Fin 9 → Fin 3
  | 0 => 2
  | 1 => 1
  | 2 => 0
  | 3 => 1
  | 4 => 0
  | 5 => 2
  | 6 => 0
  | 7 => 2
  | 8 => 1
/-- The credit of transfer `i`. -/
def Nc : Fin 9 → ℕ
  | 0 => ra0.view.dmaCredit
  | 1 => ra1.view.dmaCredit
  | 2 => ra2.view.dmaCredit
  | 3 => rb0.view.dmaCredit
  | 4 => rb1.view.dmaCredit
  | 5 => rb2.view.dmaCredit
  | 6 => rc0.view.dmaCredit
  | 7 => rc1.view.dmaCredit
  | 8 => rc2.view.dmaCredit

theorem Nc_pos (i : Fin 9) : 0 < Nc i := by
  fin_cases i <;> exact View.dmaCredit_pos _ (by decide)
/-- The send buffer `i` of device `c`, whatever it holds. -/
def sendPay (i : Fin 9) (c : Dev nD) : sProp 𝕄 := match i with
  | 0 => iprop(∃ f, (((c : Thread nD τ).loc cc0_scratch1) ↦{fullShare} f : sProp 𝕄))
  | 1 => iprop(∃ f, (((c : Thread nD τ).loc cc0_scratch10) ↦{fullShare} f : sProp 𝕄))
  | 2 => iprop(∃ f, (((c : Thread nD τ).loc cc0_scratch19) ↦{fullShare} f : sProp 𝕄))
  | 3 => iprop(∃ f, (((c : Thread nD τ).loc cc0_scratch3) ↦{fullShare} f : sProp 𝕄))
  | 4 => iprop(∃ f, (((c : Thread nD τ).loc cc0_scratch12) ↦{fullShare} f : sProp 𝕄))
  | 5 => iprop(∃ f, (((c : Thread nD τ).loc cc0_scratch21) ↦{fullShare} f : sProp 𝕄))
  | 6 => iprop(∃ f, (((c : Thread nD τ).loc cc0_scratch5) ↦{fullShare} f : sProp 𝕄))
  | 7 => iprop(∃ f, (((c : Thread nD τ).loc cc0_scratch14) ↦{fullShare} f : sProp 𝕄))
  | 8 => iprop(∃ f, (((c : Thread nD τ).loc cc0_scratch23) ↦{fullShare} f : sProp 𝕄))
/-- The landing buffer `i` of device `c`, whatever it holds. -/
def freePay (i : Fin 9) (c : Dev nD) : sProp 𝕄 := match i with
  | 0 => iprop(∃ f, (((c : Thread nD τ).loc cc0_scratch2) ↦{fullShare} f : sProp 𝕄))
  | 1 => iprop(∃ f, (((c : Thread nD τ).loc cc0_scratch11) ↦{fullShare} f : sProp 𝕄))
  | 2 => iprop(∃ f, (((c : Thread nD τ).loc cc0_scratch20) ↦{fullShare} f : sProp 𝕄))
  | 3 => iprop(∃ f, (((c : Thread nD τ).loc cc0_scratch4) ↦{fullShare} f : sProp 𝕄))
  | 4 => iprop(∃ f, (((c : Thread nD τ).loc cc0_scratch13) ↦{fullShare} f : sProp 𝕄))
  | 5 => iprop(∃ f, (((c : Thread nD τ).loc cc0_scratch22) ↦{fullShare} f : sProp 𝕄))
  | 6 => iprop(∃ f, (((c : Thread nD τ).loc cc0_scratch6) ↦{fullShare} f : sProp 𝕄))
  | 7 => iprop(∃ f, (((c : Thread nD τ).loc cc0_scratch15) ↦{fullShare} f : sProp 𝕄))
  | 8 => iprop(∃ f, (((c : Thread nD τ).loc cc0_scratch24) ↦{fullShare} f : sProp 𝕄))
/-- The landing buffer `i` of device `c` holding what its partner sent. -/
def recvPay (i : Fin 9) (c : Dev nD) : sProp 𝕄 := match i with
  | 0 => (((c : Thread nD τ).loc cc0_scratch2) ↦{fullShare} (S1_0 m (pt 2 c) : (cc0_scratch2 : Ref sig .tc).ty.Contents (Elt F)) : sProp 𝕄)
  | 1 => (((c : Thread nD τ).loc cc0_scratch11) ↦{fullShare} (S1_1 m (pt 1 c) : (cc0_scratch11 : Ref sig .tc).ty.Contents (Elt F)) : sProp 𝕄)
  | 2 => (((c : Thread nD τ).loc cc0_scratch20) ↦{fullShare} (S1_2 m (pt 0 c) : (cc0_scratch20 : Ref sig .tc).ty.Contents (Elt F)) : sProp 𝕄)
  | 3 => (((c : Thread nD τ).loc cc0_scratch4) ↦{fullShare} (S2_0 m (pt 1 c) : (cc0_scratch4 : Ref sig .tc).ty.Contents (Elt F)) : sProp 𝕄)
  | 4 => (((c : Thread nD τ).loc cc0_scratch13) ↦{fullShare} (S2_1 m (pt 0 c) : (cc0_scratch13 : Ref sig .tc).ty.Contents (Elt F)) : sProp 𝕄)
  | 5 => (((c : Thread nD τ).loc cc0_scratch22) ↦{fullShare} (S2_2 m (pt 2 c) : (cc0_scratch22 : Ref sig .tc).ty.Contents (Elt F)) : sProp 𝕄)
  | 6 => (((c : Thread nD τ).loc cc0_scratch6) ↦{fullShare} (S3_0 m (pt 0 c) : (cc0_scratch6 : Ref sig .tc).ty.Contents (Elt F)) : sProp 𝕄)
  | 7 => (((c : Thread nD τ).loc cc0_scratch15) ↦{fullShare} (S3_1 m (pt 2 c) : (cc0_scratch15 : Ref sig .tc).ty.Contents (Elt F)) : sProp 𝕄)
  | 8 => (((c : Thread nD τ).loc cc0_scratch24) ↦{fullShare} (S3_2 m (pt 1 c) : (cc0_scratch24 : Ref sig .tc).ty.Contents (Elt F)) : sProp 𝕄)
/-- What the partner across axis `a` hands device `c`: the three landing buffers that `c` will fill there. -/
def barPay (a : Fin 3) (c : Dev nD) : sProp 𝕄 := match a with
  | 0 => iprop(freePay 2 (pt 0 c) ∗ freePay 4 (pt 0 c) ∗ freePay 6 (pt 0 c))
  | 1 => iprop(freePay 1 (pt 1 c) ∗ freePay 3 (pt 1 c) ∗ freePay 8 (pt 1 c))
  | 2 => iprop(freePay 0 (pt 2 c) ∗ freePay 5 (pt 2 c) ∗ freePay 7 (pt 2 c))

omit [FloatOps F] in
instance sendPay_storable (i : Fin 9) (c : Dev nD) : BI.Storable (upEmb : UEmb _ 𝕄) (sendPay (F := F) i c) := by
  fin_cases i <;> (dsimp only [sendPay]; infer_instance)
omit [FloatOps F] in
instance freePay_storable (i : Fin 9) (c : Dev nD) : BI.Storable (upEmb : UEmb _ 𝕄) (freePay (F := F) i c) := by
  fin_cases i <;> (dsimp only [freePay]; infer_instance)
instance recvPay_storable (i : Fin 9) (c : Dev nD) : BI.Storable (upEmb : UEmb _ 𝕄) (recvPay (F := F) m i c) := by
  fin_cases i <;> (dsimp only [recvPay]; infer_instance)
omit [FloatOps F] in
instance barPay_storable (a : Fin 3) (c : Dev nD) : BI.Storable (upEmb : UEmb _ 𝕄) (barPay (F := F) a c) := by
  fin_cases a <;> (dsimp only [barPay]; infer_instance)

/-! ## The schedule -/

def dutiesOf : Option (Option CI) → Finset (Fin 3)
  | none => ∅
  | some none => Finset.univ
  | some (some _) => {0}
def amountOf' : Option (Option CI) → ℕ
  | some (some k) => Nc k.2
  | _ => 1
def payloadOf (c : Dev nD) (d : Fin 3) : Option (Option CI) → sProp 𝕄
  | none => iprop(emp)
  | some none => barPay d c
  | some (some (false, i)) => sendPay i c
  | some (some (true, i)) => recvPay m i c

/-- One round: three duties of one unit on a barrier cell, one duty of the transfer's credit on the others. -/
def Rd : Rounds.Schedule (GSem nD τ sig) (Fin 3) 𝕄 where
  duties g r := if r = 0 ∧ g.1.2 = .tc then dutiesOf (dec g.2) else ∅
  unitless _ := False
  amount g _ _ := amountOf' (dec g.2)
  payload g _ d := payloadOf m g.1.1 d (dec g.2)
  amount_pos g _ _ _ := by
    rcases dec g.2 with _ | _ | k
    · exact Nat.one_pos
    · exact Nat.one_pos
    · exact Nc_pos k.2

instance Rd_payload_storable (g : GSem nD τ sig) (r : ℕ) (d : Fin 3) :
    BI.Storable (upEmb : UEmb _ 𝕄) ((Rd (F := F) m).payload g r d) := by
  show BI.Storable upEmb (payloadOf m g.1.1 d (dec g.2))
  rcases dec g.2 with _ | _ | ⟨_ | _, i⟩ <;> (dsimp only [payloadOf]; infer_instance)

section Sched
variable (c : Dev nD)

theorem duties_bar : (Rd (F := F) m).duties (barCell c) 0 = Finset.univ := by
  dsimp only [Rd]; rw [if_pos ⟨rfl, rfl⟩, dec_bar]; rfl
theorem duties_send (i : Fin 9) : (Rd (F := F) m).duties (sendCell i c) 0 = {0} := by
  dsimp only [Rd]; rw [if_pos ⟨rfl, rfl⟩, dec_send]; rfl
theorem duties_recv (i : Fin 9) : (Rd (F := F) m).duties (recvCell i c) 0 = {0} := by
  dsimp only [Rd]; rw [if_pos ⟨rfl, rfl⟩, dec_recv]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := by dsimp only [Rd]; rw [dec_bar]; rfl
theorem amount_send (i : Fin 9) (d : Fin 3) : (Rd (F := F) m).amount (sendCell i c) 0 d = Nc i := by dsimp only [Rd]; rw [dec_send]; rfl
theorem amount_recv (i : Fin 9) (d : Fin 3) : (Rd (F := F) m).amount (recvCell i c) 0 d = Nc i := by dsimp only [Rd]; rw [dec_recv]; rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (i : Fin 9) : (Rd (F := F) m).expect (sendCell i c) 0 = Nc i := by
  unfold Schedule.expect Schedule.amountOf; rw [duties_send, Finset.sum_singleton, amount_send]
theorem expect_recv (i : Fin 9) : (Rd (F := F) m).expect (recvCell i c) 0 = Nc i := by
  unfold Schedule.expect Schedule.amountOf; rw [duties_recv, Finset.sum_singleton, amount_recv]

theorem payload_bar (d : Fin 3) : (Rd (F := F) m).payload (barCell c) 0 d = barPay d c := by dsimp only [Rd]; rw [dec_bar]; rfl
theorem payload_send (i : Fin 9) (d : Fin 3) : (Rd (F := F) m).payload (sendCell i c) 0 d = sendPay i c := by dsimp only [Rd]; rw [dec_send]; rfl
theorem payload_recv (i : Fin 9) (d : Fin 3) : (Rd (F := F) m).payload (recvCell i c) 0 d = recvPay m i c := by dsimp only [Rd]; rw [dec_recv]; rfl

theorem rest_bar : bigSep ((Rd (F := F) m).duties (barCell c) 0 \ ∅) (fun d => (Rd (F := F) m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send (i : Fin 9) : bigSep ((Rd (F := F) m).duties (sendCell i c) 0 \ ∅) (fun d => (Rd (F := F) m).payload (sendCell i c) 0 d) = sendPay i c := by
  rw [Finset.sdiff_empty, duties_send, bigSep_singleton, payload_send]
theorem rest_recv (i : Fin 9) : bigSep ((Rd (F := F) m).duties (recvCell i c) 0 \ ∅) (fun d => (Rd (F := F) m).payload (recvCell i c) 0 d) = recvPay m i c := by
  rw [Finset.sdiff_empty, duties_recv, bigSep_singleton, payload_recv]

end Sched

/-! ## What each device owes; the levels -/

/-- The twelve payments of a device in program order: to which axis, and to which cell there (the barrier cell, or the
    receive cell of a transfer). -/
def payAx : Fin 12 → Fin 3
  | 0 => 0 | 1 => 1 | 2 => 2 | 3 => axT 0 | 4 => axT 1 | 5 => axT 2 | 6 => axT 3 | 7 => axT 4 | 8 => axT 5 | 9 => axT 6 | 10 => axT 7 | 11 => axT 8
def payKind : Fin 12 → Option (Fin 9)
  | 0 => none | 1 => none | 2 => none | 3 => some 0 | 4 => some 1 | 5 => some 2 | 6 => some 3 | 7 => some 4 | 8 => some 5 | 9 => some 6 | 10 => some 7 | 11 => some 8
def kindCI : Option (Fin 9) → Option CI
  | none => none
  | some i => some (true, i)
def kindAmt : Option (Fin 9) → ℕ
  | none => 1
  | some i => Nc i
def payCell (c : Dev nD) (n : Fin 12) : GSem nD τ sig := kcell (pt (payAx n) c, kindCI (payKind n))
def payAmt (n : Fin 12) : ℕ := kindAmt (payKind n)

/-- What device `c` still owes when its last `k` payments are due. -/
def owe (c : Dev nD) : ℕ → CellTallies nD τ sig Unit
  | 0 => 0
  | k + 1 => owe c k + tallyAt (payCell c ⟨(11 - k) % 12, Nat.mod_lt _ (by decide)⟩) () (payAmt ⟨(11 - k) % 12, Nat.mod_lt _ (by decide)⟩)

def L (g : GSem nD τ sig) : Finset Unit := if g.1.2 = .tc then {()} else ∅
def lvOf : Option (Option CI) → ℕ
  | some none => 1
  | some (some (true, i)) => 2 + i.val / 3
  | _ => 0
/-- Barrier cells at 1, receive cells above them by stage, everything else at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem lv_kcell (ck : Dev nD × Option CI) (u : Unit) : lv (kcell ck) u = lvOf (some ck.2) := by
  unfold lv; show lvOf (dec (csem ck.2)) = _; rw [dec_csem]

theorem owe_pos {c : Dev nD} {g : GSem nD τ sig} {u : Unit} : ∀ {k : ℕ}, k ≤ 12 → 0 < owe c k g u → ∃ n : Fin 12, 12 ≤ n.val + k ∧ g = payCell c n
  | 0, _, h => absurd h (Nat.lt_irrefl 0)
  | k + 1, hk, h => by
    unfold owe at h
    rw [Pi.add_apply, Finsupp.add_apply, tallyAt_apply] at h
    by_cases h' : g = payCell c ⟨(11 - k) % 12, Nat.mod_lt _ (by decide)⟩ ∧ u = ()
    · exact ⟨⟨(11 - k) % 12, Nat.mod_lt _ (by decide)⟩, by show 12 ≤ (11 - k) % 12 + (k + 1); omega, h'.1⟩
    · rw [if_neg h', Nat.add_zero] at h
      obtain ⟨n, h1, h2⟩ := owe_pos (by omega) h
      exact ⟨n, by omega, h2⟩

/-- A device may wait on a cell that is below everything it still owes. -/
theorem mayWait (c : Dev nD) (sm : SemLoc sig) (k l : ℕ) (hk : k ≤ 12) (hs : lv ((c : Thread nD τ), sm) () ≤ l)
    (hl : ∀ n : Fin 12, 12 ≤ n.val + k → l < lvOf (some (kindCI (payKind n)))) :
    (levAts L lv : sProp 𝕄) ⊢ MayWait (c : Thread nD τ) sm () (owe c k) :=
  MayOwe.of_cut (L := L) (lev := lv) l (fun p hp => by rw [Finset.mem_singleton.mp hp, L_tc]; exact Finset.mem_singleton_self _)
    (fun g u hg => by obtain ⟨n, -, rfl⟩ := owe_pos hk hg; exact Finset.mem_singleton_self _)
    (fun p hp => by rw [Finset.mem_singleton.mp hp]; exact hs)
    (fun g u hg => by obtain ⟨n, hn, rfl⟩ := owe_pos hk hg; unfold payCell; rw [lv_kcell]; exact hl n hn)

end Cert.KernelIdeal.Pf

end
-- ==== Proof.KiSteps.lean ====
/-
# One step of the exchange at a time

The rules for a signal, the barrier wait, the start of a transfer and the two waits for it, each over the records that all
the cells' invariants hold and over the bundle of tokens, positions and credits that a transfer carries from one step to the
next: `tk` before it starts, `wt` while it runs, `wr` once its send buffer is back, `dn` at its end.
-/
module

public import proofs.«01_k».proof.Proof.KiProto

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

abbrev KK : Type := Dev nD × Option CI

/-- What every device knows of every cell: its invariant, that its round is open, and the levels. -/
def Rec (K : KK → ℕ) : sProp 𝕄 :=
  iprop((bigSep Finset.univ fun ck : KK => cellInv ER (Rd m) (K ck) (kcell ck))
    ∗ (bigSep Finset.univ fun ck : KK => reached ER (kcell ck) 0) ∗ levAts L lv)

instance Rec_persistent (K : KK → ℕ) : BI.Persistent (Rec (F := F) m K) := by unfold Rec; infer_instance

theorem Rec_inv (K : KK → ℕ) (ck : KK) : Rec (F := F) m K ⊢ cellInv ER (Rd m) (K ck) (kcell ck) := by
  have h : (bigSep Finset.univ fun ck : KK => (cellInv ER (Rd m) (K ck) (kcell ck) : sProp 𝕄)) ⊢ cellInv ER (Rd m) (K ck) (kcell ck) :=
    bigSep_elim (Finset.mem_univ ck)
  unfold Rec; iintro ⟨#H, -, -⟩; iapply h; iexact H
theorem Rec_reached (K : KK → ℕ) (ck : KK) : Rec (F := F) m K ⊢ reached ER (kcell ck) 0 := by
  have h : (bigSep Finset.univ fun ck : KK => (reached ER (kcell ck) 0 : sProp 𝕄)) ⊢ reached ER (kcell ck) 0 := bigSep_elim (Finset.mem_univ ck)
  unfold Rec; iintro ⟨-, #H, -⟩; iapply h; iexact H
theorem Rec_lev (K : KK → ℕ) : Rec (F := F) m K ⊢ levAts L lv := by
  unfold Rec; iintro ⟨-, -, #H⟩; iexact H

/-- The obligations with the last `k` payments due. -/
def ow (c : Dev nD) (k : ℕ) : sProp 𝕄 := iprop(∃ W : Waits sig Unit, owes (c : Thread nD τ) (owe c k) W)

/-- A transfer not started: its two duties, the positions on its two cells, the credit for its arrival; -/
def tk (i : Fin 9) (c : Dev nD) : sProp 𝕄 :=
  iprop(dutyTok ER (sendCell i c) 0 0 ∗ dutyTok ER (recvCell i (pt (axT i) c)) 0 0 ∗ atPos ER (sendCell i c) 0 ∅ 0 ∗ atPos ER (recvCell i c) 0 ∅ 0
    ∗ cred (tallyAt (recvCell i c) () (Nc i)))
/-- under way; -/
def wt (i : Fin 9) (c : Dev nD) : sProp 𝕄 :=
  iprop(cred (tallyAt (sendCell i c) () (Nc i)) ∗ atPos ER (sendCell i c) 0 ∅ 0 ∗ atPos ER (recvCell i c) 0 ∅ 0
    ∗ cred (tallyAt (recvCell i c) () (Nc i)))
/-- its send buffer back; -/
def wr (i : Fin 9) (c : Dev nD) : sProp 𝕄 :=
  iprop(semVal (sendCell i c) 0 ∗ atPos ER (recvCell i c) 0 ∅ 0 ∗ cred (tallyAt (recvCell i c) () (Nc i)))
/-- over: both counters at zero. -/
def dn (i : Fin 9) (c : Dev nD) : sProp 𝕄 := iprop(semVal (sendCell i c) 0 ∗ semVal (recvCell i c) 0)

/-- What the barrier needs: the duties of the three signals, the position on the own cell, its credit. -/
def tb (c : Dev nD) : sProp 𝕄 :=
  iprop(dutyTok ER (barCell (pt 0 c)) 0 0 ∗ dutyTok ER (barCell (pt 1 c)) 0 1 ∗ dutyTok ER (barCell (pt 2 c)) 0 2
    ∗ atPos ER (barCell c) 0 ∅ 0 ∗ cred (tallyAt (barCell c) () 3))

variable (K : KK → ℕ)

/-- A signal to the partner across axis `a` hands it the landing buffers it will fill here. -/
theorem step_signal (a : Fin 3) (c n : Dev nD) (hn : n = pt a c) (k k' : ℕ) (hk' : k' = 1)
    (hO : owe c (k + 1) = owe c k + tallyAt (barCell (pt a c)) () 1)
    {α : Type} {Q : α → sProp 𝕄} {kk : PUnit → Prog (TpuEff nD τ sig (Elt F) Λ₀ .tc) α} :
    iprop(Rec m K ∗ ow c (k + 1) ∗ dutyTok ER (barCell (pt a c)) 0 a ∗ barPay a (pt a c))
      ⊢ iprop((ow c k -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS k') kk) Q) := by
  subst hn; subst hk'
  unfold ow
  iintro ⟨#HR, ⟨%W, HO⟩, Ht, Hp⟩ Hk
  iapply (Rounds.wp_signal 𝒱₀ ER (Rd m) (c : Thread nD τ) none (dst := (pt a c : Thread nD τ)) (κ := K (pt a c, none))
      (d := a) (by rw [duties_bar]; exact Finset.mem_univ _) (amount_bar m (pt a c) a) () (owe c k) hO) $$ [HO Ht Hp]
  · isplitr; · iapply (Rec_inv m K (pt a c, none)); iexact HR
    isplitl [HO]; · iexact HO
    isplitl [Ht]; · iexact Ht
    isplitl [Hp]; · rw [payload_bar]; iexact Hp
    iapply (Rec_reached m K (pt a c, none)); iexact HR
  iintro HO
  iapply Hk
  iexists W; iexact HO

/-- The barrier wait brings the landing buffers on the three partners; the barrier cell closes. -/
theorem step_bar (c : Dev nD) (k' : ℕ) (hk' : k' = 3)
    {α : Type} {Q : α → sProp 𝕄} {kk : PUnit → Prog (TpuEff nD τ sig (Elt F) Λ₀ .tc) α} :
    iprop(Rec m K ∗ ow c 9 ∗ atPos ER (barCell c) 0 ∅ 0 ∗ cred (tallyAt (barCell c) () 3))
      ⊢ iprop((ow c 9 ∗ semVal (barCell c) 0 ∗ barPay 0 c ∗ barPay 1 c ∗ barPay 2 c
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS k') kk) Q) := by
  subst hk'
  unfold ow
  iintro ⟨#HR, ⟨%W, HO⟩, Hat, Hc⟩ Hk
  iapply (Rounds.wp_wait_rest_token 𝒱₀ ER (Rd m) (c : Thread nD τ) none (κ := K (c, none))
      (wpE_semWait_eq 𝒱₀ (c : Thread nD τ) none Set.univ) (Set.mem_univ _) () (O := owe c 9) (W := W) (R := 0) (m := 0) (T := ∅)
      (by rw [Nat.zero_add, expect_bar])) $$ [Hc HO Hat]
  · isplitr; · iapply (Rec_inv m K (c, none)); iexact HR
    isplitl [Hc]; · iexact Hc
    isplitl [HO]; · iexact HO
    isplitr
    · iapply (mayWait c (.reg barS) 9 1 (by decide) (le_of_eq (lv_kcell (c, none) ())) (by decide))
      iapply (Rec_lev m K); iexact HR
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (Rec_inv m K (c, none)); iexact HR
    iexact Hat
  iapply Hk
  isplitl [HO]; · iexists _; iexact HO
  isplitl [Hz]; · iexact Hz
  iexact Hp

theorem lvOf_pay_pos : ∀ n : Fin 12, 0 < lvOf (some (kindCI (payKind n))) := by decide

/-- The wait on a send cell: the send buffer is back, the cell closes. -/
theorem step_wait_send (i : Fin 9) (c : Dev nD) (k : ℕ) (hk : k ≤ 12) (sS : DmaSem sig) (hs : sS = sendS i)
    {sp sp' : Space} {s s' : Shape} {e e' : EltTy}
    {src : Memref sig .tc sp' s' e'} {dst : Memref sig .tc sp s e} {hsrc : src.view.WordExact} {hdst : dst.view.WordExact}
    (hN : dst.view.dmaCredit = Nc i)
    {α : Type} {Q : α → sProp 𝕄} {kk : PUnit → Prog (TpuEff nD τ sig (Elt F) Λ₀ .tc) α} :
    iprop(Rec m K ∗ ow c k ∗ wt i c)
      ⊢ iprop((ow c k ∗ wr i c ∗ sendPay i c -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hs
  unfold ow wt wr
  iintro ⟨#HR, ⟨%W, HO⟩, Hc, Hat, Hat', Hc'⟩ Hk
  iapply (Rounds.wp_wait_rest_token 𝒱₀ ER (Rd m) (c : Thread nD τ) none (κ := K (c, some (false, i)))
      (wpE_waitDma2_eq 𝒱₀ (c : Thread nD τ) none Set.univ) (Set.mem_univ _) () (O := owe c k) (W := W) (R := 0) (m := 0) (T := ∅)
      (by rw [Nat.zero_add, expect_send, hN])) $$ [Hc HO Hat]
  · isplitr; · iapply (Rec_inv m K (c, some (false, i))); iexact HR
    isplitl [Hc]; · rw [hN]; iexact Hc
    isplitl [HO]; · iexact HO
    isplitr
    · iapply (mayWait c (.dma (sendS i)) k 0 hk (le_of_eq (lv_kcell (c, some (false, i)) ())) (fun n _ => lvOf_pay_pos n))
      iapply (Rec_lev m K); iexact HR
    iexact Hat
  iintro ⟨HO, Hat, -, Hpay⟩
  ihave Hp := (Entails.of_eq (rest_send m c i)) $$ Hpay
  imod (Rounds.cell_close ER (Rd m) (Set.mem_univ (K (c, some (false, i)))) (fun h => h) (R := 0 + 1) (duties_later m (sendCell i c))) $$ [Hat] with Hz
  · isplitr; · iapply (Rec_inv m K (c, some (false, i))); iexact HR
    iexact Hat
  iapply Hk
  isplitl [HO]; · iexists _; iexact HO
  isplitr [Hp]
  · isplitl [Hz]; · iexact Hz
    isplitl [Hat'] <;> iassumption
  iexact Hp

/-- The wait on a receive cell, owing only payments to later stages: the landing buffer with what the partner sent; the cell
    closes. -/
theorem step_wait_recv (i : Fin 9) (c : Dev nD) (k : ℕ) (hk : k ≤ 12) (hl : ∀ n : Fin 12, 12 ≤ n.val + k → 2 + i.val / 3 < lvOf (some (kindCI (payKind n))))
    (sS : DmaSem sig) (hs : sS = recvS i) {sp sp' : Space} {s s' : Shape} {e e' : EltTy}
    {src : Memref sig .tc sp' s' e'} {dst : Memref sig .tc sp s e} {hsrc : src.view.WordExact} {hdst : dst.view.WordExact}
    (hN : dst.view.dmaCredit = Nc i)
    {α : Type} {Q : α → sProp 𝕄} {kk : PUnit → Prog (TpuEff nD τ sig (Elt F) Λ₀ .tc) α} :
    iprop(Rec m K ∗ ow c k ∗ wr i c)
      ⊢ iprop((ow c k ∗ dn i c ∗ recvPay m i c -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS src dst hsrc hdst) kk) Q) := by
  subst hs
  unfold ow wr dn
  iintro ⟨#HR, ⟨%W, HO⟩, Hz', Hat, Hc⟩ Hk
  iapply (Rounds.wp_wait_rest_token 𝒱₀ ER (Rd m) (c : Thread nD τ) none (κ := K (c, some (true, i)))
      (wpE_waitDma2_eq 𝒱₀ (c : Thread nD τ) none Set.univ) (Set.mem_univ _) () (O := owe c k) (W := W) (R := 0) (m := 0) (T := ∅)
      (by rw [Nat.zero_add, expect_recv, hN])) $$ [Hc HO Hat]
  · isplitr; · iapply (Rec_inv m K (c, some (true, i))); iexact HR
    isplitl [Hc]; · rw [hN]; iexact Hc
    isplitl [HO]; · iexact HO
    isplitr
    · iapply (mayWait c (.dma (recvS i)) k (2 + i.val / 3) hk (le_of_eq (lv_kcell (c, some (true, i)) ())) hl)
      iapply (Rec_lev m K); iexact HR
    iexact Hat
  iintro ⟨HO, Hat, -, Hpay⟩
  ihave Hp := (Entails.of_eq (rest_recv m c i)) $$ Hpay
  imod (Rounds.cell_close ER (Rd m) (Set.mem_univ (K (c, some (true, i)))) (fun h => h) (R := 0 + 1) (duties_later m (recvCell i c))) $$ [Hat] with Hz
  · isplitr; · iapply (Rec_inv m K (c, some (true, i))); iexact HR
    iexact Hat
  iapply Hk
  isplitl [HO]; · iexists _; iexact HO
  isplitr [Hp]
  · isplitl [Hz'] <;> iassumption
  iexact Hp

/-- The start of transfer `i` between buffers `src` and `dst` of one shape: from the send buffer at `fs` and the partner's
    landing buffer at `fd`, both handed on as `hp₁` and `hp₂` say. -/
theorem step_send (i : Fin 9) (c n : Dev nD) (hn : n = pt (axT i) c) (k : ℕ) (sS sR : DmaSem sig) (hs : sS = sendS i) (hr : sR = recvS i)
    (hO : owe c (k + 1) = owe c k + tallyAt (recvCell i (pt (axT i) c)) () (Nc i))
    {s : Shape} {e : EltTy} {src : Memref sig .tc .vmem s e} {dst : Memref sig (Dev.tc n : Thread nD τ).2.kind .vmem s e}
    {hsc : dst.view.ref.isScScratch = false} {hsrc : src.view.WordExact} {hdst : dst.view.WordExact}
    {hsem : DmaTarget.Typed .vmem (.dma sR) (.remote (Dev.tc n : Thread nD τ) dst (.dma sS) hsc)}
    (hN : dst.view.amount (SemLoc.dma sR) = Nc i)
    {fs : Buf (Elt F) (src.view.loc (c : Thread nD τ))} {fd : Buf (Elt F) (dst.view.loc (n : Thread nD τ))}
    (hp₁ : (src.view.loc (c : Thread nD τ) ↦[src.view.set]{fullShare} fs : sProp 𝕄) ⊢ sendPay i c)
    (hp₂ : (dst.view.loc (n : Thread nD τ) ↦[dst.view.set]{fullShare} (dst.view.write (Elt F) fd (src.view.read (Elt F) fs) Finset.univ) : sProp 𝕄)
      ⊢ recvPay m i n)
    {α : Type} {Q : α → sProp 𝕄} {kk : PUnit → Prog (TpuEff nD τ sig (Elt F) Λ₀ .tc) α} :
    iprop(Rec m K ∗ ow c (k + 1) ∗ tk i c ∗ (src.view.loc (c : Thread nD τ) ↦[src.view.set]{fullShare} fs)
        ∗ (dst.view.loc (n : Thread nD τ) ↦[dst.view.set]{fullShare} fd))
      ⊢ iprop((ow c k ∗ wt i c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hn; subst hs; subst hr
  unfold ow tk wt
  iintro ⟨#HR, ⟨%W, HO⟩, ⟨Ht, Ht', Hat, Hat', Hc'⟩, Hs, Hd⟩ Hk
  iapply (Rounds.wp_send_pointsTo 𝒱₀ ER (Rd m) (c : Thread nD τ) none (κ₁ := K (c, some (false, i))) (κ₂ := K (pt (axT i) c, some (true, i)))
    (r₁ := 0) (r₂ := 0) (d₁ := 0) (d₂ := 0) (fd := fd)
    (by rw [duties_send]; exact Finset.mem_singleton_self _) (by rw [duties_recv]; exact Finset.mem_singleton_self _)
    () () (Nc i) hN (amount_send m c i 0) (amount_recv m (pt (axT i) c) i 0) (owe c k) hO (W := W)
    (by rw [payload_send]; exact hp₁) (by rw [payload_recv]; exact hp₂)) $$ [HO Hs Hd Ht Ht']
  · isplitr; · iapply (Rec_inv m K (c, some (false, i))); iexact HR
    isplitr; · iapply (Rec_inv m K (pt (axT i) c, some (true, i))); iexact HR
    isplitl [Hs]; · iexact Hs
    isplitl [Hd]; · iexact Hd
    isplitl [HO]; · iexact HO
    isplitl [Ht]; · iexact Ht
    isplitr; · iapply (Rec_reached m K (c, some (false, i))); iexact HR
    isplitl [Ht']; · iexact Ht'
    iapply (Rec_reached m K (pt (axT i) c, some (true, i))); iexact HR
  iintro ⟨Hc, HO⟩
  iapply Hk
  isplitl [HO]; · iexists W; iexact HO
  isplitl [Hc]; · iexact Hc
  isplitl [Hat]; · iexact Hat
  isplitl [Hat'] <;> iassumption

/-- Transfer 0 with its buffers and contents. -/
theorem send_0 (c n : Dev nD) (hn : n = pt 2 c) (sS sR : DmaSem sig) (hs : sS = sendS 0) (hr : sR = recvS 0)
    {hsc : (Memref.view (sig := sig) (κ := (Dev.tc n : Thread nD τ).2.kind) ra0).ref.isScScratch = false} {hsrc : sa0.view.WordExact} {hdst : ra0.view.WordExact}
    {hsem : DmaTarget.Typed .vmem (.dma sR) (.remote (Dev.tc n : Thread nD τ) ra0 (.dma sS) hsc)}
    {α : Type} {Q : α → sProp 𝕄} {kk : PUnit → Prog (TpuEff nD τ sig (Elt F) Λ₀ .tc) α} :
    iprop(Rec m K ∗ ow c 9 ∗ tk 0 c ∗ (((c : Thread nD τ).loc cc0_scratch1) ↦{fullShare} S1_0 m c) ∗ freePay 0 (pt 2 c))
      ⊢ iprop((ow c 8 ∗ wt 0 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sa0 (.remote (Dev.tc n : Thread nD τ) ra0 (.dma sS) hsc) (.dma sR) hsrc hdst hsem) kk) Q) := by
  subst hn
  dsimp only [freePay]
  iintro ⟨HR, HO, Ht, Hs, ⟨%fd, Hd⟩⟩
  iapply (step_send m K 0 c (pt 2 c) rfl 8 sS sR hs hr rfl rfl (src := sa0) (dst := ra0) (fs := S1_0 m c) (fd := fd)
    (by rw [show sa0.view.set = Finset.univ from View.set_whole _]; dsimp only [sendPay]; iintro H; iexists (S1_0 m c); iexact H)
    (by
      rw [show ra0.view.set = Finset.univ from View.set_whole _,
        show ra0.view.write (Elt F) fd (sa0.view.read (Elt F) (S1_0 m c)) Finset.univ = S1_0 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sa0.view.set = Finset.univ from View.set_whole _]; iexact Hs
  · rw [show ra0.view.set = Finset.univ from View.set_whole _]; iexact Hd

/-- Transfer 1 with its buffers and contents. -/
theorem send_1 (c n : Dev nD) (hn : n = pt 1 c) (sS sR : DmaSem sig) (hs : sS = sendS 1) (hr : sR = recvS 1)
    {hsc : (Memref.view (sig := sig) (κ := (Dev.tc n : Thread nD τ).2.kind) ra1).ref.isScScratch = false} {hsrc : sa1.view.WordExact} {hdst : ra1.view.WordExact}
    {hsem : DmaTarget.Typed .vmem (.dma sR) (.remote (Dev.tc n : Thread nD τ) ra1 (.dma sS) hsc)}
    {α : Type} {Q : α → sProp 𝕄} {kk : PUnit → Prog (TpuEff nD τ sig (Elt F) Λ₀ .tc) α} :
    iprop(Rec m K ∗ ow c 8 ∗ tk 1 c ∗ (((c : Thread nD τ).loc cc0_scratch10) ↦{fullShare} S1_1 m c) ∗ freePay 1 (pt 1 c))
      ⊢ iprop((ow c 7 ∗ wt 1 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sa1 (.remote (Dev.tc n : Thread nD τ) ra1 (.dma sS) hsc) (.dma sR) hsrc hdst hsem) kk) Q) := by
  subst hn
  dsimp only [freePay]
  iintro ⟨HR, HO, Ht, Hs, ⟨%fd, Hd⟩⟩
  iapply (step_send m K 1 c (pt 1 c) rfl 7 sS sR hs hr rfl rfl (src := sa1) (dst := ra1) (fs := S1_1 m c) (fd := fd)
    (by rw [show sa1.view.set = Finset.univ from View.set_whole _]; dsimp only [sendPay]; iintro H; iexists (S1_1 m c); iexact H)
    (by
      rw [show ra1.view.set = Finset.univ from View.set_whole _,
        show ra1.view.write (Elt F) fd (sa1.view.read (Elt F) (S1_1 m c)) Finset.univ = S1_1 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sa1.view.set = Finset.univ from View.set_whole _]; iexact Hs
  · rw [show ra1.view.set = Finset.univ from View.set_whole _]; iexact Hd

/-- Transfer 2 with its buffers and contents. -/
theorem send_2 (c n : Dev nD) (hn : n = pt 0 c) (sS sR : DmaSem sig) (hs : sS = sendS 2) (hr : sR = recvS 2)
    {hsc : (Memref.view (sig := sig) (κ := (Dev.tc n : Thread nD τ).2.kind) ra2).ref.isScScratch = false} {hsrc : sa2.view.WordExact} {hdst : ra2.view.WordExact}
    {hsem : DmaTarget.Typed .vmem (.dma sR) (.remote (Dev.tc n : Thread nD τ) ra2 (.dma sS) hsc)}
    {α : Type} {Q : α → sProp 𝕄} {kk : PUnit → Prog (TpuEff nD τ sig (Elt F) Λ₀ .tc) α} :
    iprop(Rec m K ∗ ow c 7 ∗ tk 2 c ∗ (((c : Thread nD τ).loc cc0_scratch19) ↦{fullShare} S1_2 m c) ∗ freePay 2 (pt 0 c))
      ⊢ iprop((ow c 6 ∗ wt 2 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sa2 (.remote (Dev.tc n : Thread nD τ) ra2 (.dma sS) hsc) (.dma sR) hsrc hdst hsem) kk) Q) := by
  subst hn
  dsimp only [freePay]
  iintro ⟨HR, HO, Ht, Hs, ⟨%fd, Hd⟩⟩
  iapply (step_send m K 2 c (pt 0 c) rfl 6 sS sR hs hr rfl rfl (src := sa2) (dst := ra2) (fs := S1_2 m c) (fd := fd)
    (by rw [show sa2.view.set = Finset.univ from View.set_whole _]; dsimp only [sendPay]; iintro H; iexists (S1_2 m c); iexact H)
    (by
      rw [show ra2.view.set = Finset.univ from View.set_whole _,
        show ra2.view.write (Elt F) fd (sa2.view.read (Elt F) (S1_2 m c)) Finset.univ = S1_2 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sa2.view.set = Finset.univ from View.set_whole _]; iexact Hs
  · rw [show ra2.view.set = Finset.univ from View.set_whole _]; iexact Hd

/-- Transfer 3 with its buffers and contents. -/
theorem send_3 (c n : Dev nD) (hn : n = pt 1 c) (sS sR : DmaSem sig) (hs : sS = sendS 3) (hr : sR = recvS 3)
    {hsc : (Memref.view (sig := sig) (κ := (Dev.tc n : Thread nD τ).2.kind) rb0).ref.isScScratch = false} {hsrc : sb0.view.WordExact} {hdst : rb0.view.WordExact}
    {hsem : DmaTarget.Typed .vmem (.dma sR) (.remote (Dev.tc n : Thread nD τ) rb0 (.dma sS) hsc)}
    {α : Type} {Q : α → sProp 𝕄} {kk : PUnit → Prog (TpuEff nD τ sig (Elt F) Λ₀ .tc) α} :
    iprop(Rec m K ∗ ow c 6 ∗ tk 3 c ∗ (((c : Thread nD τ).loc cc0_scratch3) ↦{fullShare} S2_0 m c) ∗ freePay 3 (pt 1 c))
      ⊢ iprop((ow c 5 ∗ wt 3 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sb0 (.remote (Dev.tc n : Thread nD τ) rb0 (.dma sS) hsc) (.dma sR) hsrc hdst hsem) kk) Q) := by
  subst hn
  dsimp only [freePay]
  iintro ⟨HR, HO, Ht, Hs, ⟨%fd, Hd⟩⟩
  iapply (step_send m K 3 c (pt 1 c) rfl 5 sS sR hs hr rfl rfl (src := sb0) (dst := rb0) (fs := S2_0 m c) (fd := fd)
    (by rw [show sb0.view.set = Finset.univ from View.set_whole _]; dsimp only [sendPay]; iintro H; iexists (S2_0 m c); iexact H)
    (by
      rw [show rb0.view.set = Finset.univ from View.set_whole _,
        show rb0.view.write (Elt F) fd (sb0.view.read (Elt F) (S2_0 m c)) Finset.univ = S2_0 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sb0.view.set = Finset.univ from View.set_whole _]; iexact Hs
  · rw [show rb0.view.set = Finset.univ from View.set_whole _]; iexact Hd

/-- Transfer 4 with its buffers and contents. -/
theorem send_4 (c n : Dev nD) (hn : n = pt 0 c) (sS sR : DmaSem sig) (hs : sS = sendS 4) (hr : sR = recvS 4)
    {hsc : (Memref.view (sig := sig) (κ := (Dev.tc n : Thread nD τ).2.kind) rb1).ref.isScScratch = false} {hsrc : sb1.view.WordExact} {hdst : rb1.view.WordExact}
    {hsem : DmaTarget.Typed .vmem (.dma sR) (.remote (Dev.tc n : Thread nD τ) rb1 (.dma sS) hsc)}
    {α : Type} {Q : α → sProp 𝕄} {kk : PUnit → Prog (TpuEff nD τ sig (Elt F) Λ₀ .tc) α} :
    iprop(Rec m K ∗ ow c 5 ∗ tk 4 c ∗ (((c : Thread nD τ).loc cc0_scratch12) ↦{fullShare} S2_1 m c) ∗ freePay 4 (pt 0 c))
      ⊢ iprop((ow c 4 ∗ wt 4 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sb1 (.remote (Dev.tc n : Thread nD τ) rb1 (.dma sS) hsc) (.dma sR) hsrc hdst hsem) kk) Q) := by
  subst hn
  dsimp only [freePay]
  iintro ⟨HR, HO, Ht, Hs, ⟨%fd, Hd⟩⟩
  iapply (step_send m K 4 c (pt 0 c) rfl 4 sS sR hs hr rfl rfl (src := sb1) (dst := rb1) (fs := S2_1 m c) (fd := fd)
    (by rw [show sb1.view.set = Finset.univ from View.set_whole _]; dsimp only [sendPay]; iintro H; iexists (S2_1 m c); iexact H)
    (by
      rw [show rb1.view.set = Finset.univ from View.set_whole _,
        show rb1.view.write (Elt F) fd (sb1.view.read (Elt F) (S2_1 m c)) Finset.univ = S2_1 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sb1.view.set = Finset.univ from View.set_whole _]; iexact Hs
  · rw [show rb1.view.set = Finset.univ from View.set_whole _]; iexact Hd

/-- Transfer 5 with its buffers and contents. -/
theorem send_5 (c n : Dev nD) (hn : n = pt 2 c) (sS sR : DmaSem sig) (hs : sS = sendS 5) (hr : sR = recvS 5)
    {hsc : (Memref.view (sig := sig) (κ := (Dev.tc n : Thread nD τ).2.kind) rb2).ref.isScScratch = false} {hsrc : sb2.view.WordExact} {hdst : rb2.view.WordExact}
    {hsem : DmaTarget.Typed .vmem (.dma sR) (.remote (Dev.tc n : Thread nD τ) rb2 (.dma sS) hsc)}
    {α : Type} {Q : α → sProp 𝕄} {kk : PUnit → Prog (TpuEff nD τ sig (Elt F) Λ₀ .tc) α} :
    iprop(Rec m K ∗ ow c 4 ∗ tk 5 c ∗ (((c : Thread nD τ).loc cc0_scratch21) ↦{fullShare} S2_2 m c) ∗ freePay 5 (pt 2 c))
      ⊢ iprop((ow c 3 ∗ wt 5 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sb2 (.remote (Dev.tc n : Thread nD τ) rb2 (.dma sS) hsc) (.dma sR) hsrc hdst hsem) kk) Q) := by
  subst hn
  dsimp only [freePay]
  iintro ⟨HR, HO, Ht, Hs, ⟨%fd, Hd⟩⟩
  iapply (step_send m K 5 c (pt 2 c) rfl 3 sS sR hs hr rfl rfl (src := sb2) (dst := rb2) (fs := S2_2 m c) (fd := fd)
    (by rw [show sb2.view.set = Finset.univ from View.set_whole _]; dsimp only [sendPay]; iintro H; iexists (S2_2 m c); iexact H)
    (by
      rw [show rb2.view.set = Finset.univ from View.set_whole _,
        show rb2.view.write (Elt F) fd (sb2.view.read (Elt F) (S2_2 m c)) Finset.univ = S2_2 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sb2.view.set = Finset.univ from View.set_whole _]; iexact Hs
  · rw [show rb2.view.set = Finset.univ from View.set_whole _]; iexact Hd

/-- Transfer 6 with its buffers and contents. -/
theorem send_6 (c n : Dev nD) (hn : n = pt 0 c) (sS sR : DmaSem sig) (hs : sS = sendS 6) (hr : sR = recvS 6)
    {hsc : (Memref.view (sig := sig) (κ := (Dev.tc n : Thread nD τ).2.kind) rc0).ref.isScScratch = false} {hsrc : sc0.view.WordExact} {hdst : rc0.view.WordExact}
    {hsem : DmaTarget.Typed .vmem (.dma sR) (.remote (Dev.tc n : Thread nD τ) rc0 (.dma sS) hsc)}
    {α : Type} {Q : α → sProp 𝕄} {kk : PUnit → Prog (TpuEff nD τ sig (Elt F) Λ₀ .tc) α} :
    iprop(Rec m K ∗ ow c 3 ∗ tk 6 c ∗ (((c : Thread nD τ).loc cc0_scratch5) ↦{fullShare} S3_0 m c) ∗ freePay 6 (pt 0 c))
      ⊢ iprop((ow c 2 ∗ wt 6 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sc0 (.remote (Dev.tc n : Thread nD τ) rc0 (.dma sS) hsc) (.dma sR) hsrc hdst hsem) kk) Q) := by
  subst hn
  dsimp only [freePay]
  iintro ⟨HR, HO, Ht, Hs, ⟨%fd, Hd⟩⟩
  iapply (step_send m K 6 c (pt 0 c) rfl 2 sS sR hs hr rfl rfl (src := sc0) (dst := rc0) (fs := S3_0 m c) (fd := fd)
    (by rw [show sc0.view.set = Finset.univ from View.set_whole _]; dsimp only [sendPay]; iintro H; iexists (S3_0 m c); iexact H)
    (by
      rw [show rc0.view.set = Finset.univ from View.set_whole _,
        show rc0.view.write (Elt F) fd (sc0.view.read (Elt F) (S3_0 m c)) Finset.univ = S3_0 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sc0.view.set = Finset.univ from View.set_whole _]; iexact Hs
  · rw [show rc0.view.set = Finset.univ from View.set_whole _]; iexact Hd

/-- Transfer 7 with its buffers and contents. -/
theorem send_7 (c n : Dev nD) (hn : n = pt 2 c) (sS sR : DmaSem sig) (hs : sS = sendS 7) (hr : sR = recvS 7)
    {hsc : (Memref.view (sig := sig) (κ := (Dev.tc n : Thread nD τ).2.kind) rc1).ref.isScScratch = false} {hsrc : sc1.view.WordExact} {hdst : rc1.view.WordExact}
    {hsem : DmaTarget.Typed .vmem (.dma sR) (.remote (Dev.tc n : Thread nD τ) rc1 (.dma sS) hsc)}
    {α : Type} {Q : α → sProp 𝕄} {kk : PUnit → Prog (TpuEff nD τ sig (Elt F) Λ₀ .tc) α} :
    iprop(Rec m K ∗ ow c 2 ∗ tk 7 c ∗ (((c : Thread nD τ).loc cc0_scratch14) ↦{fullShare} S3_1 m c) ∗ freePay 7 (pt 2 c))
      ⊢ iprop((ow c 1 ∗ wt 7 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sc1 (.remote (Dev.tc n : Thread nD τ) rc1 (.dma sS) hsc) (.dma sR) hsrc hdst hsem) kk) Q) := by
  subst hn
  dsimp only [freePay]
  iintro ⟨HR, HO, Ht, Hs, ⟨%fd, Hd⟩⟩
  iapply (step_send m K 7 c (pt 2 c) rfl 1 sS sR hs hr rfl rfl (src := sc1) (dst := rc1) (fs := S3_1 m c) (fd := fd)
    (by rw [show sc1.view.set = Finset.univ from View.set_whole _]; dsimp only [sendPay]; iintro H; iexists (S3_1 m c); iexact H)
    (by
      rw [show rc1.view.set = Finset.univ from View.set_whole _,
        show rc1.view.write (Elt F) fd (sc1.view.read (Elt F) (S3_1 m c)) Finset.univ = S3_1 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sc1.view.set = Finset.univ from View.set_whole _]; iexact Hs
  · rw [show rc1.view.set = Finset.univ from View.set_whole _]; iexact Hd

/-- Transfer 8 with its buffers and contents. -/
theorem send_8 (c n : Dev nD) (hn : n = pt 1 c) (sS sR : DmaSem sig) (hs : sS = sendS 8) (hr : sR = recvS 8)
    {hsc : (Memref.view (sig := sig) (κ := (Dev.tc n : Thread nD τ).2.kind) rc2).ref.isScScratch = false} {hsrc : sc2.view.WordExact} {hdst : rc2.view.WordExact}
    {hsem : DmaTarget.Typed .vmem (.dma sR) (.remote (Dev.tc n : Thread nD τ) rc2 (.dma sS) hsc)}
    {α : Type} {Q : α → sProp 𝕄} {kk : PUnit → Prog (TpuEff nD τ sig (Elt F) Λ₀ .tc) α} :
    iprop(Rec m K ∗ ow c 1 ∗ tk 8 c ∗ (((c : Thread nD τ).loc cc0_scratch23) ↦{fullShare} S3_2 m c) ∗ freePay 8 (pt 1 c))
      ⊢ iprop((ow c 0 ∗ wt 8 c -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sc2 (.remote (Dev.tc n : Thread nD τ) rc2 (.dma sS) hsc) (.dma sR) hsrc hdst hsem) kk) Q) := by
  subst hn
  dsimp only [freePay]
  iintro ⟨HR, HO, Ht, Hs, ⟨%fd, Hd⟩⟩
  iapply (step_send m K 8 c (pt 1 c) rfl 0 sS sR hs hr rfl rfl (src := sc2) (dst := rc2) (fs := S3_2 m c) (fd := fd)
    (by rw [show sc2.view.set = Finset.univ from View.set_whole _]; dsimp only [sendPay]; iintro H; iexists (S3_2 m c); iexact H)
    (by
      rw [show rc2.view.set = Finset.univ from View.set_whole _,
        show rc2.view.write (Elt F) fd (sc2.view.read (Elt F) (S3_2 m c)) Finset.univ = S3_2 m c from
          (View.write_whole_univ _ _ _).trans (View.read_whole _ _)]
      dsimp only [recvPay]; rw [pt_pt]))
  isplitl [HR]; · iexact HR
  isplitl [HO]; · iexact HO
  isplitl [Ht]; · iexact Ht
  isplitl [Hs]
  · rw [show sc2.view.set = Finset.univ from View.set_whole _]; iexact Hs
  · rw [show rc2.view.set = Finset.univ from View.set_whole _]; iexact Hd

end Cert.KernelIdeal.Pf

end
-- ==== Proof.KiGhost.lean ====
/-
# Starting the exchange

At the launch every cell's round is open and the duty tokens of all cells are minted; the tokens are dealt to the devices
that pay them (`toks_around`), the invariants are allocated over all devices at once (`glob`), and what the devices owe one
another comes back to each as the credits it waits with (`creds`).
-/
module

public import proofs.«01_k».proof.Proof.KiSteps
public import Idealize.SL.ProofMode.BigOp

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Finite products -/

omit [FloatOps F] in
theorem sep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem sep_bool (Φ : Bool → sProp 𝕄) : bigSep Finset.univ Φ = iprop(Φ false ∗ Φ true) :=
  bigSep_univ_eq_bigSepL [false, true] (by decide) (by decide) Φ
omit [FloatOps F] in
/-- Over the kernel's own cells: the send cells and the receive cells; -/
theorem sep_own (Φ : CI → sProp 𝕄) :
    bigSep Finset.univ Φ = iprop((bigSep Finset.univ fun i : Fin 9 => Φ (false, i)) ∗ bigSep Finset.univ fun i : Fin 9 => Φ (true, i)) := by
  rw [bigSep_univ_prod, sep_bool]
omit [FloatOps F] in
/-- over all the cells of a device: the barrier cell first. -/
theorem sep_cells (Φ : Option CI → sProp 𝕄) :
    bigSep Finset.univ Φ = iprop(Φ none ∗ (bigSep Finset.univ fun i : Fin 9 => Φ (some (false, i)))
      ∗ bigSep Finset.univ fun i : Fin 9 => Φ (some (true, i))) := by
  rw [bigSep_univ_at Φ none, show (Finset.univ : Finset (Option CI)).erase none = Finset.univ.map Function.Embedding.some from by decide,
    bigSep_map, sep_own]
  rfl

/-! ## What is minted -/

def allCells : Finset (GSem nD τ sig) := Finset.univ.map ⟨kcell, kcell_injective⟩
def tokAt (x : KK × Fin 3) : GSem nD τ sig × ℕ × Fin 3 := (kcell x.1, 0, x.2)
theorem tokAt_injective : Function.Injective tokAt := by
  rintro ⟨ck, d⟩ ⟨ck', d'⟩ h
  have h1 : ck = ck' := kcell_injective (congrArg Prod.fst h)
  have h2 : d = d' := congrArg (fun x : GSem nD τ sig × ℕ × Fin 3 => x.2.2) h
  rw [h1, h2]
def allToks : Finset (GSem nD τ sig × ℕ × Fin 3) := Finset.univ.map ⟨tokAt, tokAt_injective⟩

def u₀ : UU :=
  (initOf (Pipeline.cells cfgs cellOf_inj) (Pipeline.launchToks cfgs cellOf_inj), initOf allCells allToks)

/-- All tokens of the cells of device `c`. -/
def minted (c : Dev nD) : sProp 𝕄 :=
  bigSep Finset.univ fun k : Option CI => bigSep Finset.univ fun d : Fin 3 => dutyTok ER (kcell (c, k)) 0 d
/-- Those that are paid: three on the barrier cell, one on every other. -/
def toks (c : Dev nD) : sProp 𝕄 :=
  iprop((dutyTok ER (barCell c) 0 0 ∗ dutyTok ER (barCell c) 0 1 ∗ dutyTok ER (barCell c) 0 2)
    ∗ (bigSep Finset.univ fun i : Fin 9 => dutyTok ER (sendCell i c) 0 0) ∗ (bigSep Finset.univ fun i : Fin 9 => dutyTok ER (recvCell i c) 0 0))
/-- Those that device `c` pays. -/
def payToks (c : Dev nD) : sProp 𝕄 :=
  iprop((dutyTok ER (barCell (pt 0 c)) 0 0 ∗ dutyTok ER (barCell (pt 1 c)) 0 1 ∗ dutyTok ER (barCell (pt 2 c)) 0 2)
    ∗ (bigSep Finset.univ fun i : Fin 9 => dutyTok ER (sendCell i c) 0 0)
    ∗ (bigSep Finset.univ fun i : Fin 9 => dutyTok ER (recvCell i (pt (axT i) c)) 0 0))

omit [FloatOps F] in
theorem minted_toks (c : Dev nD) : (minted c : sProp 𝕄) ⊢ toks c := by
  have h0 (k : Option CI) : (bigSep Finset.univ fun d : Fin 3 => (dutyTok ER (kcell (c, k)) 0 d : sProp 𝕄)) ⊢ dutyTok ER (kcell (c, k)) 0 0 :=
    bigSep_elim (Finset.mem_univ 0)
  have hs (b : Bool) : (bigSep Finset.univ fun i : Fin 9 => bigSep Finset.univ fun d : Fin 3 => (dutyTok ER (kcell (c, some (b, i))) 0 d : sProp 𝕄))
      ⊢ bigSep Finset.univ fun i : Fin 9 => (dutyTok ER (kcell (c, some (b, i))) 0 0 : sProp 𝕄) := bigSep_mono fun i _ => h0 _
  unfold minted toks
  rw [sep_cells, sep_fin3]
  iintro ⟨H, HS, HR⟩
  isplitl [H]; · iexact H
  isplitl [HS]
  · ihave H' := (hs false) $$ HS; iexact H'
  · ihave H' := (hs true) $$ HR; iexact H'

omit [FloatOps F] in
/-- Every token goes to the device that pays it, the partner across the axis of its transfer. -/
theorem toks_around : (bigSep Finset.univ fun c : Dev nD => (toks c : sProp 𝕄)) ⊢ bigSep Finset.univ fun c : Dev nD => payToks c := by
  have hr : (bigSep Finset.univ fun c : Dev nD => bigSep Finset.univ fun i : Fin 9 => (dutyTok ER (recvCell i c) 0 0 : sProp 𝕄))
      = bigSep Finset.univ fun c : Dev nD => bigSep Finset.univ fun i : Fin 9 => dutyTok ER (recvCell i (pt (axT i) c)) 0 0 := by
    rw [bigSep_univ_comm, bigSep_univ_comm (fun (c : Dev nD) (i : Fin 9) => (dutyTok ER (recvCell i (pt (axT i) c)) 0 0 : sProp 𝕄))]
    exact bigSep_congr fun i _ => bigSep_univ_equiv (ptE (axT i)) (fun c : Dev nD => (dutyTok ER (recvCell i c) 0 0 : sProp 𝕄))
  unfold toks payToks
  rw [bigSep_sep', bigSep_sep', bigSep_sep', bigSep_sep', bigSep_sep', bigSep_sep', bigSep_sep', bigSep_sep', hr,
    bigSep_univ_equiv (ptE 0) (fun c : Dev nD => (dutyTok ER (barCell c) 0 0 : sProp 𝕄)),
    bigSep_univ_equiv (ptE 1) (fun c : Dev nD => (dutyTok ER (barCell c) 0 1 : sProp 𝕄)),
    bigSep_univ_equiv (ptE 2) (fun c : Dev nD => (dutyTok ER (barCell c) 0 2 : sProp 𝕄))]
  exact Entails.of_eq rfl

/-! ## The launch's share of each device -/

def G (c : Dev nD) : sProp 𝕄 :=
  iprop((bigSep Finset.univ fun k : Option CI => roundState ER (Rd m) (kcell (c, k)) 0)
    ∗ (bigSep Finset.univ fun k : Option CI => iprop(atPos ER (kcell (c, k)) 0 ∅ 0 ∗ reached ER (kcell (c, k)) 0)) ∗ minted c)

/-- The positions of device `c` and the tokens it pays. -/
def linear (c : Dev nD) : sProp 𝕄 :=
  iprop((bigSep Finset.univ fun k : Option CI => atPos ER (kcell (c, k)) 0 ∅ 0) ∗ payToks c)

/-- The invariants and the marks, under the names they got. -/
def records (K : KK → ℕ) : sProp 𝕄 :=
  iprop((bigSep Finset.univ fun ck : KK => cellInv ER (Rd m) (K ck) (kcell ck)) ∗ bigSep Finset.univ fun ck : KK => reached ER (kcell ck) 0)

instance records_persistent (K : KK → ℕ) : BI.Persistent (records (F := F) m K) := by unfold records; infer_instance

def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one semaphore that is not the kernel's own. -/
theorem unscoped_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem own_eq (c : Dev nD) : (Pipeline.ownSems0 (Ix := Unit) (Name := ℕ) (U := UU) (Lvl := ℕ) (Val := Elt F) (τ := τ) osem c : sProp 𝕄)
    = bigSep Finset.univ fun i : Fin 9 => dn i c := by
  unfold Pipeline.ownSems0 dn
  rw [sep_own, bigSep_sep']
  rfl
omit [FloatOps F] in
theorem counters_eq (c : Dev nD) :
    iprop(Pipeline.ownSems0 (Ix := Unit) (Name := ℕ) (U := UU) (Lvl := ℕ) (Val := Elt F) (τ := τ) osem c ∗ unscopedSems0 c)
      ⊢ (bigSep Finset.univ fun k : Option CI => semVal (kcell (c, k)) 0 : sProp 𝕄) := by
  rw [unscoped_eq, sep_cells]
  unfold Pipeline.ownSems0
  rw [sep_own]
  iintro ⟨⟨HS, HR⟩, HB⟩
  isplitl [HB]; · iexact HB
  isplitl [HS]; · iexact HS
  iexact HR

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (counters_eq (F := F) c) $$ [Hos Hus]
  · isplitl [Hos] <;> iassumption
  ihave Htok := (minted_toks (F := F) c) $$ Htok
  imod (show iprop((bigSep Finset.univ fun k : Option CI => semVal (kcell (c, k)) 0) ∗ bigSep Finset.univ fun k : Option CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : KK => iprop(∃ κ : ℕ, cellInv ER (Rd m) κ (kcell ck))),
    bigSep_congr (s := Finset.univ) (fun (c : Dev nD) _ => bigSep_sep' Finset.univ (fun k : Option CI => (atPos ER (kcell (c, k)) 0 ∅ 0 : sProp 𝕄)) (fun k => reached ER (kcell (c, k)) 0)),
    bigSep_sep', ← bigSep_univ_prod (fun ck : KK => (reached ER (kcell ck) 0 : sProp 𝕄))]
  iintro ⟨HI, ⟨Hat, #HR⟩, Htok⟩
  ihave HK := (BI.bigSep_exists_pi Finset.univ (fun (ck : KK) (κ : ℕ) => (cellInv ER (Rd m) κ (kcell ck) : sProp 𝕄))) $$ HI
  icases HK with ⟨%K, #HI⟩
  ihave Htk := (toks_around (F := F)) $$ Htok
  iapply (BI.bigSep_with_persistent (R := records m K) (Φ := fun c => linear c) (Ψ := G' m) fun c _ => by
    unfold G'; iintro ⟨#H, Hl⟩; iexists K; isplitr; · iexact H
    iexact Hl)
  isplitr
  · unfold records; isplitl; · iexact HI
    iexact HR
  · iapply (Entails.of_eq (bigSep_sep' Finset.univ (fun c : Dev nD => bigSep Finset.univ fun k : Option CI => (atPos ER (kcell (c, k)) 0 ∅ 0 : sProp 𝕄)) payToks).symm)
    isplitl [Hat]; · iexact Hat
    iexact Htk

/-- All devices at once: the invariants allocated, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem sum12 (f : Fin 12 → ℕ) : ∑ n, f n = 0 + f 11 + f 10 + f 9 + f 8 + f 7 + f 6 + f 5 + f 4 + f 3 + f 2 + f 1 + f 0 := by
  rw [Fin.sum_univ_eq_sum_range (fun n => f (Fin.ofNat 12 n)) 12 |>.symm.trans (Finset.sum_congr rfl fun n _ => congrArg f (Fin.ext (Nat.mod_eq_of_lt n.isLt))) |>.symm]
  simp only [Finset.sum_range_succ, Finset.sum_range_zero]
  show 0 + f 0 + f 1 + f 2 + f 3 + f 4 + f 5 + f 6 + f 7 + f 8 + f 9 + f 10 + f 11 = _
  omega

/-- All that a device owes, payment by payment. -/
theorem owe_all (d : Dev nD) (g : GSem nD τ sig) : owe d 12 g () = ∑ n : Fin 12, if g = payCell d n then payAmt n else 0 := by
  rw [sum12]
  have h (n : Fin 12) : (tallyAt (payCell d n) () (payAmt n) : CellTallies nD τ sig Unit) g () = if g = payCell d n then payAmt n else 0 := by
    rw [tallyAt_apply]
    by_cases hg : g = payCell d n
    · rw [if_pos ⟨hg, rfl⟩, if_pos hg]
    · rw [if_neg fun h => hg h.1, if_neg hg]
  simp only [← h]
  rfl

theorem pay_iff (c d : Dev nD) (k : Option CI) (n : Fin 12) :
    Iff (kcell (c, k) = payCell d n) (d = pt (payAx n) c ∧ k = kindCI (payKind n)) := by
  unfold payCell
  constructor
  · intro h
    have h' := kcell_injective h
    have h1 : c = pt (payAx n) d := congrArg Prod.fst h'
    exact ⟨by rw [h1, pt_pt], congrArg Prod.snd h'⟩
  · rintro ⟨h1, h2⟩; rw [h1, pt_pt, h2]

/-- What the devices owe a cell between them. -/
theorem owed_cell (c : Dev nD) (k : Option CI) :
    ∑ d : Dev nD, owe d 12 (kcell (c, k)) () = ∑ n : Fin 12, if k = kindCI (payKind n) then payAmt n else 0 := by
  rw [Finset.sum_congr rfl fun d _ => owe_all d (kcell (c, k)), Finset.sum_comm]
  refine Finset.sum_congr rfl fun n _ => ?_
  rw [Finset.sum_congr rfl fun d _ => if_congr (pay_iff c d k n) rfl rfl]
  by_cases hk : k = kindCI (payKind n)
  · rw [if_pos hk, Finset.sum_congr rfl fun d _ => if_congr (and_iff_left hk) rfl rfl, Finset.sum_ite_eq' Finset.univ (pt (payAx n) c) fun _ => payAmt n,
      if_pos (Finset.mem_univ _)]
  · rw [if_neg hk]
    exact Finset.sum_eq_zero fun d _ => if_neg fun h => hk h.2

theorem owed_bar (c : Dev nD) : ∑ d : Dev nD, owe d 12 (barCell c) () = 3 := by
  rw [show barCell c = kcell (c, none) from rfl, owed_cell]
  have h : ∀ n : Fin 12, (if (none : Option CI) = kindCI (payKind n) then payAmt n else 0) = if (none : Option CI) = kindCI (payKind n) then 1 else 0 := by
    intro n
    fin_cases n <;> rfl
  rw [Finset.sum_congr rfl fun n _ => h n]
  decide

theorem owed_recv (c : Dev nD) (i : Fin 9) : ∑ d : Dev nD, owe d 12 (recvCell i c) () = Nc i := by
  rw [show recvCell i c = kcell (c, some (true, i)) from rfl, owed_cell,
    Finset.sum_eq_single (⟨i.val + 3, by omega⟩ : Fin 12)]
  · have h : ∀ i : Fin 9, (some (true, i) : Option CI) = kindCI (payKind ⟨i.val + 3, by omega⟩) := by decide
    rw [if_pos (h i)]
    fin_cases i <;> rfl
  · intro n _ hn
    have h : ∀ (i : Fin 9) (n : Fin 12), (some (true, i) : Option CI) = kindCI (payKind n) → n = ⟨i.val + 3, by omega⟩ := by decide
    exact if_neg fun e => hn (h i n e)
  · intro h; exact absurd (Finset.mem_univ _) h

def O₀ (c : Dev nD) : CellTallies nD τ sig Unit := owe c 12

theorem launch_at (c : Dev nD) (sm : SemLoc sig) (N : ℕ) (h : ∑ d : Dev nD, owe d 12 ((c : Thread nD τ), sm) () = N) :
    tallyOn ((c : Thread nD τ), sm) (launchCredit (Pipeline.owing O₀) 0 ((c : Thread nD τ), sm))
      = (tallyAt ((c : Thread nD τ), sm) () N : CellTallies nD τ sig Unit) := by
  unfold tallyAt; refine congrArg _ (Finsupp.ext fun u => ?_); cases u
  rw [Pipeline.launchCredit_owing, Finsupp.single_eq_same]
  exact h

omit [FloatOps F] in
theorem creds (c : Dev nD) :
    (Pipeline.launchCred O₀ c : sProp 𝕄)
      ⊢ iprop(cred (tallyAt (barCell c) () 3) ∗ bigSep Finset.univ fun i : Fin 9 => cred (tallyAt (recvCell i c) () (Nc i))) := by
  have hinj : Function.Injective fun i : Fin 9 => (SemLoc.dma (recvS i) : SemLoc sig) := fun i j h => by
    have := csem_injective (a₁ := some (true, i)) (a₂ := some (true, j)) h
    cases this; rfl
  have hsub : Finset.univ.map ⟨fun i : Fin 9 => (SemLoc.dma (recvS i) : SemLoc sig), hinj⟩ ⊆ Finset.univ.erase (SemLoc.reg barS) := by
    intro x hx
    obtain ⟨i, -, rfl⟩ := Finset.mem_map.mp hx
    exact Finset.mem_erase.mpr ⟨fun h => (by cases h), Finset.mem_univ _⟩
  unfold Pipeline.launchCred
  rw [bigSep_univ_at _ (SemLoc.reg barS), launch_at c (.reg barS) 3 (owed_bar c)]
  refine sep_mono_right ((bigSep_subset hsub).trans ?_)
  rw [bigSep_map]
  exact bigSep_mono fun i _ => Entails.of_eq (congrArg (cred : CellTallies nD τ sig Unit → sProp 𝕄) (launch_at c (.dma (recvS i)) (Nc i) (owed_recv c i)))

/-- What the body of device `c` starts from. -/
def start (c : Dev nD) : sProp 𝕄 := iprop((∃ K, Rec m K) ∗ tb c ∗ bigSep Finset.univ fun i : Fin 9 => tk i c)

theorem start_make (c : Dev nD) : iprop(levAts L lv ∗ Pipeline.launchCred O₀ c ∗ G' m c) ⊢ start m c := by
  unfold G' records linear payToks start tb tk
  rw [sep_cells, bigSep_sep', bigSep_sep', bigSep_sep', bigSep_sep']
  iintro ⟨#Hlev, Hcr, ⟨%K, ⟨#HI, #HR⟩, ⟨HaB, HaS, HaV⟩, ⟨Ht0, Ht1, Ht2⟩, HtS, HtV⟩⟩
  ihave Hc := (creds (F := F) c) $$ Hcr
  icases Hc with ⟨HcB, HcV⟩
  isplitr
  · iexists K; unfold Rec
    isplitr; · iexact HI
    isplitr; · iexact HR
    iexact Hlev
  isplitl [Ht0 Ht1 Ht2 HaB HcB]
  · isplitl [Ht0]; · iexact Ht0
    isplitl [Ht1]; · iexact Ht1
    isplitl [Ht2]; · iexact Ht2
    isplitl [HaB]; · iexact HaB
    iexact HcB
  isplitl [HtS]; · iexact HtS
  isplitl [HtV]; · iexact HtV
  isplitl [HaS]; · iexact HaS
  isplitl [HaV]; · iexact HaV
  iexact HcV

end Cert.KernelIdeal.Pf

end
-- ==== Proof.KiForms.lean ====
/-
# The rules' common forms

A buffer held whole (`pts`), and what a load or a store through the whole of it reads or leaves.
-/
module

public import proofs.«01_k».proof.Proof.KiSteps

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c` holds its buffer `b` at contents `f`. -/
abbrev pts (c : Dev nD) (b : Ref sig .tc) (f : b.ty.Contents (Elt F)) : sProp 𝕄 := (((c : Thread nD τ).loc b) ↦{fullShare} f)

omit [FloatOps F] in
theorem ptsCast (c : Dev nD) (r : Ref sig .tc) {a b : r.ty.Contents (Elt F)} (h : a = b) : (pts c r a : sProp 𝕄) ⊢ pts c r b := Entails.of_eq (by rw [h])

/-- A program that returns `a` meets what holds of `a`. -/
theorem wp_done {α : Type} {c : Dev nD} {Q : α → sProp 𝕄} (a : α) :
    Q a ⊢ wp frame (wpE (defs₀ (F := F)) 𝒱₀ (c : Thread nD τ) none) Set.univ (.ret a) Q := by
  rw [wp_ret]; iintro H; imodintro; iexact H

omit [FloatOps F] in
theorem hz3 : (![0, 0, 0] : Fin 3 → Nat) = fun _ => 0 := funext fun a => by fin_cases a <;> rfl
omit [FloatOps F] in
theorem rd_acc0 (f : (cc0_scratch0 : Ref sig .tc).ty.Contents (Elt F)) :
    acc0.view.readAt (Elt F) (Rect.unit (s := S4x512x640) ![0, 0, 0] S4x512x640.size inb_S4x512x640_S4x512x640_0_0_0).toLoadRect f = f :=
  Memref.readAt_unit_zero (Elt F) cc0_scratch0 hz3 _ f
omit [FloatOps F] in
theorem wr_acc0 (f w : (cc0_scratch0 : Ref sig .tc).ty.Contents (Elt F)) :
    (acc0.access (Rect.unit (s := S4x512x640) ![0, 0, 0] S4x512x640.size inb_S4x512x640_S4x512x640_0_0_0) : View sig .tc _ _ _).write (Elt F) f w Finset.univ = w :=
  Memref.write_access_unit_zero_univ (Elt F) cc0_scratch0 hz3 _ f w
omit [FloatOps F] in
theorem rd_ra0 (f : (cc0_scratch2 : Ref sig .tc).ty.Contents (Elt F)) :
    ra0.view.readAt (Elt F) (Rect.unit (s := S4x512x640) ![0, 0, 0] S4x512x640.size inb_S4x512x640_S4x512x640_0_0_0).toLoadRect f = f :=
  Memref.readAt_unit_zero (Elt F) cc0_scratch2 hz3 _ f
omit [FloatOps F] in
theorem wr_sb0 (f w : (cc0_scratch3 : Ref sig .tc).ty.Contents (Elt F)) :
    (sb0.access (Rect.unit (s := S2x512x640) ![0, 0, 0] S2x512x640.size inb_S2x512x640_S2x512x640_0_0_0) : View sig .tc _ _ _).write (Elt F) f w Finset.univ = w :=
  Memref.write_access_unit_zero_univ (Elt F) cc0_scratch3 hz3 _ f w
omit [FloatOps F] in
theorem rd_rb0 (f : (cc0_scratch4 : Ref sig .tc).ty.Contents (Elt F)) :
    rb0.view.readAt (Elt F) (Rect.unit (s := S2x512x640) ![0, 0, 0] S2x512x640.size inb_S2x512x640_S2x512x640_0_0_0).toLoadRect f = f :=
  Memref.readAt_unit_zero (Elt F) cc0_scratch4 hz3 _ f
omit [FloatOps F] in
theorem wr_sc0 (f w : (cc0_scratch5 : Ref sig .tc).ty.Contents (Elt F)) :
    (sc0.access (Rect.unit (s := S1x512x640) ![0, 0, 0] S1x512x640.size inb_S1x512x640_S1x512x640_0_0_0) : View sig .tc _ _ _).write (Elt F) f w Finset.univ = w :=
  Memref.write_access_unit_zero_univ (Elt F) cc0_scratch5 hz3 _ f w
omit [FloatOps F] in
theorem rd_rc0 (f : (cc0_scratch6 : Ref sig .tc).ty.Contents (Elt F)) :
    rc0.view.readAt (Elt F) (Rect.unit (s := S1x512x640) ![0, 0, 0] S1x512x640.size inb_S1x512x640_S1x512x640_0_0_0).toLoadRect f = f :=
  Memref.readAt_unit_zero (Elt F) cc0_scratch6 hz3 _ f
omit [FloatOps F] in
theorem rd_acc1 (f : (cc0_scratch9 : Ref sig .tc).ty.Contents (Elt F)) :
    acc1.view.readAt (Elt F) (Rect.unit (s := S4x512x640) ![0, 0, 0] S4x512x640.size inb_S4x512x640_S4x512x640_0_0_0).toLoadRect f = f :=
  Memref.readAt_unit_zero (Elt F) cc0_scratch9 hz3 _ f
omit [FloatOps F] in
theorem wr_acc1 (f w : (cc0_scratch9 : Ref sig .tc).ty.Contents (Elt F)) :
    (acc1.access (Rect.unit (s := S4x512x640) ![0, 0, 0] S4x512x640.size inb_S4x512x640_S4x512x640_0_0_0) : View sig .tc _ _ _).write (Elt F) f w Finset.univ = w :=
  Memref.write_access_unit_zero_univ (Elt F) cc0_scratch9 hz3 _ f w
omit [FloatOps F] in
theorem rd_ra1 (f : (cc0_scratch11 : Ref sig .tc).ty.Contents (Elt F)) :
    ra1.view.readAt (Elt F) (Rect.unit (s := S4x512x640) ![0, 0, 0] S4x512x640.size inb_S4x512x640_S4x512x640_0_0_0).toLoadRect f = f :=
  Memref.readAt_unit_zero (Elt F) cc0_scratch11 hz3 _ f
omit [FloatOps F] in
theorem wr_sb1 (f w : (cc0_scratch12 : Ref sig .tc).ty.Contents (Elt F)) :
    (sb1.access (Rect.unit (s := S2x512x640) ![0, 0, 0] S2x512x640.size inb_S2x512x640_S2x512x640_0_0_0) : View sig .tc _ _ _).write (Elt F) f w Finset.univ = w :=
  Memref.write_access_unit_zero_univ (Elt F) cc0_scratch12 hz3 _ f w
omit [FloatOps F] in
theorem rd_rb1 (f : (cc0_scratch13 : Ref sig .tc).ty.Contents (Elt F)) :
    rb1.view.readAt (Elt F) (Rect.unit (s := S2x512x640) ![0, 0, 0] S2x512x640.size inb_S2x512x640_S2x512x640_0_0_0).toLoadRect f = f :=
  Memref.readAt_unit_zero (Elt F) cc0_scratch13 hz3 _ f
omit [FloatOps F] in
theorem wr_sc1 (f w : (cc0_scratch14 : Ref sig .tc).ty.Contents (Elt F)) :
    (sc1.access (Rect.unit (s := S1x512x640) ![0, 0, 0] S1x512x640.size inb_S1x512x640_S1x512x640_0_0_0) : View sig .tc _ _ _).write (Elt F) f w Finset.univ = w :=
  Memref.write_access_unit_zero_univ (Elt F) cc0_scratch14 hz3 _ f w
omit [FloatOps F] in
theorem rd_rc1 (f : (cc0_scratch15 : Ref sig .tc).ty.Contents (Elt F)) :
    rc1.view.readAt (Elt F) (Rect.unit (s := S1x512x640) ![0, 0, 0] S1x512x640.size inb_S1x512x640_S1x512x640_0_0_0).toLoadRect f = f :=
  Memref.readAt_unit_zero (Elt F) cc0_scratch15 hz3 _ f
omit [FloatOps F] in
theorem rd_acc2 (f : (cc0_scratch18 : Ref sig .tc).ty.Contents (Elt F)) :
    acc2.view.readAt (Elt F) (Rect.unit (s := S4x512x768) ![0, 0, 0] S4x512x768.size inb_S4x512x768_S4x512x768_0_0_0).toLoadRect f = f :=
  Memref.readAt_unit_zero (Elt F) cc0_scratch18 hz3 _ f
omit [FloatOps F] in
theorem wr_acc2 (f w : (cc0_scratch18 : Ref sig .tc).ty.Contents (Elt F)) :
    (acc2.access (Rect.unit (s := S4x512x768) ![0, 0, 0] S4x512x768.size inb_S4x512x768_S4x512x768_0_0_0) : View sig .tc _ _ _).write (Elt F) f w Finset.univ = w :=
  Memref.write_access_unit_zero_univ (Elt F) cc0_scratch18 hz3 _ f w
omit [FloatOps F] in
theorem rd_ra2 (f : (cc0_scratch20 : Ref sig .tc).ty.Contents (Elt F)) :
    ra2.view.readAt (Elt F) (Rect.unit (s := S4x512x768) ![0, 0, 0] S4x512x768.size inb_S4x512x768_S4x512x768_0_0_0).toLoadRect f = f :=
  Memref.readAt_unit_zero (Elt F) cc0_scratch20 hz3 _ f
omit [FloatOps F] in
theorem wr_sb2 (f w : (cc0_scratch21 : Ref sig .tc).ty.Contents (Elt F)) :
    (sb2.access (Rect.unit (s := S2x512x768) ![0, 0, 0] S2x512x768.size inb_S2x512x768_S2x512x768_0_0_0) : View sig .tc _ _ _).write (Elt F) f w Finset.univ = w :=
  Memref.write_access_unit_zero_univ (Elt F) cc0_scratch21 hz3 _ f w
omit [FloatOps F] in
theorem rd_rb2 (f : (cc0_scratch22 : Ref sig .tc).ty.Contents (Elt F)) :
    rb2.view.readAt (Elt F) (Rect.unit (s := S2x512x768) ![0, 0, 0] S2x512x768.size inb_S2x512x768_S2x512x768_0_0_0).toLoadRect f = f :=
  Memref.readAt_unit_zero (Elt F) cc0_scratch22 hz3 _ f
omit [FloatOps F] in
theorem wr_sc2 (f w : (cc0_scratch23 : Ref sig .tc).ty.Contents (Elt F)) :
    (sc2.access (Rect.unit (s := S1x512x768) ![0, 0, 0] S1x512x768.size inb_S1x512x768_S1x512x768_0_0_0) : View sig .tc _ _ _).write (Elt F) f w Finset.univ = w :=
  Memref.write_access_unit_zero_univ (Elt F) cc0_scratch23 hz3 _ f w
omit [FloatOps F] in
theorem rd_rc2 (f : (cc0_scratch24 : Ref sig .tc).ty.Contents (Elt F)) :
    rc2.view.readAt (Elt F) (Rect.unit (s := S1x512x768) ![0, 0, 0] S1x512x768.size inb_S1x512x768_S1x512x768_0_0_0).toLoadRect f = f :=
  Memref.readAt_unit_zero (Elt F) cc0_scratch24 hz3 _ f

end Cert.KernelIdeal.Pf

end
-- ==== Proof.KiBodyA.lean ====
/-
# The body, parts 1 to 5
-/
module

public import proofs.«01_k».proof.Proof.KiForms

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KK → ℕ)

set_option maxHeartbeats 4000000 in
/-- Part 1 of the body, from the buffers and tokens it uses to what it leaves of them. -/
theorem part1 (c : Dev nD) (Kt : (Σ' (d0 : Dev nD) (v2 : BitVec 32) (v23 : BitVec 32) (v24 : BitVec 32) (v38 : BitVec 1), BitVec 32) → sProp 𝕄) :
    iprop((∀ w0 : BitVec 32, ∀ w1 : BitVec 32, ∀ w2 : BitVec 32, ∀ w3 : BitVec 1, ∀ w4 : BitVec 32, Kt ⟨c, w0, w1, w2, w3, w4⟩))
      ⊢ wp frame (wpE (defs₀ (F := F)) 𝒱₀ (c : Thread nD τ) none) Set.univ
          (k0_part1_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 ) Kt := by
  unfold k0_part1_skel
  simp only [semSignalWord, semWaitWord, smemLoad, smemLoadElt, Prog.lift, Prog.bind_op, Prog.bind_ret, Prog.pure_eq_ret, wp_deviceId]
  iintro Hk
  iapply (wp_done (c := c) (Q := Kt) ⟨c, _, _, _, _, _⟩)
  iapply Hk

set_option maxHeartbeats 4000000 in
/-- Part 2 of the body, from the buffers and tokens it uses to what it leaves of them. -/
theorem part2 (c : Dev nD) (v2 : BitVec 32) (v23 : BitVec 32) (v24 : BitVec 32) (v38 : BitVec 1) (v39 : BitVec 32) (Kt : (Σ' (v40 : BitVec 32) (v57 : BitVec 32), Sems sig S_) → sProp 𝕄) :
    iprop(Rec m K ∗ ow c 12 ∗ (dutyTok ER (barCell (pt 0 c)) 0 0) ∗ barPay 0 (pt 0 c) ∗ (dutyTok ER (barCell (pt 1 c)) 0 1) ∗ barPay 1 (pt 1 c) ∗ (∀ w0 : BitVec 32, ∀ w1 : BitVec 32, ow c 10 -∗ Kt ⟨w0, w1, SemArray.scalar (sig.barrier 0 rfl)⟩))
      ⊢ wp frame (wpE (defs₀ (F := F)) 𝒱₀ (c : Thread nD τ) none) Set.univ
          (k0_part2_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v2 v23 v24 v38 v39) Kt := by
  unfold k0_part2_skel
  simp only [semSignalWord, semWaitWord, smemLoad, smemLoadElt, Prog.lift, Prog.bind_op, Prog.bind_ret, Prog.pure_eq_ret, wp_deviceId]
  iintro ⟨#HR, HO, Htb0, Hbp0, Htb1, Hbp1, Hk⟩
  iapply (step_signal m K 0 c _ (dev1_eq c) 11 _ (by decide) rfl) $$ [HO Htb0 Hbp0]
  · isplitr; · iexact HR
    isplitl [HO]; · iexact HO
    isplitl [Htb0] <;> iassumption
  iintro HO
  iapply (step_signal m K 1 c _ (dev2_eq c) 10 _ (by decide) rfl) $$ [HO Htb1 Hbp1]
  · isplitr; · iexact HR
    isplitl [HO]; · iexact HO
    isplitl [Htb1] <;> iassumption
  iintro HO
  iapply (wp_done (c := c) (Q := Kt) ⟨_, _, SemArray.scalar (sig.barrier 0 rfl)⟩)
  iapply Hk
  iexact HO

set_option maxHeartbeats 4000000 in
/-- Part 3 of the body, from the buffers and tokens it uses to what it leaves of them. -/
theorem part3 (c : Dev nD) (f_sa0 : (cc0_scratch1 : Ref sig .tc).ty.Contents (Elt F)) (v23 : BitVec 32) (v40 : BitVec 32) (v57 : BitVec 32) (Kt : (Σ' (v88 : FVec F S512x640 .bf16) (v91 : FVec F S512x640 .bf16), FVec F S512x768 .bf16) → sProp 𝕄) :
    iprop(Rec m K ∗ ow c 10 ∗ (dutyTok ER (barCell (pt 2 c)) 0 2) ∗ barPay 2 (pt 2 c) ∗ (atPos ER (barCell c) 0 ∅ 0) ∗ (cred (tallyAt (barCell c) () 3)) ∗ (pts c cc0_stg1_0 (wstg m c)) ∗ (pts c cc0_stg0_0 (xstg m c)) ∗ (pts c cc0_scratch1 (f_sa0)) ∗ (ow c 9 ∗ (semVal (barCell c) 0) ∗ barPay 0 c ∗ barPay 1 c ∗ barPay 2 c ∗ (pts c cc0_stg1_0 (wstg m c)) ∗ (pts c cc0_stg0_0 (xstg m c)) ∗ (pts c cc0_scratch1 (sa0.view.writes (Elt F) (f_sa0) [⟨(Rect.unit (s := S4x512x640) ![0, 0, 0] S1x512x640.size inb_S4x512x640_S1x512x640_0_0_0), p1_00 m c⟩])) -∗ Kt ⟨wv0 m c, wv1 m c, wv2 m c⟩))
      ⊢ wp frame (wpE (defs₀ (F := F)) 𝒱₀ (c : Thread nD τ) none) Set.univ
          (k0_part3_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 (SemArray.scalar (sig.barrier 0 rfl))) Kt := by
  unfold k0_part3_skel
  simp only [semSignalWord, semWaitWord, smemLoad, smemLoadElt, Prog.lift, Prog.bind_op, Prog.bind_ret, Prog.pure_eq_ret, wp_deviceId]
  iintro ⟨#HR, HO, Htb2, Hbp2, HatB, HcrB, HwM, HxM, Hsa0, Hk⟩
  iapply (step_signal m K 2 c _ (dev3_eq c) 9 _ (by decide) rfl) $$ [HO Htb2 Hbp2]
  · isplitr; · iexact HR
    isplitl [HO]; · iexact HO
    isplitl [Htb2] <;> iassumption
  iintro HO
  iapply (step_bar m K c _ (by decide)) $$ [HO HatB HcrB]
  · isplitr; · iexact HR
    isplitl [HO]; · iexact HO
    isplitl [HatB] <;> iassumption
  iintro ⟨HO, HzB, Hbq0, Hbq1, Hbq2⟩
  iapply (wp_load 𝒱₀ (c : Thread nD τ) none Set.univ (m := wM) (Finset.subset_univ _)) $$ HwM; iintro HwM
  iapply (wp_load 𝒱₀ (c : Thread nD τ) none Set.univ (m := wM) (Finset.subset_univ _)) $$ HwM; iintro HwM
  iapply (wp_load 𝒱₀ (c : Thread nD τ) none Set.univ (m := wM) (Finset.subset_univ _)) $$ HwM; iintro HwM
  iapply (wp_load 𝒱₀ (c : Thread nD τ) none Set.univ (m := xM) (Finset.subset_univ _)) $$ HxM; iintro HxM
  iapply (wp_load 𝒱₀ (c : Thread nD τ) none Set.univ (m := sa0) (Finset.subset_univ _)) $$ Hsa0; iintro Hsa0
  iapply (wp_store_writes₀ (Val := Elt F) 𝒱₀ (c : Thread nD τ) none Set.univ (m := sa0) (r := (Rect.unit (s := S4x512x640) ![0, 0, 0] S1x512x640.size inb_S4x512x640_S1x512x640_0_0_0)) (w := p1_00 m c) (f := f_sa0) (Finset.subset_univ _)) $$ Hsa0; iintro Hsa0
  iapply (wp_done (c := c) (Q := Kt) ⟨wv0 m c, wv1 m c, wv2 m c⟩)
  iapply Hk
  isplitl [HO]; · iexact HO
  isplitl [HzB]; · iexact HzB
  isplitl [Hbq0]; · iexact Hbq0
  isplitl [Hbq1]; · iexact Hbq1
  isplitl [Hbq2]; · iexact Hbq2
  isplitl [HwM]; · iexact HwM
  isplitl [HxM]; · iexact HxM
  iexact Hsa0

set_option maxHeartbeats 4000000 in
/-- Part 4 of the body, from the buffers and tokens it uses to what it leaves of them. -/
theorem part4 (c : Dev nD) (f_sa0 : (cc0_scratch1 : Ref sig .tc).ty.Contents (Elt F)) (v57 : BitVec 32) (Kt : (BitVec 32) → sProp 𝕄) :
    iprop((pts c cc0_stg0_0 (xstg m c)) ∗ (pts c cc0_scratch1 (sa0.view.writes (Elt F) (f_sa0) [⟨(Rect.unit (s := S4x512x640) ![0, 0, 0] S1x512x640.size inb_S4x512x640_S1x512x640_0_0_0), p1_00 m c⟩])) ∗ (∀ w0 : BitVec 32, (pts c cc0_stg0_0 (xstg m c)) ∗ (pts c cc0_scratch1 (sa0.view.writes (Elt F) (f_sa0) [⟨(Rect.unit (s := S4x512x640) ![2, 0, 0] S1x512x640.size inb_S4x512x640_S1x512x640_2_0_0), p1_02 m c⟩, ⟨(Rect.unit (s := S4x512x640) ![1, 0, 0] S1x512x640.size inb_S4x512x640_S1x512x640_1_0_0), p1_01 m c⟩, ⟨(Rect.unit (s := S4x512x640) ![0, 0, 0] S1x512x640.size inb_S4x512x640_S1x512x640_0_0_0), p1_00 m c⟩])) -∗ Kt (w0)))
      ⊢ wp frame (wpE (defs₀ (F := F)) 𝒱₀ (c : Thread nD τ) none) Set.univ
          (k0_part4_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v57 (wv0 m c)) Kt := by
  unfold k0_part4_skel
  simp only [semSignalWord, semWaitWord, smemLoad, smemLoadElt, Prog.lift, Prog.bind_op, Prog.bind_ret, Prog.pure_eq_ret, wp_deviceId]
  iintro ⟨HxM, Hsa0, Hk⟩
  iapply (wp_load 𝒱₀ (c : Thread nD τ) none Set.univ (m := xM) (Finset.subset_univ _)) $$ HxM; iintro HxM
  iapply (wp_load 𝒱₀ (c : Thread nD τ) none Set.univ (m := sa0) (Finset.subset_univ _)) $$ Hsa0; iintro Hsa0
  iapply (wp_store_writes (Val := Elt F) 𝒱₀ (c : Thread nD τ) none Set.univ (m := sa0) (r := (Rect.unit (s := S4x512x640) ![1, 0, 0] S1x512x640.size inb_S4x512x640_S1x512x640_1_0_0)) (w := p1_01 m c) (f := f_sa0) (L := [⟨(Rect.unit (s := S4x512x640) ![0, 0, 0] S1x512x640.size inb_S4x512x640_S1x512x640_0_0_0), p1_00 m c⟩]) (Finset.subset_univ _)) $$ Hsa0; iintro Hsa0
  iapply (wp_load 𝒱₀ (c : Thread nD τ) none Set.univ (m := xM) (Finset.subset_univ _)) $$ HxM; iintro HxM
  iapply (wp_load 𝒱₀ (c : Thread nD τ) none Set.univ (m := sa0) (Finset.subset_univ _)) $$ Hsa0; iintro Hsa0
  iapply (wp_store_writes (Val := Elt F) 𝒱₀ (c : Thread nD τ) none Set.univ (m := sa0) (r := (Rect.unit (s := S4x512x640) ![2, 0, 0] S1x512x640.size inb_S4x512x640_S1x512x640_2_0_0)) (w := p1_02 m c) (f := f_sa0) (L := [⟨(Rect.unit (s := S4x512x640) ![1, 0, 0] S1x512x640.size inb_S4x512x640_S1x512x640_1_0_0), p1_01 m c⟩, ⟨(Rect.unit (s := S4x512x640) ![0, 0, 0] S1x512x640.size inb_S4x512x640_S1x512x640_0_0_0), p1_00 m c⟩]) (Finset.subset_univ _)) $$ Hsa0; iintro Hsa0
  iapply (wp_done (c := c) (Q := Kt) _)
  iapply Hk
  isplitl [HxM]; · iexact HxM
  iexact Hsa0

set_option maxHeartbeats 4000000 in
/-- Part 5 of the body, from the buffers and tokens it uses to what it leaves of them. -/
theorem part5 (c : Dev nD) (f_sa0 : (cc0_scratch1 : Ref sig .tc).ty.Contents (Elt F)) (f_sa1 : (cc0_scratch10 : Ref sig .tc).ty.Contents (Elt F)) (v23 : BitVec 32) (v40 : BitVec 32) (v57 : BitVec 32) (v141 : BitVec 32) (Kt : (BitVec 32) → sProp 𝕄) :
    iprop(Rec m K ∗ (pts c cc0_stg0_0 (xstg m c)) ∗ (pts c cc0_scratch1 (sa0.view.writes (Elt F) (f_sa0) [⟨(Rect.unit (s := S4x512x640) ![2, 0, 0] S1x512x640.size inb_S4x512x640_S1x512x640_2_0_0), p1_02 m c⟩, ⟨(Rect.unit (s := S4x512x640) ![1, 0, 0] S1x512x640.size inb_S4x512x640_S1x512x640_1_0_0), p1_01 m c⟩, ⟨(Rect.unit (s := S4x512x640) ![0, 0, 0] S1x512x640.size inb_S4x512x640_S1x512x640_0_0_0), p1_00 m c⟩])) ∗ ow c 9 ∗ tk 0 c ∗ freePay 0 (pt 2 c) ∗ (pts c cc0_scratch10 (f_sa1)) ∗ (∀ w0 : BitVec 32, (pts c cc0_stg0_0 (xstg m c)) ∗ ow c 8 ∗ wt 0 c ∗ (pts c cc0_scratch10 (sa1.view.writes (Elt F) (f_sa1) [⟨(Rect.unit (s := S4x512x640) ![0, 0, 0] S1x512x640.size inb_S4x512x640_S1x512x640_0_0_0), p1_10 m c⟩])) -∗ Kt (w0)))
      ⊢ wp frame (wpE (defs₀ (F := F)) 𝒱₀ (c : Thread nD τ) none) Set.univ
          (k0_part5_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 (wv0 m c) (wv1 m c) v141) Kt := by
  unfold k0_part5_skel
  simp only [semSignalWord, semWaitWord, smemLoad, smemLoadElt, Prog.lift, Prog.bind_op, Prog.bind_ret, Prog.pure_eq_ret, wp_deviceId]
  iintro ⟨#HR, HxM, Hsa0, HO, Htk0, Hfr0, Hsa1, Hk⟩
  iapply (wp_load 𝒱₀ (c : Thread nD τ) none Set.univ (m := xM) (Finset.subset_univ _)) $$ HxM; iintro HxM
  iapply (wp_load 𝒱₀ (c : Thread nD τ) none Set.univ (m := sa0) (Finset.subset_univ _)) $$ Hsa0; iintro Hsa0
  iapply (wp_store_writes (Val := Elt F) 𝒱₀ (c : Thread nD τ) none Set.univ (m := sa0) (r := (Rect.unit (s := S4x512x640) ![3, 0, 0] S1x512x640.size inb_S4x512x640_S1x512x640_3_0_0)) (w := p1_03 m c) (f := f_sa0) (L := [⟨(Rect.unit (s := S4x512x640) ![2, 0, 0] S1x512x640.size inb_S4x512x640_S1x512x640_2_0_0), p1_02 m c⟩, ⟨(Rect.unit (s := S4x512x640) ![1, 0, 0] S1x512x640.size inb_S4x512x640_S1x512x640_1_0_0), p1_01 m c⟩, ⟨(Rect.unit (s := S4x512x640) ![0, 0, 0] S1x512x640.size inb_S4x512x640_S1x512x640_0_0_0), p1_00 m c⟩]) (Finset.subset_univ _)) $$ Hsa0; iintro Hsa0
  ihave Hsa0 := (ptsCast c cc0_scratch1 (b := S1_0 m c) (S1_0_eq m c (f_sa0))) $$ Hsa0
  iapply (send_0 m K c _ (dev4_eq c) _ _ (show ((cc0_scratch7.slice (Rect.unit (s := S3) ![0] S1.size inb_S3_S1_0)).squeeze S_ squeezes_S1_S_).sem = sendS 0 from rfl) (show ((cc0_scratch8.slice (Rect.unit (s := S3) ![0] S1.size inb_S3_S1_0)).squeeze S_ squeezes_S1_S_).sem = recvS 0 from rfl)) $$ [HO Htk0 Hsa0 Hfr0]
  · isplitr; · iexact HR
    isplitl [HO]; · iexact HO
    isplitl [Htk0]; · iexact Htk0
    isplitl [Hsa0] <;> iassumption
  iintro ⟨HO, Hwt0⟩
  iapply (wp_load 𝒱₀ (c : Thread nD τ) none Set.univ (m := xM) (Finset.subset_univ _)) $$ HxM; iintro HxM
  iapply (wp_load 𝒱₀ (c : Thread nD τ) none Set.univ (m := sa1) (Finset.subset_univ _)) $$ Hsa1; iintro Hsa1
  iapply (wp_store_writes₀ (Val := Elt F) 𝒱₀ (c : Thread nD τ) none Set.univ (m := sa1) (r := (Rect.unit (s := S4x512x640) ![0, 0, 0] S1x512x640.size inb_S4x512x640_S1x512x640_0_0_0)) (w := p1_10 m c) (f := f_sa1) (Finset.subset_univ _)) $$ Hsa1; iintro Hsa1
  iapply (wp_done (c := c) (Q := Kt) _)
  iapply Hk
  isplitl [HxM]; · iexact HxM
  isplitl [HO]; · iexact HO
  isplitl [Hwt0]; · iexact Hwt0
  iexact Hsa1

end Cert.KernelIdeal.Pf

end
-- ==== Proof.KiBodyB.lean ====
/-
# The body, parts 6 to 9
-/
module

public import proofs.«01_k».proof.Proof.KiForms

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KK → ℕ)

set_option maxHeartbeats 4000000 in
/-- Part 6 of the body, from the buffers and tokens it uses to what it leaves of them. -/
theorem part6 (c : Dev nD) (f_sa1 : (cc0_scratch10 : Ref sig .tc).ty.Contents (Elt F)) (v40 : BitVec 32) (Kt : (Σ' (v210 : FVec F S512x512 .bf16), FVec F S512x640 .f32) → sProp 𝕄) :
    iprop((pts c cc0_stg0_0 (xstg m c)) ∗ (pts c cc0_scratch10 (sa1.view.writes (Elt F) (f_sa1) [⟨(Rect.unit (s := S4x512x640) ![0, 0, 0] S1x512x640.size inb_S4x512x640_S1x512x640_0_0_0), p1_10 m c⟩])) ∗ ((pts c cc0_stg0_0 (xstg m c)) ∗ (pts c cc0_scratch10 (sa1.view.writes (Elt F) (f_sa1) [⟨(Rect.unit (s := S4x512x640) ![2, 0, 0] S1x512x640.size inb_S4x512x640_S1x512x640_2_0_0), p1_12 m c⟩, ⟨(Rect.unit (s := S4x512x640) ![1, 0, 0] S1x512x640.size inb_S4x512x640_S1x512x640_1_0_0), p1_11 m c⟩, ⟨(Rect.unit (s := S4x512x640) ![0, 0, 0] S1x512x640.size inb_S4x512x640_S1x512x640_0_0_0), p1_10 m c⟩])) -∗ Kt ⟨k0_pay12 (xRd m c (k0_off2 c 5#32 1#32) (k0_off2_inb c 3)), constant S512x640 .f32 0x00000000#32⟩))
      ⊢ wp frame (wpE (defs₀ (F := F)) 𝒱₀ (c : Thread nD τ) none) Set.univ
          (k0_part6_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v40 (wv1 m c)) Kt := by
  unfold k0_part6_skel
  simp only [semSignalWord, semWaitWord, smemLoad, smemLoadElt, Prog.lift, Prog.bind_op, Prog.bind_ret, Prog.pure_eq_ret, wp_deviceId]
  iintro ⟨HxM, Hsa1, Hk⟩
  iapply (wp_load 𝒱₀ (c : Thread nD τ) none Set.univ (m := xM) (Finset.subset_univ _)) $$ HxM; iintro HxM
  iapply (wp_load 𝒱₀ (c : Thread nD τ) none Set.univ (m := sa1) (Finset.subset_univ _)) $$ Hsa1; iintro Hsa1
  iapply (wp_store_writes (Val := Elt F) 𝒱₀ (c : Thread nD τ) none Set.univ (m := sa1) (r := (Rect.unit (s := S4x512x640) ![1, 0, 0] S1x512x640.size inb_S4x512x640_S1x512x640_1_0_0)) (w := p1_11 m c) (f := f_sa1) (L := [⟨(Rect.unit (s := S4x512x640) ![0, 0, 0] S1x512x640.size inb_S4x512x640_S1x512x640_0_0_0), p1_10 m c⟩]) (Finset.subset_univ _)) $$ Hsa1; iintro Hsa1
  iapply (wp_load 𝒱₀ (c : Thread nD τ) none Set.univ (m := xM) (Finset.subset_univ _)) $$ HxM; iintro HxM
  iapply (wp_load 𝒱₀ (c : Thread nD τ) none Set.univ (m := sa1) (Finset.subset_univ _)) $$ Hsa1; iintro Hsa1
  iapply (wp_store_writes (Val := Elt F) 𝒱₀ (c : Thread nD τ) none Set.univ (m := sa1) (r := (Rect.unit (s := S4x512x640) ![2, 0, 0] S1x512x640.size inb_S4x512x640_S1x512x640_2_0_0)) (w := p1_12 m c) (f := f_sa1) (L := [⟨(Rect.unit (s := S4x512x640) ![1, 0, 0] S1x512x640.size inb_S4x512x640_S1x512x640_1_0_0), p1_11 m c⟩, ⟨(Rect.unit (s := S4x512x640) ![0, 0, 0] S1x512x640.size inb_S4x512x640_S1x512x640_0_0_0), p1_10 m c⟩]) (Finset.subset_univ _)) $$ Hsa1; iintro Hsa1
  iapply (wp_load 𝒱₀ (c : Thread nD τ) none Set.univ (m := xM) (Finset.subset_univ _)) $$ HxM; iintro HxM
  iapply (wp_done (c := c) (Q := Kt) ⟨k0_pay12 (xRd m c (k0_off2 c 5#32 1#32) (k0_off2_inb c 3)), constant S512x640 .f32 0x00000000#32⟩)
  iapply Hk
  isplitl [HxM]; · iexact HxM
  iexact Hsa1

set_option maxHeartbeats 4000000 in
/-- Part 7 of the body, from the buffers and tokens it uses to what it leaves of them. -/
theorem part7 (c : Dev nD) (f_sa1 : (cc0_scratch10 : Ref sig .tc).ty.Contents (Elt F)) (f_sa2 : (cc0_scratch19 : Ref sig .tc).ty.Contents (Elt F)) (v23 : BitVec 32) (v40 : BitVec 32) (v57 : BitVec 32) (Kt : (Σ' (v222 : BitVec 32), BitVec 32) → sProp 𝕄) :
    iprop(Rec m K ∗ (pts c cc0_scratch10 (sa1.view.writes (Elt F) (f_sa1) [⟨(Rect.unit (s := S4x512x640) ![2, 0, 0] S1x512x640.size inb_S4x512x640_S1x512x640_2_0_0), p1_12 m c⟩, ⟨(Rect.unit (s := S4x512x640) ![1, 0, 0] S1x512x640.size inb_S4x512x640_S1x512x640_1_0_0), p1_11 m c⟩, ⟨(Rect.unit (s := S4x512x640) ![0, 0, 0] S1x512x640.size inb_S4x512x640_S1x512x640_0_0_0), p1_10 m c⟩])) ∗ ow c 8 ∗ tk 1 c ∗ freePay 1 (pt 1 c) ∗ (pts c cc0_stg0_0 (xstg m c)) ∗ (pts c cc0_scratch19 (f_sa2)) ∗ (∀ w0 : BitVec 32, ∀ w1 : BitVec 32, ow c 7 ∗ wt 1 c ∗ (pts c cc0_stg0_0 (xstg m c)) ∗ (pts c cc0_scratch19 (sa2.view.writes (Elt F) (f_sa2) [⟨(Rect.unit (s := S4x512x768) ![0, 0, 0] S1x512x768.size inb_S4x512x768_S1x512x768_0_0_0), p1_20 m c⟩])) -∗ Kt ⟨w0, w1⟩))
      ⊢ wp frame (wpE (defs₀ (F := F)) 𝒱₀ (c : Thread nD τ) none) Set.univ
          (k0_part7_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 (wv1 m c) (wv2 m c) (k0_pay12 (xRd m c (k0_off2 c 5#32 1#32) (k0_off2_inb c 3))) (constant S512x640 .f32 0x00000000#32)) Kt := by
  unfold k0_part7_skel
  simp only [semSignalWord, semWaitWord, smemLoad, smemLoadElt, Prog.lift, Prog.bind_op, Prog.bind_ret, Prog.pure_eq_ret, wp_deviceId]
  iintro ⟨#HR, Hsa1, HO, Htk1, Hfr1, HxM, Hsa2, Hk⟩
  iapply (wp_load 𝒱₀ (c : Thread nD τ) none Set.univ (m := sa1) (Finset.subset_univ _)) $$ Hsa1; iintro Hsa1
  iapply (wp_store_writes (Val := Elt F) 𝒱₀ (c : Thread nD τ) none Set.univ (m := sa1) (r := (Rect.unit (s := S4x512x640) ![3, 0, 0] S1x512x640.size inb_S4x512x640_S1x512x640_3_0_0)) (w := p1_13 m c) (f := f_sa1) (L := [⟨(Rect.unit (s := S4x512x640) ![2, 0, 0] S1x512x640.size inb_S4x512x640_S1x512x640_2_0_0), p1_12 m c⟩, ⟨(Rect.unit (s := S4x512x640) ![1, 0, 0] S1x512x640.size inb_S4x512x640_S1x512x640_1_0_0), p1_11 m c⟩, ⟨(Rect.unit (s := S4x512x640) ![0, 0, 0] S1x512x640.size inb_S4x512x640_S1x512x640_0_0_0), p1_10 m c⟩]) (Finset.subset_univ _)) $$ Hsa1; iintro Hsa1
  ihave Hsa1 := (ptsCast c cc0_scratch10 (b := S1_1 m c) (S1_1_eq m c (f_sa1))) $$ Hsa1
  iapply (send_1 m K c _ (dev5_eq c) _ _ (show ((cc0_scratch16.slice (Rect.unit (s := S3) ![0] S1.size inb_S3_S1_0)).squeeze S_ squeezes_S1_S_).sem = sendS 1 from rfl) (show ((cc0_scratch17.slice (Rect.unit (s := S3) ![0] S1.size inb_S3_S1_0)).squeeze S_ squeezes_S1_S_).sem = recvS 1 from rfl)) $$ [HO Htk1 Hsa1 Hfr1]
  · isplitr; · iexact HR
    isplitl [HO]; · iexact HO
    isplitl [Htk1]; · iexact Htk1
    isplitl [Hsa1] <;> iassumption
  iintro ⟨HO, Hwt1⟩
  iapply (wp_load 𝒱₀ (c : Thread nD τ) none Set.univ (m := xM) (Finset.subset_univ _)) $$ HxM; iintro HxM
  iapply (wp_load 𝒱₀ (c : Thread nD τ) none Set.univ (m := sa2) (Finset.subset_univ _)) $$ Hsa2; iintro Hsa2
  iapply (wp_store_writes₀ (Val := Elt F) 𝒱₀ (c : Thread nD τ) none Set.univ (m := sa2) (r := (Rect.unit (s := S4x512x768) ![0, 0, 0] S1x512x768.size inb_S4x512x768_S1x512x768_0_0_0)) (w := p1_20 m c) (f := f_sa2) (Finset.subset_univ _)) $$ Hsa2; iintro Hsa2
  iapply (wp_done (c := c) (Q := Kt) ⟨_, _⟩)
  iapply Hk
  isplitl [HO]; · iexact HO
  isplitl [Hwt1]; · iexact Hwt1
  isplitl [HxM]; · iexact HxM
  iexact Hsa2

set_option maxHeartbeats 4000000 in
/-- Part 8 of the body, from the buffers and tokens it uses to what it leaves of them. -/
theorem part8 (c : Dev nD) (f_sa2 : (cc0_scratch19 : Ref sig .tc).ty.Contents (Elt F)) (v23 : BitVec 32) (c1_i32_142 : BitVec 32) (Kt : (Σ' (v277 : BitVec 32) (v278 : BitVec 32), BitVec 32) → sProp 𝕄) :
    iprop((pts c cc0_stg0_0 (xstg m c)) ∗ (pts c cc0_scratch19 (sa2.view.writes (Elt F) (f_sa2) [⟨(Rect.unit (s := S4x512x768) ![0, 0, 0] S1x512x768.size inb_S4x512x768_S1x512x768_0_0_0), p1_20 m c⟩])) ∗ (∀ w0 : BitVec 32, ∀ w1 : BitVec 32, ∀ w2 : BitVec 32, (pts c cc0_stg0_0 (xstg m c)) ∗ (pts c cc0_scratch19 (sa2.view.writes (Elt F) (f_sa2) [⟨(Rect.unit (s := S4x512x768) ![2, 0, 0] S1x512x768.size inb_S4x512x768_S1x512x768_2_0_0), p1_22 m c⟩, ⟨(Rect.unit (s := S4x512x768) ![1, 0, 0] S1x512x768.size inb_S4x512x768_S1x512x768_1_0_0), p1_21 m c⟩, ⟨(Rect.unit (s := S4x512x768) ![0, 0, 0] S1x512x768.size inb_S4x512x768_S1x512x768_0_0_0), p1_20 m c⟩])) -∗ Kt ⟨w0, w1, w2⟩))
      ⊢ wp frame (wpE (defs₀ (F := F)) 𝒱₀ (c : Thread nD τ) none) Set.univ
          (k0_part8_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 (wv2 m c) c1_i32_142) Kt := by
  unfold k0_part8_skel
  simp only [semSignalWord, semWaitWord, smemLoad, smemLoadElt, Prog.lift, Prog.bind_op, Prog.bind_ret, Prog.pure_eq_ret, wp_deviceId]
  iintro ⟨HxM, Hsa2, Hk⟩
  iapply (wp_load 𝒱₀ (c : Thread nD τ) none Set.univ (m := xM) (Finset.subset_univ _)) $$ HxM; iintro HxM
  iapply (wp_load 𝒱₀ (c : Thread nD τ) none Set.univ (m := sa2) (Finset.subset_univ _)) $$ Hsa2; iintro Hsa2
  iapply (wp_store_writes (Val := Elt F) 𝒱₀ (c : Thread nD τ) none Set.univ (m := sa2) (r := (Rect.unit (s := S4x512x768) ![1, 0, 0] S1x512x768.size inb_S4x512x768_S1x512x768_1_0_0)) (w := p1_21 m c) (f := f_sa2) (L := [⟨(Rect.unit (s := S4x512x768) ![0, 0, 0] S1x512x768.size inb_S4x512x768_S1x512x768_0_0_0), p1_20 m c⟩]) (Finset.subset_univ _)) $$ Hsa2; iintro Hsa2
  iapply (wp_load 𝒱₀ (c : Thread nD τ) none Set.univ (m := xM) (Finset.subset_univ _)) $$ HxM; iintro HxM
  iapply (wp_load 𝒱₀ (c : Thread nD τ) none Set.univ (m := sa2) (Finset.subset_univ _)) $$ Hsa2; iintro Hsa2
  iapply (wp_store_writes (Val := Elt F) 𝒱₀ (c : Thread nD τ) none Set.univ (m := sa2) (r := (Rect.unit (s := S4x512x768) ![2, 0, 0] S1x512x768.size inb_S4x512x768_S1x512x768_2_0_0)) (w := p1_22 m c) (f := f_sa2) (L := [⟨(Rect.unit (s := S4x512x768) ![1, 0, 0] S1x512x768.size inb_S4x512x768_S1x512x768_1_0_0), p1_21 m c⟩, ⟨(Rect.unit (s := S4x512x768) ![0, 0, 0] S1x512x768.size inb_S4x512x768_S1x512x768_0_0_0), p1_20 m c⟩]) (Finset.subset_univ _)) $$ Hsa2; iintro Hsa2
  iapply (wp_done (c := c) (Q := Kt) ⟨_, _, _⟩)
  iapply Hk
  isplitl [HxM]; · iexact HxM
  iexact Hsa2

set_option maxHeartbeats 4000000 in
/-- Part 9 of the body, from the buffers and tokens it uses to what it leaves of them. -/
theorem part9 (c : Dev nD) (f_sa2 : (cc0_scratch19 : Ref sig .tc).ty.Contents (Elt F)) (v23 : BitVec 32) (v40 : BitVec 32) (v57 : BitVec 32) (v277 : BitVec 32) (v278 : BitVec 32) (c2_i32_166 : BitVec 32) (Kt : (Σ' (v299 : BitVec 32), FVec F S512x640 .f32) → sProp 𝕄) :
    iprop(Rec m K ∗ (pts c cc0_stg0_0 (xstg m c)) ∗ (pts c cc0_scratch19 (sa2.view.writes (Elt F) (f_sa2) [⟨(Rect.unit (s := S4x512x768) ![2, 0, 0] S1x512x768.size inb_S4x512x768_S1x512x768_2_0_0), p1_22 m c⟩, ⟨(Rect.unit (s := S4x512x768) ![1, 0, 0] S1x512x768.size inb_S4x512x768_S1x512x768_1_0_0), p1_21 m c⟩, ⟨(Rect.unit (s := S4x512x768) ![0, 0, 0] S1x512x768.size inb_S4x512x768_S1x512x768_0_0_0), p1_20 m c⟩])) ∗ ow c 7 ∗ tk 2 c ∗ freePay 2 (pt 0 c) ∗ (∀ w0 : BitVec 32, (pts c cc0_stg0_0 (xstg m c)) ∗ ow c 6 ∗ wt 2 c -∗ Kt ⟨w0, k0_pay18 (wv0 m c) (xRd m c (k0_off4 c 0#32 0#32) (k0_off4_inb c 0))⟩))
      ⊢ wp frame (wpE (defs₀ (F := F)) 𝒱₀ (c : Thread nD τ) none) Set.univ
          (k0_part9_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 (wv0 m c) (wv2 m c) v277 v278 c2_i32_166) Kt := by
  unfold k0_part9_skel
  simp only [semSignalWord, semWaitWord, smemLoad, smemLoadElt, Prog.lift, Prog.bind_op, Prog.bind_ret, Prog.pure_eq_ret, wp_deviceId]
  iintro ⟨#HR, HxM, Hsa2, HO, Htk2, Hfr2, Hk⟩
  iapply (wp_load 𝒱₀ (c : Thread nD τ) none Set.univ (m := xM) (Finset.subset_univ _)) $$ HxM; iintro HxM
  iapply (wp_load 𝒱₀ (c : Thread nD τ) none Set.univ (m := sa2) (Finset.subset_univ _)) $$ Hsa2; iintro Hsa2
  iapply (wp_store_writes (Val := Elt F) 𝒱₀ (c : Thread nD τ) none Set.univ (m := sa2) (r := (Rect.unit (s := S4x512x768) ![3, 0, 0] S1x512x768.size inb_S4x512x768_S1x512x768_3_0_0)) (w := p1_23 m c) (f := f_sa2) (L := [⟨(Rect.unit (s := S4x512x768) ![2, 0, 0] S1x512x768.size inb_S4x512x768_S1x512x768_2_0_0), p1_22 m c⟩, ⟨(Rect.unit (s := S4x512x768) ![1, 0, 0] S1x512x768.size inb_S4x512x768_S1x512x768_1_0_0), p1_21 m c⟩, ⟨(Rect.unit (s := S4x512x768) ![0, 0, 0] S1x512x768.size inb_S4x512x768_S1x512x768_0_0_0), p1_20 m c⟩]) (Finset.subset_univ _)) $$ Hsa2; iintro Hsa2
  ihave Hsa2 := (ptsCast c cc0_scratch19 (b := S1_2 m c) (S1_2_eq m c (f_sa2))) $$ Hsa2
  iapply (send_2 m K c _ (dev6_eq c) _ _ (show ((cc0_scratch25.slice (Rect.unit (s := S3) ![0] S1.size inb_S3_S1_0)).squeeze S_ squeezes_S1_S_).sem = sendS 2 from rfl) (show ((cc0_scratch26.slice (Rect.unit (s := S3) ![0] S1.size inb_S3_S1_0)).squeeze S_ squeezes_S1_S_).sem = recvS 2 from rfl)) $$ [HO Htk2 Hsa2 Hfr2]
  · isplitr; · iexact HR
    isplitl [HO]; · iexact HO
    isplitl [Htk2]; · iexact Htk2
    isplitl [Hsa2] <;> iassumption
  iintro ⟨HO, Hwt2⟩
  iapply (wp_load 𝒱₀ (c : Thread nD τ) none Set.univ (m := xM) (Finset.subset_univ _)) $$ HxM; iintro HxM
  iapply (wp_done (c := c) (Q := Kt) ⟨_, k0_pay18 (wv0 m c) (xRd m c (k0_off4 c 0#32 0#32) (k0_off4_inb c 0))⟩)
  iapply Hk
  isplitl [HxM]; · iexact HxM
  isplitl [HO]; · iexact HO
  iexact Hwt2

end Cert.KernelIdeal.Pf

end
-- ==== Proof.KiBodyC.lean ====
/-
# The body, parts 10 to 13
-/
module

public import proofs.«01_k».proof.Proof.KiForms

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KK → ℕ)

set_option maxHeartbeats 4000000 in
/-- Part 10 of the body, from the buffers and tokens it uses to what it leaves of them. -/
theorem part10 (c : Dev nD) (f_acc0 : (cc0_scratch0 : Ref sig .tc).ty.Contents (Elt F)) (v57 : BitVec 32) (Kt : (PUnit) → sProp 𝕄) :
    iprop((pts c cc0_scratch0 (f_acc0)) ∗ (pts c cc0_stg0_0 (xstg m c)) ∗ ((pts c cc0_scratch0 (acc0.view.writes (Elt F) (f_acc0) [⟨(Rect.unit (s := S4x512x640) ![2, 0, 0] S1x512x640.size inb_S4x512x640_S1x512x640_2_0_0), p0_02 m c⟩, ⟨(Rect.unit (s := S4x512x640) ![1, 0, 0] S1x512x640.size inb_S4x512x640_S1x512x640_1_0_0), p0_01 m c⟩, ⟨(Rect.unit (s := S4x512x640) ![0, 0, 0] S1x512x640.size inb_S4x512x640_S1x512x640_0_0_0), p0_00 m c⟩])) ∗ (pts c cc0_stg0_0 (xstg m c)) -∗ Kt ⟨⟩))
      ⊢ wp frame (wpE (defs₀ (F := F)) 𝒱₀ (c : Thread nD τ) none) Set.univ
          (k0_part10_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v57 (wv0 m c) (k0_pay18 (wv0 m c) (xRd m c (k0_off4 c 0#32 0#32) (k0_off4_inb c 0)))) Kt := by
  unfold k0_part10_skel
  simp only [semSignalWord, semWaitWord, smemLoad, smemLoadElt, Prog.lift, Prog.bind_op, Prog.bind_ret, Prog.pure_eq_ret, wp_deviceId]
  iintro ⟨Hacc0, HxM, Hk⟩
  iapply (wp_load 𝒱₀ (c : Thread nD τ) none Set.univ (m := acc0) (Finset.subset_univ _)) $$ Hacc0; iintro Hacc0
  iapply (wp_store_writes₀ (Val := Elt F) 𝒱₀ (c : Thread nD τ) none Set.univ (m := acc0) (r := (Rect.unit (s := S4x512x640) ![0, 0, 0] S1x512x640.size inb_S4x512x640_S1x512x640_0_0_0)) (w := p0_00 m c) (f := f_acc0) (Finset.subset_univ _)) $$ Hacc0; iintro Hacc0
  iapply (wp_load 𝒱₀ (c : Thread nD τ) none Set.univ (m := xM) (Finset.subset_univ _)) $$ HxM; iintro HxM
  iapply (wp_load 𝒱₀ (c : Thread nD τ) none Set.univ (m := acc0) (Finset.subset_univ _)) $$ Hacc0; iintro Hacc0
  iapply (wp_store_writes (Val := Elt F) 𝒱₀ (c : Thread nD τ) none Set.univ (m := acc0) (r := (Rect.unit (s := S4x512x640) ![1, 0, 0] S1x512x640.size inb_S4x512x640_S1x512x640_1_0_0)) (w := p0_01 m c) (f := f_acc0) (L := [⟨(Rect.unit (s := S4x512x640) ![0, 0, 0] S1x512x640.size inb_S4x512x640_S1x512x640_0_0_0), p0_00 m c⟩]) (Finset.subset_univ _)) $$ Hacc0; iintro Hacc0
  iapply (wp_load 𝒱₀ (c : Thread nD τ) none Set.univ (m := xM) (Finset.subset_univ _)) $$ HxM; iintro HxM
  iapply (wp_load 𝒱₀ (c : Thread nD τ) none Set.univ (m := acc0) (Finset.subset_univ _)) $$ Hacc0; iintro Hacc0
  iapply (wp_store_writes (Val := Elt F) 𝒱₀ (c : Thread nD τ) none Set.univ (m := acc0) (r := (Rect.unit (s := S4x512x640) ![2, 0, 0] S1x512x640.size inb_S4x512x640_S1x512x640_2_0_0)) (w := p0_02 m c) (f := f_acc0) (L := [⟨(Rect.unit (s := S4x512x640) ![1, 0, 0] S1x512x640.size inb_S4x512x640_S1x512x640_1_0_0), p0_01 m c⟩, ⟨(Rect.unit (s := S4x512x640) ![0, 0, 0] S1x512x640.size inb_S4x512x640_S1x512x640_0_0_0), p0_00 m c⟩]) (Finset.subset_univ _)) $$ Hacc0; iintro Hacc0
  iapply (wp_done (c := c) (Q := Kt) ⟨⟩)
  iapply Hk
  isplitl [Hacc0]; · iexact Hacc0
  iexact HxM

set_option maxHeartbeats 4000000 in
/-- Part 11 of the body, from the buffers and tokens it uses to what it leaves of them. -/
theorem part11 (c : Dev nD) (f_acc0 : (cc0_scratch0 : Ref sig .tc).ty.Contents (Elt F)) (f_acc1 : (cc0_scratch9 : Ref sig .tc).ty.Contents (Elt F)) (v40 : BitVec 32) (Kt : (PUnit) → sProp 𝕄) :
    iprop((pts c cc0_stg0_0 (xstg m c)) ∗ (pts c cc0_scratch0 (acc0.view.writes (Elt F) (f_acc0) [⟨(Rect.unit (s := S4x512x640) ![2, 0, 0] S1x512x640.size inb_S4x512x640_S1x512x640_2_0_0), p0_02 m c⟩, ⟨(Rect.unit (s := S4x512x640) ![1, 0, 0] S1x512x640.size inb_S4x512x640_S1x512x640_1_0_0), p0_01 m c⟩, ⟨(Rect.unit (s := S4x512x640) ![0, 0, 0] S1x512x640.size inb_S4x512x640_S1x512x640_0_0_0), p0_00 m c⟩])) ∗ (pts c cc0_scratch9 (f_acc1)) ∗ ((pts c cc0_stg0_0 (xstg m c)) ∗ (pts c cc0_scratch0 (A0_0 m c)) ∗ (pts c cc0_scratch9 (acc1.view.writes (Elt F) (f_acc1) [⟨(Rect.unit (s := S4x512x640) ![1, 0, 0] S1x512x640.size inb_S4x512x640_S1x512x640_1_0_0), p0_11 m c⟩, ⟨(Rect.unit (s := S4x512x640) ![0, 0, 0] S1x512x640.size inb_S4x512x640_S1x512x640_0_0_0), p0_10 m c⟩])) -∗ Kt ⟨⟩))
      ⊢ wp frame (wpE (defs₀ (F := F)) 𝒱₀ (c : Thread nD τ) none) Set.univ
          (k0_part11_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v40 (wv0 m c) (wv1 m c)) Kt := by
  unfold k0_part11_skel
  simp only [semSignalWord, semWaitWord, smemLoad, smemLoadElt, Prog.lift, Prog.bind_op, Prog.bind_ret, Prog.pure_eq_ret, wp_deviceId]
  iintro ⟨HxM, Hacc0, Hacc1, Hk⟩
  iapply (wp_load 𝒱₀ (c : Thread nD τ) none Set.univ (m := xM) (Finset.subset_univ _)) $$ HxM; iintro HxM
  iapply (wp_load 𝒱₀ (c : Thread nD τ) none Set.univ (m := acc0) (Finset.subset_univ _)) $$ Hacc0; iintro Hacc0
  iapply (wp_store_writes (Val := Elt F) 𝒱₀ (c : Thread nD τ) none Set.univ (m := acc0) (r := (Rect.unit (s := S4x512x640) ![3, 0, 0] S1x512x640.size inb_S4x512x640_S1x512x640_3_0_0)) (w := p0_03 m c) (f := f_acc0) (L := [⟨(Rect.unit (s := S4x512x640) ![2, 0, 0] S1x512x640.size inb_S4x512x640_S1x512x640_2_0_0), p0_02 m c⟩, ⟨(Rect.unit (s := S4x512x640) ![1, 0, 0] S1x512x640.size inb_S4x512x640_S1x512x640_1_0_0), p0_01 m c⟩, ⟨(Rect.unit (s := S4x512x640) ![0, 0, 0] S1x512x640.size inb_S4x512x640_S1x512x640_0_0_0), p0_00 m c⟩]) (Finset.subset_univ _)) $$ Hacc0; iintro Hacc0
  ihave Hacc0 := (ptsCast c cc0_scratch0 (b := A0_0 m c) (A0_0_eq m c (f_acc0))) $$ Hacc0
  iapply (wp_load 𝒱₀ (c : Thread nD τ) none Set.univ (m := xM) (Finset.subset_univ _)) $$ HxM; iintro HxM
  iapply (wp_load 𝒱₀ (c : Thread nD τ) none Set.univ (m := acc1) (Finset.subset_univ _)) $$ Hacc1; iintro Hacc1
  iapply (wp_store_writes₀ (Val := Elt F) 𝒱₀ (c : Thread nD τ) none Set.univ (m := acc1) (r := (Rect.unit (s := S4x512x640) ![0, 0, 0] S1x512x640.size inb_S4x512x640_S1x512x640_0_0_0)) (w := p0_10 m c) (f := f_acc1) (Finset.subset_univ _)) $$ Hacc1; iintro Hacc1
  iapply (wp_load 𝒱₀ (c : Thread nD τ) none Set.univ (m := xM) (Finset.subset_univ _)) $$ HxM; iintro HxM
  iapply (wp_load 𝒱₀ (c : Thread nD τ) none Set.univ (m := acc1) (Finset.subset_univ _)) $$ Hacc1; iintro Hacc1
  iapply (wp_store_writes (Val := Elt F) 𝒱₀ (c : Thread nD τ) none Set.univ (m := acc1) (r := (Rect.unit (s := S4x512x640) ![1, 0, 0] S1x512x640.size inb_S4x512x640_S1x512x640_1_0_0)) (w := p0_11 m c) (f := f_acc1) (L := [⟨(Rect.unit (s := S4x512x640) ![0, 0, 0] S1x512x640.size inb_S4x512x640_S1x512x640_0_0_0), p0_10 m c⟩]) (Finset.subset_univ _)) $$ Hacc1; iintro Hacc1
  iapply (wp_done (c := c) (Q := Kt) ⟨⟩)
  iapply Hk
  isplitl [HxM]; · iexact HxM
  isplitl [Hacc0]; · iexact Hacc0
  iexact Hacc1

set_option maxHeartbeats 4000000 in
/-- Part 12 of the body, from the buffers and tokens it uses to what it leaves of them. -/
theorem part12 (c : Dev nD) (f_acc1 : (cc0_scratch9 : Ref sig .tc).ty.Contents (Elt F)) (f_acc2 : (cc0_scratch18 : Ref sig .tc).ty.Contents (Elt F)) (v23 : BitVec 32) (v40 : BitVec 32) (Kt : (BitVec 32) → sProp 𝕄) :
    iprop((pts c cc0_stg0_0 (xstg m c)) ∗ (pts c cc0_scratch9 (acc1.view.writes (Elt F) (f_acc1) [⟨(Rect.unit (s := S4x512x640) ![1, 0, 0] S1x512x640.size inb_S4x512x640_S1x512x640_1_0_0), p0_11 m c⟩, ⟨(Rect.unit (s := S4x512x640) ![0, 0, 0] S1x512x640.size inb_S4x512x640_S1x512x640_0_0_0), p0_10 m c⟩])) ∗ (pts c cc0_scratch18 (f_acc2)) ∗ (∀ w0 : BitVec 32, (pts c cc0_stg0_0 (xstg m c)) ∗ (pts c cc0_scratch9 (A0_1 m c)) ∗ (pts c cc0_scratch18 (acc2.view.writes (Elt F) (f_acc2) [⟨(Rect.unit (s := S4x512x768) ![0, 0, 0] S1x512x768.size inb_S4x512x768_S1x512x768_0_0_0), p0_20 m c⟩])) -∗ Kt (w0)))
      ⊢ wp frame (wpE (defs₀ (F := F)) 𝒱₀ (c : Thread nD τ) none) Set.univ
          (k0_part12_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 (wv1 m c) (wv2 m c)) Kt := by
  unfold k0_part12_skel
  simp only [semSignalWord, semWaitWord, smemLoad, smemLoadElt, Prog.lift, Prog.bind_op, Prog.bind_ret, Prog.pure_eq_ret, wp_deviceId]
  iintro ⟨HxM, Hacc1, Hacc2, Hk⟩
  iapply (wp_load 𝒱₀ (c : Thread nD τ) none Set.univ (m := xM) (Finset.subset_univ _)) $$ HxM; iintro HxM
  iapply (wp_load 𝒱₀ (c : Thread nD τ) none Set.univ (m := acc1) (Finset.subset_univ _)) $$ Hacc1; iintro Hacc1
  iapply (wp_store_writes (Val := Elt F) 𝒱₀ (c : Thread nD τ) none Set.univ (m := acc1) (r := (Rect.unit (s := S4x512x640) ![2, 0, 0] S1x512x640.size inb_S4x512x640_S1x512x640_2_0_0)) (w := p0_12 m c) (f := f_acc1) (L := [⟨(Rect.unit (s := S4x512x640) ![1, 0, 0] S1x512x640.size inb_S4x512x640_S1x512x640_1_0_0), p0_11 m c⟩, ⟨(Rect.unit (s := S4x512x640) ![0, 0, 0] S1x512x640.size inb_S4x512x640_S1x512x640_0_0_0), p0_10 m c⟩]) (Finset.subset_univ _)) $$ Hacc1; iintro Hacc1
  iapply (wp_load 𝒱₀ (c : Thread nD τ) none Set.univ (m := xM) (Finset.subset_univ _)) $$ HxM; iintro HxM
  iapply (wp_load 𝒱₀ (c : Thread nD τ) none Set.univ (m := acc1) (Finset.subset_univ _)) $$ Hacc1; iintro Hacc1
  iapply (wp_store_writes (Val := Elt F) 𝒱₀ (c : Thread nD τ) none Set.univ (m := acc1) (r := (Rect.unit (s := S4x512x640) ![3, 0, 0] S1x512x640.size inb_S4x512x640_S1x512x640_3_0_0)) (w := p0_13 m c) (f := f_acc1) (L := [⟨(Rect.unit (s := S4x512x640) ![2, 0, 0] S1x512x640.size inb_S4x512x640_S1x512x640_2_0_0), p0_12 m c⟩, ⟨(Rect.unit (s := S4x512x640) ![1, 0, 0] S1x512x640.size inb_S4x512x640_S1x512x640_1_0_0), p0_11 m c⟩, ⟨(Rect.unit (s := S4x512x640) ![0, 0, 0] S1x512x640.size inb_S4x512x640_S1x512x640_0_0_0), p0_10 m c⟩]) (Finset.subset_univ _)) $$ Hacc1; iintro Hacc1
  ihave Hacc1 := (ptsCast c cc0_scratch9 (b := A0_1 m c) (A0_1_eq m c (f_acc1))) $$ Hacc1
  iapply (wp_load 𝒱₀ (c : Thread nD τ) none Set.univ (m := xM) (Finset.subset_univ _)) $$ HxM; iintro HxM
  iapply (wp_load 𝒱₀ (c : Thread nD τ) none Set.univ (m := acc2) (Finset.subset_univ _)) $$ Hacc2; iintro Hacc2
  iapply (wp_store_writes₀ (Val := Elt F) 𝒱₀ (c : Thread nD τ) none Set.univ (m := acc2) (r := (Rect.unit (s := S4x512x768) ![0, 0, 0] S1x512x768.size inb_S4x512x768_S1x512x768_0_0_0)) (w := p0_20 m c) (f := f_acc2) (Finset.subset_univ _)) $$ Hacc2; iintro Hacc2
  iapply (wp_done (c := c) (Q := Kt) _)
  iapply Hk
  isplitl [HxM]; · iexact HxM
  isplitl [Hacc1]; · iexact Hacc1
  iexact Hacc2

set_option maxHeartbeats 4000000 in
/-- Part 13 of the body, from the buffers and tokens it uses to what it leaves of them. -/
theorem part13 (c : Dev nD) (f_acc2 : (cc0_scratch18 : Ref sig .tc).ty.Contents (Elt F)) (v23 : BitVec 32) (v412 : BitVec 32) (Kt : (PUnit) → sProp 𝕄) :
    iprop((pts c cc0_stg0_0 (xstg m c)) ∗ (pts c cc0_scratch18 (acc2.view.writes (Elt F) (f_acc2) [⟨(Rect.unit (s := S4x512x768) ![0, 0, 0] S1x512x768.size inb_S4x512x768_S1x512x768_0_0_0), p0_20 m c⟩])) ∗ ((pts c cc0_stg0_0 (xstg m c)) ∗ (pts c cc0_scratch18 (acc2.view.writes (Elt F) (f_acc2) [⟨(Rect.unit (s := S4x512x768) ![2, 0, 0] S1x512x768.size inb_S4x512x768_S1x512x768_2_0_0), p0_22 m c⟩, ⟨(Rect.unit (s := S4x512x768) ![1, 0, 0] S1x512x768.size inb_S4x512x768_S1x512x768_1_0_0), p0_21 m c⟩, ⟨(Rect.unit (s := S4x512x768) ![0, 0, 0] S1x512x768.size inb_S4x512x768_S1x512x768_0_0_0), p0_20 m c⟩])) -∗ Kt ⟨⟩))
      ⊢ wp frame (wpE (defs₀ (F := F)) 𝒱₀ (c : Thread nD τ) none) Set.univ
          (k0_part13_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 (wv2 m c) v412) Kt := by
  unfold k0_part13_skel
  simp only [semSignalWord, semWaitWord, smemLoad, smemLoadElt, Prog.lift, Prog.bind_op, Prog.bind_ret, Prog.pure_eq_ret, wp_deviceId]
  iintro ⟨HxM, Hacc2, Hk⟩
  iapply (wp_load 𝒱₀ (c : Thread nD τ) none Set.univ (m := xM) (Finset.subset_univ _)) $$ HxM; iintro HxM
  iapply (wp_load 𝒱₀ (c : Thread nD τ) none Set.univ (m := acc2) (Finset.subset_univ _)) $$ Hacc2; iintro Hacc2
  iapply (wp_store_writes (Val := Elt F) 𝒱₀ (c : Thread nD τ) none Set.univ (m := acc2) (r := (Rect.unit (s := S4x512x768) ![1, 0, 0] S1x512x768.size inb_S4x512x768_S1x512x768_1_0_0)) (w := p0_21 m c) (f := f_acc2) (L := [⟨(Rect.unit (s := S4x512x768) ![0, 0, 0] S1x512x768.size inb_S4x512x768_S1x512x768_0_0_0), p0_20 m c⟩]) (Finset.subset_univ _)) $$ Hacc2; iintro Hacc2
  iapply (wp_load 𝒱₀ (c : Thread nD τ) none Set.univ (m := xM) (Finset.subset_univ _)) $$ HxM; iintro HxM
  iapply (wp_load 𝒱₀ (c : Thread nD τ) none Set.univ (m := acc2) (Finset.subset_univ _)) $$ Hacc2; iintro Hacc2
  iapply (wp_store_writes (Val := Elt F) 𝒱₀ (c : Thread nD τ) none Set.univ (m := acc2) (r := (Rect.unit (s := S4x512x768) ![2, 0, 0] S1x512x768.size inb_S4x512x768_S1x512x768_2_0_0)) (w := p0_22 m c) (f := f_acc2) (L := [⟨(Rect.unit (s := S4x512x768) ![1, 0, 0] S1x512x768.size inb_S4x512x768_S1x512x768_1_0_0), p0_21 m c⟩, ⟨(Rect.unit (s := S4x512x768) ![0, 0, 0] S1x512x768.size inb_S4x512x768_S1x512x768_0_0_0), p0_20 m c⟩]) (Finset.subset_univ _)) $$ Hacc2; iintro Hacc2
  iapply (wp_done (c := c) (Q := Kt) ⟨⟩)
  iapply Hk
  isplitl [HxM]; · iexact HxM
  iexact Hacc2

end Cert.KernelIdeal.Pf

end
-- ==== Proof.KiBodyD.lean ====
/-
# The body, parts 14 to 17
-/
module

public import proofs.«01_k».proof.Proof.KiForms

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KK → ℕ)

set_option maxHeartbeats 4000000 in
/-- Part 14 of the body, from the buffers and tokens it uses to what it leaves of them. -/
theorem part14 (c : Dev nD) (f_acc2 : (cc0_scratch18 : Ref sig .tc).ty.Contents (Elt F)) (v157 : BitVec 32) (v222 : BitVec 32) (Kt : (PUnit) → sProp 𝕄) :
    iprop(Rec m K ∗ (pts c cc0_stg0_0 (xstg m c)) ∗ (pts c cc0_scratch18 (acc2.view.writes (Elt F) (f_acc2) [⟨(Rect.unit (s := S4x512x768) ![2, 0, 0] S1x512x768.size inb_S4x512x768_S1x512x768_2_0_0), p0_22 m c⟩, ⟨(Rect.unit (s := S4x512x768) ![1, 0, 0] S1x512x768.size inb_S4x512x768_S1x512x768_1_0_0), p0_21 m c⟩, ⟨(Rect.unit (s := S4x512x768) ![0, 0, 0] S1x512x768.size inb_S4x512x768_S1x512x768_0_0_0), p0_20 m c⟩])) ∗ ow c 6 ∗ wt 0 c ∗ (pts c cc0_scratch0 (A0_0 m c)) ∗ wt 1 c ∗ ((pts c cc0_stg0_0 (xstg m c)) ∗ (pts c cc0_scratch18 (A0_2 m c)) ∗ ow c 6 ∗ sendPay 0 c ∗ dn 0 c ∗ (pts c cc0_scratch2 (S1_0 m (pt 2 c))) ∗ (pts c cc0_scratch0 (A1_0 m c)) ∗ sendPay 1 c ∗ dn 1 c ∗ (pts c cc0_scratch11 (S1_1 m (pt 1 c))) -∗ Kt ⟨⟩))
      ⊢ wp frame (wpE (defs₀ (F := F)) 𝒱₀ (c : Thread nD τ) none) Set.univ
          (k0_part14_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c (wv2 m c) v157 v222) Kt := by
  unfold k0_part14_skel
  simp only [semSignalWord, semWaitWord, smemLoad, smemLoadElt, Prog.lift, Prog.bind_op, Prog.bind_ret, Prog.pure_eq_ret, wp_deviceId]
  iintro ⟨#HR, HxM, Hacc2, HO, Hwt0, Hacc0, Hwt1, Hk⟩
  iapply (wp_load 𝒱₀ (c : Thread nD τ) none Set.univ (m := xM) (Finset.subset_univ _)) $$ HxM; iintro HxM
  iapply (wp_load 𝒱₀ (c : Thread nD τ) none Set.univ (m := acc2) (Finset.subset_univ _)) $$ Hacc2; iintro Hacc2
  iapply (wp_store_writes (Val := Elt F) 𝒱₀ (c : Thread nD τ) none Set.univ (m := acc2) (r := (Rect.unit (s := S4x512x768) ![3, 0, 0] S1x512x768.size inb_S4x512x768_S1x512x768_3_0_0)) (w := p0_23 m c) (f := f_acc2) (L := [⟨(Rect.unit (s := S4x512x768) ![2, 0, 0] S1x512x768.size inb_S4x512x768_S1x512x768_2_0_0), p0_22 m c⟩, ⟨(Rect.unit (s := S4x512x768) ![1, 0, 0] S1x512x768.size inb_S4x512x768_S1x512x768_1_0_0), p0_21 m c⟩, ⟨(Rect.unit (s := S4x512x768) ![0, 0, 0] S1x512x768.size inb_S4x512x768_S1x512x768_0_0_0), p0_20 m c⟩]) (Finset.subset_univ _)) $$ Hacc2; iintro Hacc2
  ihave Hacc2 := (ptsCast c cc0_scratch18 (b := A0_2 m c) (A0_2_eq m c (f_acc2))) $$ Hacc2
  iapply (step_wait_send m K 0 c 6 (by decide) _ (show ((cc0_scratch7.slice (Rect.unit (s := S3) ![0] S1.size inb_S3_S1_0)).squeeze S_ squeezes_S1_S_).sem = sendS 0 from rfl) (src := ra0) (dst := sa0) rfl) $$ [HO Hwt0]
  · isplitr; · iexact HR
    isplitl [HO] <;> iassumption
  iintro ⟨HO, Hwr0, Hsp0⟩
  iapply (step_wait_recv m K 0 c 6 (by decide) (by decide) _ (show ((cc0_scratch8.slice (Rect.unit (s := S3) ![0] S1.size inb_S3_S1_0)).squeeze S_ squeezes_S1_S_).sem = recvS 0 from rfl) (src := sa0) (dst := ra0) rfl) $$ [HO Hwr0]
  · isplitr; · iexact HR
    isplitl [HO] <;> iassumption
  iintro ⟨HO, Hdn0, Hra0⟩
  ihave Hra0 := (Entails.of_eq (show recvPay m 0 c = (pts c cc0_scratch2 (S1_0 m (pt 2 c)) : sProp 𝕄) from rfl)) $$ Hra0
  iapply (wp_load 𝒱₀ (c : Thread nD τ) none Set.univ (m := acc0) (Finset.subset_univ _)) $$ Hacc0; iintro Hacc0
  rw [rd_acc0]
  iapply (wp_load 𝒱₀ (c : Thread nD τ) none Set.univ (m := ra0) (Finset.subset_univ _)) $$ Hra0; iintro Hra0
  rw [rd_ra0]
  iapply (wp_load 𝒱₀ (c : Thread nD τ) none Set.univ (m := acc0) (Finset.subset_univ _)) $$ Hacc0; iintro Hacc0
  iapply (wp_store (Val := Elt F) 𝒱₀ (c : Thread nD τ) none Set.univ (m := acc0) (r := (Rect.unit (s := S4x512x640) ![0, 0, 0] S4x512x640.size inb_S4x512x640_S4x512x640_0_0_0)) (w := A1_0 m c) (Mk := Finset.univ) (Finset.subset_univ _)) $$ Hacc0; iintro Hacc0
  rw [wr_acc0]
  iapply (step_wait_send m K 1 c 6 (by decide) _ (show ((cc0_scratch16.slice (Rect.unit (s := S3) ![0] S1.size inb_S3_S1_0)).squeeze S_ squeezes_S1_S_).sem = sendS 1 from rfl) (src := ra1) (dst := sa1) rfl) $$ [HO Hwt1]
  · isplitr; · iexact HR
    isplitl [HO] <;> iassumption
  iintro ⟨HO, Hwr1, Hsp1⟩
  iapply (step_wait_recv m K 1 c 6 (by decide) (by decide) _ (show ((cc0_scratch17.slice (Rect.unit (s := S3) ![0] S1.size inb_S3_S1_0)).squeeze S_ squeezes_S1_S_).sem = recvS 1 from rfl) (src := sa1) (dst := ra1) rfl) $$ [HO Hwr1]
  · isplitr; · iexact HR
    isplitl [HO] <;> iassumption
  iintro ⟨HO, Hdn1, Hra1⟩
  ihave Hra1 := (Entails.of_eq (show recvPay m 1 c = (pts c cc0_scratch11 (S1_1 m (pt 1 c)) : sProp 𝕄) from rfl)) $$ Hra1
  iapply (wp_done (c := c) (Q := Kt) ⟨⟩)
  iapply Hk
  isplitl [HxM]; · iexact HxM
  isplitl [Hacc2]; · iexact Hacc2
  isplitl [HO]; · iexact HO
  isplitl [Hsp0]; · iexact Hsp0
  isplitl [Hdn0]; · iexact Hdn0
  isplitl [Hra0]; · iexact Hra0
  isplitl [Hacc0]; · iexact Hacc0
  isplitl [Hsp1]; · iexact Hsp1
  isplitl [Hdn1]; · iexact Hdn1
  iexact Hra1

set_option maxHeartbeats 4000000 in
/-- Part 15 of the body, from the buffers and tokens it uses to what it leaves of them. -/
theorem part15 (c : Dev nD) (v40 : BitVec 32) (v299 : BitVec 32) (Kt : (FVec F S2x512x640 .bf16) → sProp 𝕄) :
    iprop(Rec m K ∗ (pts c cc0_scratch9 (A0_1 m c)) ∗ (pts c cc0_scratch11 (S1_1 m (pt 1 c))) ∗ ow c 6 ∗ wt 2 c ∗ (pts c cc0_scratch18 (A0_2 m c)) ∗ (pts c cc0_scratch0 (A1_0 m c)) ∗ ((pts c cc0_scratch9 (A1_1 m c)) ∗ (pts c cc0_scratch11 (S1_1 m (pt 1 c))) ∗ ow c 6 ∗ sendPay 2 c ∗ dn 2 c ∗ (pts c cc0_scratch20 (S1_2 m (pt 0 c))) ∗ (pts c cc0_scratch18 (A1_2 m c)) ∗ (pts c cc0_scratch0 (A1_0 m c)) -∗ Kt (k0_pay34 (acc0.view.readAt (Elt F) (Rect.unit (s := S4x512x640) (k0_off7 c) S2x512x640.size (k0_off7_inb c)).toLoadRect (A1_0 m c)))))
      ⊢ wp frame (wpE (defs₀ (F := F)) 𝒱₀ (c : Thread nD τ) none) Set.univ
          (k0_part15_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v40 v299) Kt := by
  unfold k0_part15_skel
  simp only [semSignalWord, semWaitWord, smemLoad, smemLoadElt, Prog.lift, Prog.bind_op, Prog.bind_ret, Prog.pure_eq_ret, wp_deviceId]
  iintro ⟨#HR, Hacc1, Hra1, HO, Hwt2, Hacc2, Hacc0, Hk⟩
  iapply (wp_load 𝒱₀ (c : Thread nD τ) none Set.univ (m := acc1) (Finset.subset_univ _)) $$ Hacc1; iintro Hacc1
  rw [rd_acc1]
  iapply (wp_load 𝒱₀ (c : Thread nD τ) none Set.univ (m := ra1) (Finset.subset_univ _)) $$ Hra1; iintro Hra1
  rw [rd_ra1]
  iapply (wp_load 𝒱₀ (c : Thread nD τ) none Set.univ (m := acc1) (Finset.subset_univ _)) $$ Hacc1; iintro Hacc1
  iapply (wp_store (Val := Elt F) 𝒱₀ (c : Thread nD τ) none Set.univ (m := acc1) (r := (Rect.unit (s := S4x512x640) ![0, 0, 0] S4x512x640.size inb_S4x512x640_S4x512x640_0_0_0)) (w := A1_1 m c) (Mk := Finset.univ) (Finset.subset_univ _)) $$ Hacc1; iintro Hacc1
  rw [wr_acc1]
  iapply (step_wait_send m K 2 c 6 (by decide) _ (show ((cc0_scratch25.slice (Rect.unit (s := S3) ![0] S1.size inb_S3_S1_0)).squeeze S_ squeezes_S1_S_).sem = sendS 2 from rfl) (src := ra2) (dst := sa2) rfl) $$ [HO Hwt2]
  · isplitr; · iexact HR
    isplitl [HO] <;> iassumption
  iintro ⟨HO, Hwr2, Hsp2⟩
  iapply (step_wait_recv m K 2 c 6 (by decide) (by decide) _ (show ((cc0_scratch26.slice (Rect.unit (s := S3) ![0] S1.size inb_S3_S1_0)).squeeze S_ squeezes_S1_S_).sem = recvS 2 from rfl) (src := sa2) (dst := ra2) rfl) $$ [HO Hwr2]
  · isplitr; · iexact HR
    isplitl [HO] <;> iassumption
  iintro ⟨HO, Hdn2, Hra2⟩
  ihave Hra2 := (Entails.of_eq (show recvPay m 2 c = (pts c cc0_scratch20 (S1_2 m (pt 0 c)) : sProp 𝕄) from rfl)) $$ Hra2
  iapply (wp_load 𝒱₀ (c : Thread nD τ) none Set.univ (m := acc2) (Finset.subset_univ _)) $$ Hacc2; iintro Hacc2
  rw [rd_acc2]
  iapply (wp_load 𝒱₀ (c : Thread nD τ) none Set.univ (m := ra2) (Finset.subset_univ _)) $$ Hra2; iintro Hra2
  rw [rd_ra2]
  iapply (wp_load 𝒱₀ (c : Thread nD τ) none Set.univ (m := acc2) (Finset.subset_univ _)) $$ Hacc2; iintro Hacc2
  iapply (wp_store (Val := Elt F) 𝒱₀ (c : Thread nD τ) none Set.univ (m := acc2) (r := (Rect.unit (s := S4x512x768) ![0, 0, 0] S4x512x768.size inb_S4x512x768_S4x512x768_0_0_0)) (w := A1_2 m c) (Mk := Finset.univ) (Finset.subset_univ _)) $$ Hacc2; iintro Hacc2
  rw [wr_acc2]
  iapply (wp_load 𝒱₀ (c : Thread nD τ) none Set.univ (m := acc0) (Finset.subset_univ _)) $$ Hacc0; iintro Hacc0
  iapply (wp_done (c := c) (Q := Kt) (k0_pay34 (acc0.view.readAt (Elt F) (Rect.unit (s := S4x512x640) (k0_off7 c) S2x512x640.size (k0_off7_inb c)).toLoadRect (A1_0 m c))))
  iapply Hk
  isplitl [Hacc1]; · iexact Hacc1
  isplitl [Hra1]; · iexact Hra1
  isplitl [HO]; · iexact HO
  isplitl [Hsp2]; · iexact Hsp2
  isplitl [Hdn2]; · iexact Hdn2
  isplitl [Hra2]; · iexact Hra2
  isplitl [Hacc2]; · iexact Hacc2
  iexact Hacc0

set_option maxHeartbeats 4000000 in
/-- Part 16 of the body, from the buffers and tokens it uses to what it leaves of them. -/
theorem part16 (c : Dev nD) (f_sb0 : (cc0_scratch3 : Ref sig .tc).ty.Contents (Elt F)) (f_sb1 : (cc0_scratch12 : Ref sig .tc).ty.Contents (Elt F)) (v23 : BitVec 32) (v40 : BitVec 32) (v57 : BitVec 32) (Kt : (Σ' (v507 : BitVec 32), BitVec 32) → sProp 𝕄) :
    iprop(Rec m K ∗ (pts c cc0_scratch3 (f_sb0)) ∗ ow c 6 ∗ tk 3 c ∗ freePay 3 (pt 1 c) ∗ (pts c cc0_scratch9 (A1_1 m c)) ∗ (pts c cc0_scratch12 (f_sb1)) ∗ (∀ w0 : BitVec 32, ∀ w1 : BitVec 32, ow c 5 ∗ wt 3 c ∗ (pts c cc0_scratch9 (A1_1 m c)) ∗ (pts c cc0_scratch12 (S2_1 m c)) -∗ Kt ⟨w0, w1⟩))
      ⊢ wp frame (wpE (defs₀ (F := F)) 𝒱₀ (c : Thread nD τ) none) Set.univ
          (k0_part16_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 (k0_pay34 (acc0.view.readAt (Elt F) (Rect.unit (s := S4x512x640) (k0_off7 c) S2x512x640.size (k0_off7_inb c)).toLoadRect (A1_0 m c)))) Kt := by
  unfold k0_part16_skel
  simp only [semSignalWord, semWaitWord, smemLoad, smemLoadElt, Prog.lift, Prog.bind_op, Prog.bind_ret, Prog.pure_eq_ret, wp_deviceId]
  iintro ⟨#HR, Hsb0, HO, Htk3, Hfr3, Hacc1, Hsb1, Hk⟩
  iapply (wp_load 𝒱₀ (c : Thread nD τ) none Set.univ (m := sb0) (Finset.subset_univ _)) $$ Hsb0; iintro Hsb0
  iapply (wp_store (Val := Elt F) 𝒱₀ (c : Thread nD τ) none Set.univ (m := sb0) (r := (Rect.unit (s := S2x512x640) ![0, 0, 0] S2x512x640.size inb_S2x512x640_S2x512x640_0_0_0)) (w := S2_0 m c) (Mk := Finset.univ) (Finset.subset_univ _)) $$ Hsb0; iintro Hsb0
  rw [wr_sb0]
  iapply (send_3 m K c _ (dev7_eq c) _ _ (show ((cc0_scratch7.slice (Rect.unit (s := S3) ![1] S1.size inb_S3_S1_1)).squeeze S_ squeezes_S1_S_).sem = sendS 3 from rfl) (show ((cc0_scratch8.slice (Rect.unit (s := S3) ![1] S1.size inb_S3_S1_1)).squeeze S_ squeezes_S1_S_).sem = recvS 3 from rfl)) $$ [HO Htk3 Hsb0 Hfr3]
  · isplitr; · iexact HR
    isplitl [HO]; · iexact HO
    isplitl [Htk3]; · iexact Htk3
    isplitl [Hsb0] <;> iassumption
  iintro ⟨HO, Hwt3⟩
  iapply (wp_load 𝒱₀ (c : Thread nD τ) none Set.univ (m := acc1) (Finset.subset_univ _)) $$ Hacc1; iintro Hacc1
  iapply (wp_load 𝒱₀ (c : Thread nD τ) none Set.univ (m := sb1) (Finset.subset_univ _)) $$ Hsb1; iintro Hsb1
  iapply (wp_store (Val := Elt F) 𝒱₀ (c : Thread nD τ) none Set.univ (m := sb1) (r := (Rect.unit (s := S2x512x640) ![0, 0, 0] S2x512x640.size inb_S2x512x640_S2x512x640_0_0_0)) (w := S2_1 m c) (Mk := Finset.univ) (Finset.subset_univ _)) $$ Hsb1; iintro Hsb1
  rw [wr_sb1]
  iapply (wp_done (c := c) (Q := Kt) ⟨_, _⟩)
  iapply Hk
  isplitl [HO]; · iexact HO
  isplitl [Hwt3]; · iexact Hwt3
  isplitl [Hacc1]; · iexact Hacc1
  iexact Hsb1

set_option maxHeartbeats 4000000 in
/-- Part 17 of the body, from the buffers and tokens it uses to what it leaves of them. -/
theorem part17 (c : Dev nD) (f_sb2 : (cc0_scratch21 : Ref sig .tc).ty.Contents (Elt F)) (v23 : BitVec 32) (v40 : BitVec 32) (v57 : BitVec 32) (v507 : BitVec 32) (Kt : (Σ' (v549 : BitVec 32), BitVec 32) → sProp 𝕄) :
    iprop(Rec m K ∗ ow c 5 ∗ tk 4 c ∗ (pts c cc0_scratch12 (S2_1 m c)) ∗ freePay 4 (pt 0 c) ∗ (pts c cc0_scratch18 (A1_2 m c)) ∗ (pts c cc0_scratch21 (f_sb2)) ∗ tk 5 c ∗ freePay 5 (pt 2 c) ∗ wt 3 c ∗ (∀ w0 : BitVec 32, ∀ w1 : BitVec 32, ow c 3 ∗ wt 4 c ∗ (pts c cc0_scratch18 (A1_2 m c)) ∗ wt 5 c ∗ sendPay 3 c ∗ dn 3 c ∗ (pts c cc0_scratch4 (S2_0 m (pt 1 c))) -∗ Kt ⟨w0, w1⟩))
      ⊢ wp frame (wpE (defs₀ (F := F)) 𝒱₀ (c : Thread nD τ) none) Set.univ
          (k0_part17_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 v507) Kt := by
  unfold k0_part17_skel
  simp only [semSignalWord, semWaitWord, smemLoad, smemLoadElt, Prog.lift, Prog.bind_op, Prog.bind_ret, Prog.pure_eq_ret, wp_deviceId]
  iintro ⟨#HR, HO, Htk4, Hsb1, Hfr4, Hacc2, Hsb2, Htk5, Hfr5, Hwt3, Hk⟩
  iapply (send_4 m K c _ (dev8_eq c) _ _ (show ((cc0_scratch16.slice (Rect.unit (s := S3) ![1] S1.size inb_S3_S1_1)).squeeze S_ squeezes_S1_S_).sem = sendS 4 from rfl) (show ((cc0_scratch17.slice (Rect.unit (s := S3) ![1] S1.size inb_S3_S1_1)).squeeze S_ squeezes_S1_S_).sem = recvS 4 from rfl)) $$ [HO Htk4 Hsb1 Hfr4]
  · isplitr; · iexact HR
    isplitl [HO]; · iexact HO
    isplitl [Htk4]; · iexact Htk4
    isplitl [Hsb1] <;> iassumption
  iintro ⟨HO, Hwt4⟩
  iapply (wp_load 𝒱₀ (c : Thread nD τ) none Set.univ (m := acc2) (Finset.subset_univ _)) $$ Hacc2; iintro Hacc2
  iapply (wp_load 𝒱₀ (c : Thread nD τ) none Set.univ (m := sb2) (Finset.subset_univ _)) $$ Hsb2; iintro Hsb2
  iapply (wp_store (Val := Elt F) 𝒱₀ (c : Thread nD τ) none Set.univ (m := sb2) (r := (Rect.unit (s := S2x512x768) ![0, 0, 0] S2x512x768.size inb_S2x512x768_S2x512x768_0_0_0)) (w := S2_2 m c) (Mk := Finset.univ) (Finset.subset_univ _)) $$ Hsb2; iintro Hsb2
  rw [wr_sb2]
  iapply (send_5 m K c _ (dev9_eq c) _ _ (show ((cc0_scratch25.slice (Rect.unit (s := S3) ![1] S1.size inb_S3_S1_1)).squeeze S_ squeezes_S1_S_).sem = sendS 5 from rfl) (show ((cc0_scratch26.slice (Rect.unit (s := S3) ![1] S1.size inb_S3_S1_1)).squeeze S_ squeezes_S1_S_).sem = recvS 5 from rfl)) $$ [HO Htk5 Hsb2 Hfr5]
  · isplitr; · iexact HR
    isplitl [HO]; · iexact HO
    isplitl [Htk5]; · iexact Htk5
    isplitl [Hsb2] <;> iassumption
  iintro ⟨HO, Hwt5⟩
  iapply (step_wait_send m K 3 c 3 (by decide) _ (show ((cc0_scratch7.slice (Rect.unit (s := S3) ![1] S1.size inb_S3_S1_1)).squeeze S_ squeezes_S1_S_).sem = sendS 3 from rfl) (src := rb0) (dst := sb0) rfl) $$ [HO Hwt3]
  · isplitr; · iexact HR
    isplitl [HO] <;> iassumption
  iintro ⟨HO, Hwr3, Hsp3⟩
  iapply (step_wait_recv m K 3 c 3 (by decide) (by decide) _ (show ((cc0_scratch8.slice (Rect.unit (s := S3) ![1] S1.size inb_S3_S1_1)).squeeze S_ squeezes_S1_S_).sem = recvS 3 from rfl) (src := sb0) (dst := rb0) rfl) $$ [HO Hwr3]
  · isplitr; · iexact HR
    isplitl [HO] <;> iassumption
  iintro ⟨HO, Hdn3, Hrb0⟩
  ihave Hrb0 := (Entails.of_eq (show recvPay m 3 c = (pts c cc0_scratch4 (S2_0 m (pt 1 c)) : sProp 𝕄) from rfl)) $$ Hrb0
  iapply (wp_done (c := c) (Q := Kt) ⟨_, _⟩)
  iapply Hk
  isplitl [HO]; · iexact HO
  isplitl [Hwt4]; · iexact Hwt4
  isplitl [Hacc2]; · iexact Hacc2
  isplitl [Hwt5]; · iexact Hwt5
  isplitl [Hsp3]; · iexact Hsp3
  isplitl [Hdn3]; · iexact Hdn3
  iexact Hrb0

end Cert.KernelIdeal.Pf

end
-- ==== Proof.KiBodyE.lean ====
/-
# The body, parts 18 to 22
-/
module

public import proofs.«01_k».proof.Proof.KiForms

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KK → ℕ)

set_option maxHeartbeats 4000000 in
/-- Part 18 of the body, from the buffers and tokens it uses to what it leaves of them. -/
theorem part18 (c : Dev nD) (v23 : BitVec 32) (v528 : BitVec 32) (v562 : BitVec 32) (Kt : (BitVec 32) → sProp 𝕄) :
    iprop(Rec m K ∗ (pts c cc0_scratch0 (A1_0 m c)) ∗ (pts c cc0_scratch4 (S2_0 m (pt 1 c))) ∗ ow c 3 ∗ wt 4 c ∗ (pts c cc0_scratch9 (A1_1 m c)) ∗ wt 5 c ∗ (∀ w0 : BitVec 32, (pts c cc0_scratch0 (A2_0 m c)) ∗ (pts c cc0_scratch4 (S2_0 m (pt 1 c))) ∗ ow c 3 ∗ sendPay 4 c ∗ dn 4 c ∗ (pts c cc0_scratch13 (S2_1 m (pt 0 c))) ∗ (pts c cc0_scratch9 (A2_1 m c)) ∗ wr 5 c ∗ sendPay 5 c -∗ Kt (w0)))
      ⊢ wp frame (wpE (defs₀ (F := F)) 𝒱₀ (c : Thread nD τ) none) Set.univ
          (k0_part18_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v528 v562) Kt := by
  unfold k0_part18_skel
  simp only [semSignalWord, semWaitWord, smemLoad, smemLoadElt, Prog.lift, Prog.bind_op, Prog.bind_ret, Prog.pure_eq_ret, wp_deviceId]
  iintro ⟨#HR, Hacc0, Hrb0, HO, Hwt4, Hacc1, Hwt5, Hk⟩
  iapply (wp_load 𝒱₀ (c : Thread nD τ) none Set.univ (m := acc0) (Finset.subset_univ _)) $$ Hacc0; iintro Hacc0
  iapply (wp_load 𝒱₀ (c : Thread nD τ) none Set.univ (m := rb0) (Finset.subset_univ _)) $$ Hrb0; iintro Hrb0
  rw [rd_rb0]
  iapply (wp_load 𝒱₀ (c : Thread nD τ) none Set.univ (m := acc0) (Finset.subset_univ _)) $$ Hacc0; iintro Hacc0
  iapply (wp_store_writes₀ (Val := Elt F) 𝒱₀ (c : Thread nD τ) none Set.univ (m := acc0) (r := (Rect.unit (s := S4x512x640) (k0_off10 c) S2x512x640.size (k0_off10_inb c))) (w := p2_0 m c) (f := A1_0 m c) (Finset.subset_univ _)) $$ Hacc0; iintro Hacc0
  ihave Hacc0 := (ptsCast c cc0_scratch0 (show acc0.view.writes (Elt F) (A1_0 m c) [⟨(Rect.unit (s := S4x512x640) (k0_off10 c) S2x512x640.size (k0_off10_inb c)), p2_0 m c⟩] = A2_0 m c from rfl)) $$ Hacc0
  iapply (step_wait_send m K 4 c 3 (by decide) _ (show ((cc0_scratch16.slice (Rect.unit (s := S3) ![1] S1.size inb_S3_S1_1)).squeeze S_ squeezes_S1_S_).sem = sendS 4 from rfl) (src := rb1) (dst := sb1) rfl) $$ [HO Hwt4]
  · isplitr; · iexact HR
    isplitl [HO] <;> iassumption
  iintro ⟨HO, Hwr4, Hsp4⟩
  iapply (step_wait_recv m K 4 c 3 (by decide) (by decide) _ (show ((cc0_scratch17.slice (Rect.unit (s := S3) ![1] S1.size inb_S3_S1_1)).squeeze S_ squeezes_S1_S_).sem = recvS 4 from rfl) (src := sb1) (dst := rb1) rfl) $$ [HO Hwr4]
  · isplitr; · iexact HR
    isplitl [HO] <;> iassumption
  iintro ⟨HO, Hdn4, Hrb1⟩
  ihave Hrb1 := (Entails.of_eq (show recvPay m 4 c = (pts c cc0_scratch13 (S2_1 m (pt 0 c)) : sProp 𝕄) from rfl)) $$ Hrb1
  iapply (wp_load 𝒱₀ (c : Thread nD τ) none Set.univ (m := acc1) (Finset.subset_univ _)) $$ Hacc1; iintro Hacc1
  iapply (wp_load 𝒱₀ (c : Thread nD τ) none Set.univ (m := rb1) (Finset.subset_univ _)) $$ Hrb1; iintro Hrb1
  rw [rd_rb1]
  iapply (wp_load 𝒱₀ (c : Thread nD τ) none Set.univ (m := acc1) (Finset.subset_univ _)) $$ Hacc1; iintro Hacc1
  iapply (wp_store_writes₀ (Val := Elt F) 𝒱₀ (c : Thread nD τ) none Set.univ (m := acc1) (r := (Rect.unit (s := S4x512x640) (k0_off11 c) S2x512x640.size (k0_off11_inb c))) (w := p2_1 m c) (f := A1_1 m c) (Finset.subset_univ _)) $$ Hacc1; iintro Hacc1
  ihave Hacc1 := (ptsCast c cc0_scratch9 (show acc1.view.writes (Elt F) (A1_1 m c) [⟨(Rect.unit (s := S4x512x640) (k0_off11 c) S2x512x640.size (k0_off11_inb c)), p2_1 m c⟩] = A2_1 m c from rfl)) $$ Hacc1
  iapply (step_wait_send m K 5 c 3 (by decide) _ (show ((cc0_scratch25.slice (Rect.unit (s := S3) ![1] S1.size inb_S3_S1_1)).squeeze S_ squeezes_S1_S_).sem = sendS 5 from rfl) (src := rb2) (dst := sb2) rfl) $$ [HO Hwt5]
  · isplitr; · iexact HR
    isplitl [HO] <;> iassumption
  iintro ⟨HO, Hwr5, Hsp5⟩
  iapply (wp_done (c := c) (Q := Kt) _)
  iapply Hk
  isplitl [Hacc0]; · iexact Hacc0
  isplitl [Hrb0]; · iexact Hrb0
  isplitl [HO]; · iexact HO
  isplitl [Hsp4]; · iexact Hsp4
  isplitl [Hdn4]; · iexact Hdn4
  isplitl [Hrb1]; · iexact Hrb1
  isplitl [Hacc1]; · iexact Hacc1
  isplitl [Hwr5]; · iexact Hwr5
  iexact Hsp5

set_option maxHeartbeats 4000000 in
/-- Part 19 of the body, from the buffers and tokens it uses to what it leaves of them. -/
theorem part19 (c : Dev nD) (f_sc0 : (cc0_scratch5 : Ref sig .tc).ty.Contents (Elt F)) (v23 : BitVec 32) (v40 : BitVec 32) (v57 : BitVec 32) (v549 : BitVec 32) (c1_i32_419 : BitVec 32) (Kt : (BitVec 32) → sProp 𝕄) :
    iprop(Rec m K ∗ ow c 3 ∗ wr 5 c ∗ (pts c cc0_scratch18 (A1_2 m c)) ∗ (pts c cc0_scratch0 (A2_0 m c)) ∗ (pts c cc0_scratch5 (f_sc0)) ∗ (∀ w0 : BitVec 32, ow c 3 ∗ dn 5 c ∗ (pts c cc0_scratch22 (S2_2 m (pt 2 c))) ∗ (pts c cc0_scratch18 (A2_2 m c)) ∗ (pts c cc0_scratch0 (A2_0 m c)) ∗ (pts c cc0_scratch5 (S3_0 m c)) -∗ Kt (w0)))
      ⊢ wp frame (wpE (defs₀ (F := F)) 𝒱₀ (c : Thread nD τ) none) Set.univ
          (k0_part19_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 v549 c1_i32_419) Kt := by
  unfold k0_part19_skel
  simp only [semSignalWord, semWaitWord, smemLoad, smemLoadElt, Prog.lift, Prog.bind_op, Prog.bind_ret, Prog.pure_eq_ret, wp_deviceId]
  iintro ⟨#HR, HO, Hwr5, Hacc2, Hacc0, Hsc0, Hk⟩
  iapply (step_wait_recv m K 5 c 3 (by decide) (by decide) _ (show ((cc0_scratch26.slice (Rect.unit (s := S3) ![1] S1.size inb_S3_S1_1)).squeeze S_ squeezes_S1_S_).sem = recvS 5 from rfl) (src := sb2) (dst := rb2) rfl) $$ [HO Hwr5]
  · isplitr; · iexact HR
    isplitl [HO] <;> iassumption
  iintro ⟨HO, Hdn5, Hrb2⟩
  ihave Hrb2 := (Entails.of_eq (show recvPay m 5 c = (pts c cc0_scratch22 (S2_2 m (pt 2 c)) : sProp 𝕄) from rfl)) $$ Hrb2
  iapply (wp_load 𝒱₀ (c : Thread nD τ) none Set.univ (m := acc2) (Finset.subset_univ _)) $$ Hacc2; iintro Hacc2
  iapply (wp_load 𝒱₀ (c : Thread nD τ) none Set.univ (m := rb2) (Finset.subset_univ _)) $$ Hrb2; iintro Hrb2
  rw [rd_rb2]
  iapply (wp_load 𝒱₀ (c : Thread nD τ) none Set.univ (m := acc2) (Finset.subset_univ _)) $$ Hacc2; iintro Hacc2
  iapply (wp_store_writes₀ (Val := Elt F) 𝒱₀ (c : Thread nD τ) none Set.univ (m := acc2) (r := (Rect.unit (s := S4x512x768) (k0_off12 c) S2x512x768.size (k0_off12_inb c))) (w := p2_2 m c) (f := A1_2 m c) (Finset.subset_univ _)) $$ Hacc2; iintro Hacc2
  ihave Hacc2 := (ptsCast c cc0_scratch18 (show acc2.view.writes (Elt F) (A1_2 m c) [⟨(Rect.unit (s := S4x512x768) (k0_off12 c) S2x512x768.size (k0_off12_inb c)), p2_2 m c⟩] = A2_2 m c from rfl)) $$ Hacc2
  iapply (wp_load 𝒱₀ (c : Thread nD τ) none Set.univ (m := acc0) (Finset.subset_univ _)) $$ Hacc0; iintro Hacc0
  iapply (wp_load 𝒱₀ (c : Thread nD τ) none Set.univ (m := sc0) (Finset.subset_univ _)) $$ Hsc0; iintro Hsc0
  iapply (wp_store (Val := Elt F) 𝒱₀ (c : Thread nD τ) none Set.univ (m := sc0) (r := (Rect.unit (s := S1x512x640) ![0, 0, 0] S1x512x640.size inb_S1x512x640_S1x512x640_0_0_0)) (w := S3_0 m c) (Mk := Finset.univ) (Finset.subset_univ _)) $$ Hsc0; iintro Hsc0
  rw [wr_sc0]
  iapply (wp_done (c := c) (Q := Kt) _)
  iapply Hk
  isplitl [HO]; · iexact HO
  isplitl [Hdn5]; · iexact Hdn5
  isplitl [Hrb2]; · iexact Hrb2
  isplitl [Hacc2]; · iexact Hacc2
  isplitl [Hacc0]; · iexact Hacc0
  iexact Hsc0

set_option maxHeartbeats 4000000 in
/-- Part 20 of the body, from the buffers and tokens it uses to what it leaves of them. -/
theorem part20 (c : Dev nD) (f_sc1 : (cc0_scratch14 : Ref sig .tc).ty.Contents (Elt F)) (f_sc2 : (cc0_scratch23 : Ref sig .tc).ty.Contents (Elt F)) (v23 : BitVec 32) (v40 : BitVec 32) (v57 : BitVec 32) (Kt : (BitVec 32) → sProp 𝕄) :
    iprop(Rec m K ∗ ow c 3 ∗ tk 6 c ∗ (pts c cc0_scratch5 (S3_0 m c)) ∗ freePay 6 (pt 0 c) ∗ (pts c cc0_scratch9 (A2_1 m c)) ∗ (pts c cc0_scratch14 (f_sc1)) ∗ tk 7 c ∗ freePay 7 (pt 2 c) ∗ (pts c cc0_scratch18 (A2_2 m c)) ∗ (pts c cc0_scratch23 (f_sc2)) ∗ (∀ w0 : BitVec 32, ow c 1 ∗ wt 6 c ∗ (pts c cc0_scratch9 (A2_1 m c)) ∗ wt 7 c ∗ (pts c cc0_scratch18 (A2_2 m c)) ∗ (pts c cc0_scratch23 (S3_2 m c)) -∗ Kt (w0)))
      ⊢ wp frame (wpE (defs₀ (F := F)) 𝒱₀ (c : Thread nD τ) none) Set.univ
          (k0_part20_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57) Kt := by
  unfold k0_part20_skel
  simp only [semSignalWord, semWaitWord, smemLoad, smemLoadElt, Prog.lift, Prog.bind_op, Prog.bind_ret, Prog.pure_eq_ret, wp_deviceId]
  iintro ⟨#HR, HO, Htk6, Hsc0, Hfr6, Hacc1, Hsc1, Htk7, Hfr7, Hacc2, Hsc2, Hk⟩
  iapply (send_6 m K c _ (dev10_eq c) _ _ (show ((cc0_scratch7.slice (Rect.unit (s := S3) ![2] S1.size inb_S3_S1_2)).squeeze S_ squeezes_S1_S_).sem = sendS 6 from rfl) (show ((cc0_scratch8.slice (Rect.unit (s := S3) ![2] S1.size inb_S3_S1_2)).squeeze S_ squeezes_S1_S_).sem = recvS 6 from rfl)) $$ [HO Htk6 Hsc0 Hfr6]
  · isplitr; · iexact HR
    isplitl [HO]; · iexact HO
    isplitl [Htk6]; · iexact Htk6
    isplitl [Hsc0] <;> iassumption
  iintro ⟨HO, Hwt6⟩
  iapply (wp_load 𝒱₀ (c : Thread nD τ) none Set.univ (m := acc1) (Finset.subset_univ _)) $$ Hacc1; iintro Hacc1
  iapply (wp_load 𝒱₀ (c : Thread nD τ) none Set.univ (m := sc1) (Finset.subset_univ _)) $$ Hsc1; iintro Hsc1
  iapply (wp_store (Val := Elt F) 𝒱₀ (c : Thread nD τ) none Set.univ (m := sc1) (r := (Rect.unit (s := S1x512x640) ![0, 0, 0] S1x512x640.size inb_S1x512x640_S1x512x640_0_0_0)) (w := S3_1 m c) (Mk := Finset.univ) (Finset.subset_univ _)) $$ Hsc1; iintro Hsc1
  rw [wr_sc1]
  iapply (send_7 m K c _ (dev11_eq c) _ _ (show ((cc0_scratch16.slice (Rect.unit (s := S3) ![2] S1.size inb_S3_S1_2)).squeeze S_ squeezes_S1_S_).sem = sendS 7 from rfl) (show ((cc0_scratch17.slice (Rect.unit (s := S3) ![2] S1.size inb_S3_S1_2)).squeeze S_ squeezes_S1_S_).sem = recvS 7 from rfl)) $$ [HO Htk7 Hsc1 Hfr7]
  · isplitr; · iexact HR
    isplitl [HO]; · iexact HO
    isplitl [Htk7]; · iexact Htk7
    isplitl [Hsc1] <;> iassumption
  iintro ⟨HO, Hwt7⟩
  iapply (wp_load 𝒱₀ (c : Thread nD τ) none Set.univ (m := acc2) (Finset.subset_univ _)) $$ Hacc2; iintro Hacc2
  iapply (wp_load 𝒱₀ (c : Thread nD τ) none Set.univ (m := sc2) (Finset.subset_univ _)) $$ Hsc2; iintro Hsc2
  iapply (wp_store (Val := Elt F) 𝒱₀ (c : Thread nD τ) none Set.univ (m := sc2) (r := (Rect.unit (s := S1x512x768) ![0, 0, 0] S1x512x768.size inb_S1x512x768_S1x512x768_0_0_0)) (w := S3_2 m c) (Mk := Finset.univ) (Finset.subset_univ _)) $$ Hsc2; iintro Hsc2
  rw [wr_sc2]
  iapply (wp_done (c := c) (Q := Kt) _)
  iapply Hk
  isplitl [HO]; · iexact HO
  isplitl [Hwt6]; · iexact Hwt6
  isplitl [Hacc1]; · iexact Hacc1
  isplitl [Hwt7]; · iexact Hwt7
  isplitl [Hacc2]; · iexact Hacc2
  iexact Hsc2

set_option maxHeartbeats 4000000 in
/-- Part 21 of the body, from the buffers and tokens it uses to what it leaves of them. -/
theorem part21 (c : Dev nD) (v23 : BitVec 32) (v40 : BitVec 32) (v57 : BitVec 32) (v619 : BitVec 32) (Kt : (Σ' (v663 : BitVec 32) (v672 : F .f32) (v689 : FVec F S512x640 .f32), FVec F S512x640 .f32) → sProp 𝕄) :
    iprop(Rec m K ∗ ow c 1 ∗ tk 8 c ∗ (pts c cc0_scratch23 (S3_2 m c)) ∗ freePay 8 (pt 1 c) ∗ (pts c cc0_stg2_0 (sxstg m c)) ∗ (pts c cc0_stg3_0 (swstg m c)) ∗ wt 6 c ∗ (pts c cc0_scratch0 (A2_0 m c)) ∗ (∀ w0 : BitVec 32, ow c 0 ∗ wt 8 c ∗ (pts c cc0_stg2_0 (sxstg m c)) ∗ (pts c cc0_stg3_0 (swstg m c)) ∗ sendPay 6 c ∗ dn 6 c ∗ (pts c cc0_scratch6 (S3_0 m (pt 0 c))) ∗ (pts c cc0_scratch0 (A2_0 m c)) -∗ Kt ⟨w0, scv m c, k0_pay45 (sxv m c) (swv m c) (acc0.view.readAt (Elt F) (Rect.unit (s := S4x512x640) (k0_off16 c) S1x512x640.size (k0_off16_inb c)).toLoadRect (A2_0 m c)) (S3_0 m (pt 0 c)), k0_pay46 (sxv m c) (swv m c) (acc0.view.readAt (Elt F) (Rect.unit (s := S4x512x640) (k0_off16 c) S1x512x640.size (k0_off16_inb c)).toLoadRect (A2_0 m c)) (S3_0 m (pt 0 c))⟩))
      ⊢ wp frame (wpE (defs₀ (F := F)) 𝒱₀ (c : Thread nD τ) none) Set.univ
          (k0_part21_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v40 v57 v619) Kt := by
  unfold k0_part21_skel
  simp only [semSignalWord, semWaitWord, smemLoad, smemLoadElt, Prog.lift, Prog.bind_op, Prog.bind_ret, Prog.pure_eq_ret, wp_deviceId]
  iintro ⟨#HR, HO, Htk8, Hsc2, Hfr8, HsxM, HswM, Hwt6, Hacc0, Hk⟩
  iapply (send_8 m K c _ (dev12_eq c) _ _ (show ((cc0_scratch25.slice (Rect.unit (s := S3) ![2] S1.size inb_S3_S1_2)).squeeze S_ squeezes_S1_S_).sem = sendS 8 from rfl) (show ((cc0_scratch26.slice (Rect.unit (s := S3) ![2] S1.size inb_S3_S1_2)).squeeze S_ squeezes_S1_S_).sem = recvS 8 from rfl)) $$ [HO Htk8 Hsc2 Hfr8]
  · isplitr; · iexact HR
    isplitl [HO]; · iexact HO
    isplitl [Htk8]; · iexact Htk8
    isplitl [Hsc2] <;> iassumption
  iintro ⟨HO, Hwt8⟩
  iapply (wp_load 𝒱₀ (c : Thread nD τ) none Set.univ (m := sxM) (Finset.subset_univ _)) $$ HsxM; iintro HsxM
  iapply (wp_load 𝒱₀ (c : Thread nD τ) none Set.univ (m := swM) (Finset.subset_univ _)) $$ HswM; iintro HswM
  iapply (step_wait_send m K 6 c 0 (by decide) _ (show ((cc0_scratch7.slice (Rect.unit (s := S3) ![2] S1.size inb_S3_S1_2)).squeeze S_ squeezes_S1_S_).sem = sendS 6 from rfl) (src := rc0) (dst := sc0) rfl) $$ [HO Hwt6]
  · isplitr; · iexact HR
    isplitl [HO] <;> iassumption
  iintro ⟨HO, Hwr6, Hsp6⟩
  iapply (step_wait_recv m K 6 c 0 (by decide) (by decide) _ (show ((cc0_scratch8.slice (Rect.unit (s := S3) ![2] S1.size inb_S3_S1_2)).squeeze S_ squeezes_S1_S_).sem = recvS 6 from rfl) (src := sc0) (dst := rc0) rfl) $$ [HO Hwr6]
  · isplitr; · iexact HR
    isplitl [HO] <;> iassumption
  iintro ⟨HO, Hdn6, Hrc0⟩
  ihave Hrc0 := (Entails.of_eq (show recvPay m 6 c = (pts c cc0_scratch6 (S3_0 m (pt 0 c)) : sProp 𝕄) from rfl)) $$ Hrc0
  iapply (wp_load 𝒱₀ (c : Thread nD τ) none Set.univ (m := acc0) (Finset.subset_univ _)) $$ Hacc0; iintro Hacc0
  iapply (wp_load 𝒱₀ (c : Thread nD τ) none Set.univ (m := rc0) (Finset.subset_univ _)) $$ Hrc0; iintro Hrc0
  rw [rd_rc0]
  iapply (wp_done (c := c) (Q := Kt) ⟨_, scv m c, k0_pay45 (sxv m c) (swv m c) (acc0.view.readAt (Elt F) (Rect.unit (s := S4x512x640) (k0_off16 c) S1x512x640.size (k0_off16_inb c)).toLoadRect (A2_0 m c)) (S3_0 m (pt 0 c)), k0_pay46 (sxv m c) (swv m c) (acc0.view.readAt (Elt F) (Rect.unit (s := S4x512x640) (k0_off16 c) S1x512x640.size (k0_off16_inb c)).toLoadRect (A2_0 m c)) (S3_0 m (pt 0 c))⟩)
  iapply Hk
  isplitl [HO]; · iexact HO
  isplitl [Hwt8]; · iexact Hwt8
  isplitl [HsxM]; · iexact HsxM
  isplitl [HswM]; · iexact HswM
  isplitl [Hsp6]; · iexact Hsp6
  isplitl [Hdn6]; · iexact Hdn6
  isplitl [Hrc0]; · iexact Hrc0
  iexact Hacc0

set_option maxHeartbeats 4000000 in
/-- Part 22 of the body, from the buffers and tokens it uses to what it leaves of them. -/
theorem part22 (c : Dev nD) (f_oM : (cc0_stg4_0 : Ref sig .tc).ty.Contents (Elt F)) (v23 : BitVec 32) (v57 : BitVec 32) (v641 : BitVec 32) (v663 : BitVec 32) (Kt : (BitVec 32) → sProp 𝕄) :
    iprop(Rec m K ∗ (pts c cc0_stg4_0 (f_oM)) ∗ ow c 0 ∗ wt 7 c ∗ (pts c cc0_scratch9 (A2_1 m c)) ∗ wt 8 c ∗ (∀ w0 : BitVec 32, (pts c cc0_stg4_0 (oM.view.writes (Elt F) (f_oM) [⟨(Rect.unit (s := S512x2048) ![0, 640] S512x640.size inb_S512x2048_S512x640_0_640), o1 m c⟩, ⟨(Rect.unit (s := S512x2048) ![0, 0] S512x640.size inb_S512x2048_S512x640_0_0), o0 m c⟩])) ∗ ow c 0 ∗ sendPay 7 c ∗ dn 7 c ∗ (pts c cc0_scratch15 (S3_1 m (pt 2 c))) ∗ (pts c cc0_scratch9 (A2_1 m c)) ∗ sendPay 8 c ∗ dn 8 c ∗ (pts c cc0_scratch24 (S3_2 m (pt 1 c))) -∗ Kt (w0)))
      ⊢ wp frame (wpE (defs₀ (F := F)) 𝒱₀ (c : Thread nD τ) none) Set.univ
          (k0_part22_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 c v23 v57 v641 v663 (scv m c) (k0_pay45 (sxv m c) (swv m c) (acc0.view.readAt (Elt F) (Rect.unit (s := S4x512x640) (k0_off16 c) S1x512x640.size (k0_off16_inb c)).toLoadRect (A2_0 m c)) (S3_0 m (pt 0 c))) (k0_pay46 (sxv m c) (swv m c) (acc0.view.readAt (Elt F) (Rect.unit (s := S4x512x640) (k0_off16 c) S1x512x640.size (k0_off16_inb c)).toLoadRect (A2_0 m c)) (S3_0 m (pt 0 c)))) Kt := by
  unfold k0_part22_skel
  simp only [semSignalWord, semWaitWord, smemLoad, smemLoadElt, Prog.lift, Prog.bind_op, Prog.bind_ret, Prog.pure_eq_ret, wp_deviceId]
  iintro ⟨#HR, HoM, HO, Hwt7, Hacc1, Hwt8, Hk⟩
  iapply (wp_load 𝒱₀ (c : Thread nD τ) none Set.univ (m := oM) (Finset.subset_univ _)) $$ HoM; iintro HoM
  iapply (wp_store_writes₀ (Val := Elt F) 𝒱₀ (c : Thread nD τ) none Set.univ (m := oM) (r := (Rect.unit (s := S512x2048) ![0, 0] S512x640.size inb_S512x2048_S512x640_0_0)) (w := o0 m c) (f := f_oM) (Finset.subset_univ _)) $$ HoM; iintro HoM
  iapply (step_wait_send m K 7 c 0 (by decide) _ (show ((cc0_scratch16.slice (Rect.unit (s := S3) ![2] S1.size inb_S3_S1_2)).squeeze S_ squeezes_S1_S_).sem = sendS 7 from rfl) (src := rc1) (dst := sc1) rfl) $$ [HO Hwt7]
  · isplitr; · iexact HR
    isplitl [HO] <;> iassumption
  iintro ⟨HO, Hwr7, Hsp7⟩
  iapply (step_wait_recv m K 7 c 0 (by decide) (by decide) _ (show ((cc0_scratch17.slice (Rect.unit (s := S3) ![2] S1.size inb_S3_S1_2)).squeeze S_ squeezes_S1_S_).sem = recvS 7 from rfl) (src := sc1) (dst := rc1) rfl) $$ [HO Hwr7]
  · isplitr; · iexact HR
    isplitl [HO] <;> iassumption
  iintro ⟨HO, Hdn7, Hrc1⟩
  ihave Hrc1 := (Entails.of_eq (show recvPay m 7 c = (pts c cc0_scratch15 (S3_1 m (pt 2 c)) : sProp 𝕄) from rfl)) $$ Hrc1
  iapply (wp_load 𝒱₀ (c : Thread nD τ) none Set.univ (m := acc1) (Finset.subset_univ _)) $$ Hacc1; iintro Hacc1
  iapply (wp_load 𝒱₀ (c : Thread nD τ) none Set.univ (m := rc1) (Finset.subset_univ _)) $$ Hrc1; iintro Hrc1
  rw [rd_rc1]
  iapply (wp_load 𝒱₀ (c : Thread nD τ) none Set.univ (m := oM) (Finset.subset_univ _)) $$ HoM; iintro HoM
  iapply (wp_store_writes (Val := Elt F) 𝒱₀ (c : Thread nD τ) none Set.univ (m := oM) (r := (Rect.unit (s := S512x2048) ![0, 640] S512x640.size inb_S512x2048_S512x640_0_640)) (w := o1 m c) (f := f_oM) (L := [⟨(Rect.unit (s := S512x2048) ![0, 0] S512x640.size inb_S512x2048_S512x640_0_0), o0 m c⟩]) (Finset.subset_univ _)) $$ HoM; iintro HoM
  iapply (step_wait_send m K 8 c 0 (by decide) _ (show ((cc0_scratch25.slice (Rect.unit (s := S3) ![2] S1.size inb_S3_S1_2)).squeeze S_ squeezes_S1_S_).sem = sendS 8 from rfl) (src := rc2) (dst := sc2) rfl) $$ [HO Hwt8]
  · isplitr; · iexact HR
    isplitl [HO] <;> iassumption
  iintro ⟨HO, Hwr8, Hsp8⟩
  iapply (step_wait_recv m K 8 c 0 (by decide) (by decide) _ (show ((cc0_scratch26.slice (Rect.unit (s := S3) ![2] S1.size inb_S3_S1_2)).squeeze S_ squeezes_S1_S_).sem = recvS 8 from rfl) (src := sc2) (dst := rc2) rfl) $$ [HO Hwr8]
  · isplitr; · iexact HR
    isplitl [HO] <;> iassumption
  iintro ⟨HO, Hdn8, Hrc2⟩
  ihave Hrc2 := (Entails.of_eq (show recvPay m 8 c = (pts c cc0_scratch24 (S3_2 m (pt 1 c)) : sProp 𝕄) from rfl)) $$ Hrc2
  iapply (wp_done (c := c) (Q := Kt) _)
  iapply Hk
  isplitl [HoM]; · iexact HoM
  isplitl [HO]; · iexact HO
  isplitl [Hsp7]; · iexact Hsp7
  isplitl [Hdn7]; · iexact Hdn7
  isplitl [Hrc1]; · iexact Hrc1
  isplitl [Hacc1]; · iexact Hacc1
  isplitl [Hsp8]; · iexact Hsp8
  isplitl [Hdn8]; · iexact Hdn8
  iexact Hrc2

end Cert.KernelIdeal.Pf

end
-- ==== Proof.KiRoot.lean ====
/-
# The body

The parts in order, from a device's tokens and buffers to what it leaves; then the obligation of the one grid point.
-/
module

public import proofs.«01_k».proof.Proof.KiBodyA
public import proofs.«01_k».proof.Proof.KiBodyB
public import proofs.«01_k».proof.Proof.KiBodyC
public import proofs.«01_k».proof.Proof.KiBodyD
public import proofs.«01_k».proof.Proof.KiBodyE

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : KK → ℕ)

omit [FloatOps F] in
/-- A device's own landing buffers that its partner across axis 0 fills are what the signal there hands over. -/
theorem barPay_intro0 (c : Dev nD) : (iprop(freePay 2 c ∗ freePay 4 c ∗ freePay 6 c) : sProp 𝕄) ⊢ barPay 0 (pt 0 c) := by
  unfold barPay; dsimp only; rw [pt_pt]

omit [FloatOps F] in
/-- A device's own landing buffers that its partner across axis 1 fills are what the signal there hands over. -/
theorem barPay_intro1 (c : Dev nD) : (iprop(freePay 1 c ∗ freePay 3 c ∗ freePay 8 c) : sProp 𝕄) ⊢ barPay 1 (pt 1 c) := by
  unfold barPay; dsimp only; rw [pt_pt]

omit [FloatOps F] in
/-- A device's own landing buffers that its partner across axis 2 fills are what the signal there hands over. -/
theorem barPay_intro2 (c : Dev nD) : (iprop(freePay 0 c ∗ freePay 5 c ∗ freePay 7 c) : sProp 𝕄) ⊢ barPay 2 (pt 2 c) := by
  unfold barPay; dsimp only; rw [pt_pt]

set_option maxHeartbeats 8000000 in
/-- The body, from the device's tokens, inputs and buffers, to its slab of the result and its buffers and counters back. -/
theorem body_run (c : Dev nD) (f_oM : (cc0_stg4_0 : Ref sig .tc).ty.Contents (Elt F)) (f_acc0 : (cc0_scratch0 : Ref sig .tc).ty.Contents (Elt F)) (f_sa0 : (cc0_scratch1 : Ref sig .tc).ty.Contents (Elt F)) (f_sb0 : (cc0_scratch3 : Ref sig .tc).ty.Contents (Elt F)) (f_sc0 : (cc0_scratch5 : Ref sig .tc).ty.Contents (Elt F)) (f_acc1 : (cc0_scratch9 : Ref sig .tc).ty.Contents (Elt F)) (f_sa1 : (cc0_scratch10 : Ref sig .tc).ty.Contents (Elt F)) (f_sb1 : (cc0_scratch12 : Ref sig .tc).ty.Contents (Elt F)) (f_sc1 : (cc0_scratch14 : Ref sig .tc).ty.Contents (Elt F)) (f_acc2 : (cc0_scratch18 : Ref sig .tc).ty.Contents (Elt F)) (f_sa2 : (cc0_scratch19 : Ref sig .tc).ty.Contents (Elt F)) (f_sb2 : (cc0_scratch21 : Ref sig .tc).ty.Contents (Elt F)) (f_sc2 : (cc0_scratch23 : Ref sig .tc).ty.Contents (Elt F)) (Kt : PUnit → sProp 𝕄) :
    iprop(Rec m K ∗ ow c 12 ∗ tb c ∗ tk 0 c ∗ tk 1 c ∗ tk 2 c ∗ tk 3 c ∗ tk 4 c ∗ tk 5 c ∗ tk 6 c ∗ tk 7 c ∗ tk 8 c ∗ (pts c cc0_stg0_0 (xstg m c)) ∗ (pts c cc0_stg1_0 (wstg m c)) ∗ (pts c cc0_stg2_0 (sxstg m c)) ∗ (pts c cc0_stg3_0 (swstg m c)) ∗ (pts c cc0_stg4_0 (f_oM)) ∗ (pts c cc0_scratch0 (f_acc0)) ∗ (pts c cc0_scratch1 (f_sa0)) ∗ (pts c cc0_scratch3 (f_sb0)) ∗ (pts c cc0_scratch5 (f_sc0)) ∗ (pts c cc0_scratch9 (f_acc1)) ∗ (pts c cc0_scratch10 (f_sa1)) ∗ (pts c cc0_scratch12 (f_sb1)) ∗ (pts c cc0_scratch14 (f_sc1)) ∗ (pts c cc0_scratch18 (f_acc2)) ∗ (pts c cc0_scratch19 (f_sa2)) ∗ (pts c cc0_scratch21 (f_sb2)) ∗ (pts c cc0_scratch23 (f_sc2)) ∗ freePay 0 c ∗ freePay 1 c ∗ freePay 2 c ∗ freePay 3 c ∗ freePay 4 c ∗ freePay 5 c ∗ freePay 6 c ∗ freePay 7 c ∗ freePay 8 c
        ∗ (ow c 0 ∗ (semVal (barCell c) 0) ∗ dn 0 c ∗ dn 1 c ∗ dn 2 c ∗ dn 3 c ∗ dn 4 c ∗ dn 5 c ∗ dn 6 c ∗ dn 7 c ∗ dn 8 c ∗ sendPay 0 c ∗ sendPay 1 c ∗ sendPay 2 c ∗ sendPay 3 c ∗ sendPay 4 c ∗ sendPay 5 c ∗ sendPay 6 c ∗ sendPay 7 c ∗ sendPay 8 c ∗ (pts c cc0_stg0_0 (xstg m c)) ∗ (pts c cc0_stg1_0 (wstg m c)) ∗ (pts c cc0_stg2_0 (sxstg m c)) ∗ (pts c cc0_stg3_0 (swstg m c)) ∗ (pts c cc0_stg4_0 (outC m c)) ∗ (pts c cc0_scratch0 (A2_0 m c)) ∗ (pts c cc0_scratch9 (A2_1 m c)) ∗ (pts c cc0_scratch18 (A2_2 m c)) ∗ (pts c cc0_scratch2 (S1_0 m (pt 2 c))) ∗ (pts c cc0_scratch11 (S1_1 m (pt 1 c))) ∗ (pts c cc0_scratch20 (S1_2 m (pt 0 c))) ∗ (pts c cc0_scratch4 (S2_0 m (pt 1 c))) ∗ (pts c cc0_scratch13 (S2_1 m (pt 0 c))) ∗ (pts c cc0_scratch22 (S2_2 m (pt 2 c))) ∗ (pts c cc0_scratch6 (S3_0 m (pt 0 c))) ∗ (pts c cc0_scratch15 (S3_1 m (pt 2 c))) ∗ (pts c cc0_scratch24 (S3_2 m (pt 1 c))) -∗ Kt ⟨⟩))
      ⊢ wp frame (wpE (defs₀ (F := F)) 𝒱₀ (c : Thread nD τ) none) Set.univ
          (cc0_body_skel (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26) Kt := by
  unfold cc0_body_skel
  iintro ⟨#HR, HO, Htb, Htk0, Htk1, Htk2, Htk3, Htk4, Htk5, Htk6, Htk7, Htk8, HxM, HwM, HsxM, HswM, HoM, Hacc0, Hsa0, Hsb0, Hsc0, Hacc1, Hsa1, Hsb1, Hsc1, Hacc2, Hsa2, Hsb2, Hsc2, Hfp0, Hfp1, Hfp2, Hfp3, Hfp4, Hfp5, Hfp6, Hfp7, Hfp8, Hk⟩
  unfold tb; icases Htb with ⟨Htb0, Htb1, Htb2, HatB, HcrB⟩
  ihave Hbp0 := (barPay_intro0 (F := F) c) $$ [Hfp2 Hfp4 Hfp6]
  · isplitl [Hfp2]; · iexact Hfp2
    isplitl [Hfp4] <;> iassumption
  ihave Hbp1 := (barPay_intro1 (F := F) c) $$ [Hfp1 Hfp3 Hfp8]
  · isplitl [Hfp1]; · iexact Hfp1
    isplitl [Hfp3] <;> iassumption
  ihave Hbp2 := (barPay_intro2 (F := F) c) $$ [Hfp0 Hfp5 Hfp7]
  · isplitl [Hfp0]; · iexact Hfp0
    isplitl [Hfp5] <;> iassumption
  rw [wp_bind, k0_part1_eq_skeleton]
  iapply (part1  c   _)
  iintro %v2_ %v23_ %v24_ %v38_ %v39_
  try dsimp only
  rw [wp_bind, k0_part2_eq_skeleton]
  iapply (part2 m K c  v2_ v23_ v24_ v38_ v39_ _)
  isplitr; · iexact HR
  isplitl [HO]; · iexact HO
  isplitl [Htb0]; · iexact Htb0
  isplitl [Hbp0]; · iexact Hbp0
  isplitl [Htb1]; · iexact Htb1
  isplitl [Hbp1]; · iexact Hbp1
  iintro %v40_ %v57_ HO
  try dsimp only
  rw [wp_bind, k0_part3_eq_skeleton]
  iapply (part3 m K c f_sa0 v23_ v40_ v57_ _)
  isplitr; · iexact HR
  isplitl [HO]; · iexact HO
  isplitl [Htb2]; · iexact Htb2
  isplitl [Hbp2]; · iexact Hbp2
  isplitl [HatB]; · iexact HatB
  isplitl [HcrB]; · iexact HcrB
  isplitl [HwM]; · iexact HwM
  isplitl [HxM]; · iexact HxM
  isplitl [Hsa0]; · iexact Hsa0
  iintro ⟨HO, HzB, Hbq0, Hbq1, Hbq2, HwM, HxM, Hsa0⟩
  try dsimp only
  ihave Hbq0 := (Entails.of_eq (show (barPay 0 c : sProp 𝕄) = iprop(freePay 2 (pt 0 c) ∗ freePay 4 (pt 0 c) ∗ freePay 6 (pt 0 c)) from rfl)) $$ Hbq0
  icases Hbq0 with ⟨Hfr2, Hfr4, Hfr6⟩
  ihave Hbq1 := (Entails.of_eq (show (barPay 1 c : sProp 𝕄) = iprop(freePay 1 (pt 1 c) ∗ freePay 3 (pt 1 c) ∗ freePay 8 (pt 1 c)) from rfl)) $$ Hbq1
  icases Hbq1 with ⟨Hfr1, Hfr3, Hfr8⟩
  ihave Hbq2 := (Entails.of_eq (show (barPay 2 c : sProp 𝕄) = iprop(freePay 0 (pt 2 c) ∗ freePay 5 (pt 2 c) ∗ freePay 7 (pt 2 c)) from rfl)) $$ Hbq2
  icases Hbq2 with ⟨Hfr0, Hfr5, Hfr7⟩
  rw [wp_bind, k0_part4_eq_skeleton]
  iapply (part4 m  c f_sa0 v57_ _)
  isplitl [HxM]; · iexact HxM
  isplitl [Hsa0]; · iexact Hsa0
  iintro %v141_ ⟨HxM, Hsa0⟩
  try dsimp only
  rw [wp_bind, k0_part5_eq_skeleton]
  iapply (part5 m K c f_sa0 f_sa1 v23_ v40_ v57_ v141_ _)
  isplitr; · iexact HR
  isplitl [HxM]; · iexact HxM
  isplitl [Hsa0]; · iexact Hsa0
  isplitl [HO]; · iexact HO
  isplitl [Htk0]; · iexact Htk0
  isplitl [Hfr0]; · iexact Hfr0
  isplitl [Hsa1]; · iexact Hsa1
  iintro %v157_ ⟨HxM, HO, Hwt0, Hsa1⟩
  try dsimp only
  rw [wp_bind, k0_part6_eq_skeleton]
  iapply (part6 m  c f_sa1 v40_ _)
  isplitl [HxM]; · iexact HxM
  isplitl [Hsa1]; · iexact Hsa1
  iintro ⟨HxM, Hsa1⟩
  try dsimp only
  rw [wp_bind, k0_part7_eq_skeleton]
  iapply (part7 m K c f_sa1 f_sa2 v23_ v40_ v57_ _)
  isplitr; · iexact HR
  isplitl [Hsa1]; · iexact Hsa1
  isplitl [HO]; · iexact HO
  isplitl [Htk1]; · iexact Htk1
  isplitl [Hfr1]; · iexact Hfr1
  isplitl [HxM]; · iexact HxM
  isplitl [Hsa2]; · iexact Hsa2
  iintro %v222_ %c1_i32_142_ ⟨HO, Hwt1, HxM, Hsa2⟩
  try dsimp only
  rw [wp_bind, k0_part8_eq_skeleton]
  iapply (part8 m  c f_sa2 v23_ c1_i32_142_ _)
  isplitl [HxM]; · iexact HxM
  isplitl [Hsa2]; · iexact Hsa2
  iintro %v277_ %v278_ %c2_i32_166_ ⟨HxM, Hsa2⟩
  try dsimp only
  rw [wp_bind, k0_part9_eq_skeleton]
  iapply (part9 m K c f_sa2 v23_ v40_ v57_ v277_ v278_ c2_i32_166_ _)
  isplitr; · iexact HR
  isplitl [HxM]; · iexact HxM
  isplitl [Hsa2]; · iexact Hsa2
  isplitl [HO]; · iexact HO
  isplitl [Htk2]; · iexact Htk2
  isplitl [Hfr2]; · iexact Hfr2
  iintro %v299_ ⟨HxM, HO, Hwt2⟩
  try dsimp only
  rw [wp_bind, k0_part10_eq_skeleton]
  iapply (part10 m  c f_acc0 v57_ _)
  isplitl [Hacc0]; · iexact Hacc0
  isplitl [HxM]; · iexact HxM
  iintro ⟨Hacc0, HxM⟩
  try dsimp only
  rw [wp_bind, k0_part11_eq_skeleton]
  iapply (part11 m  c f_acc0 f_acc1 v40_ _)
  isplitl [HxM]; · iexact HxM
  isplitl [Hacc0]; · iexact Hacc0
  isplitl [Hacc1]; · iexact Hacc1
  iintro ⟨HxM, Hacc0, Hacc1⟩
  try dsimp only
  rw [wp_bind, k0_part12_eq_skeleton]
  iapply (part12 m  c f_acc1 f_acc2 v23_ v40_ _)
  isplitl [HxM]; · iexact HxM
  isplitl [Hacc1]; · iexact Hacc1
  isplitl [Hacc2]; · iexact Hacc2
  iintro %v412_ ⟨HxM, Hacc1, Hacc2⟩
  try dsimp only
  rw [wp_bind, k0_part13_eq_skeleton]
  iapply (part13 m  c f_acc2 v23_ v412_ _)
  isplitl [HxM]; · iexact HxM
  isplitl [Hacc2]; · iexact Hacc2
  iintro ⟨HxM, Hacc2⟩
  try dsimp only
  rw [wp_bind, k0_part14_eq_skeleton]
  iapply (part14 m K c f_acc2 v157_ v222_ _)
  isplitr; · iexact HR
  isplitl [HxM]; · iexact HxM
  isplitl [Hacc2]; · iexact Hacc2
  isplitl [HO]; · iexact HO
  isplitl [Hwt0]; · iexact Hwt0
  isplitl [Hacc0]; · iexact Hacc0
  isplitl [Hwt1]; · iexact Hwt1
  iintro ⟨HxM, Hacc2, HO, Hsp0, Hdn0, Hra0, Hacc0, Hsp1, Hdn1, Hra1⟩
  try dsimp only
  rw [wp_bind, k0_part15_eq_skeleton]
  iapply (part15 m K c  v40_ v299_ _)
  isplitr; · iexact HR
  isplitl [Hacc1]; · iexact Hacc1
  isplitl [Hra1]; · iexact Hra1
  isplitl [HO]; · iexact HO
  isplitl [Hwt2]; · iexact Hwt2
  isplitl [Hacc2]; · iexact Hacc2
  isplitl [Hacc0]; · iexact Hacc0
  iintro ⟨Hacc1, Hra1, HO, Hsp2, Hdn2, Hra2, Hacc2, Hacc0⟩
  try dsimp only
  rw [wp_bind, k0_part16_eq_skeleton]
  iapply (part16 m K c f_sb0 f_sb1 v23_ v40_ v57_ _)
  isplitr; · iexact HR
  isplitl [Hsb0]; · iexact Hsb0
  isplitl [HO]; · iexact HO
  isplitl [Htk3]; · iexact Htk3
  isplitl [Hfr3]; · iexact Hfr3
  isplitl [Hacc1]; · iexact Hacc1
  isplitl [Hsb1]; · iexact Hsb1
  iintro %v507_ %v528_ ⟨HO, Hwt3, Hacc1, Hsb1⟩
  try dsimp only
  rw [wp_bind, k0_part17_eq_skeleton]
  iapply (part17 m K c f_sb2 v23_ v40_ v57_ v507_ _)
  isplitr; · iexact HR
  isplitl [HO]; · iexact HO
  isplitl [Htk4]; · iexact Htk4
  isplitl [Hsb1]; · iexact Hsb1
  isplitl [Hfr4]; · iexact Hfr4
  isplitl [Hacc2]; · iexact Hacc2
  isplitl [Hsb2]; · iexact Hsb2
  isplitl [Htk5]; · iexact Htk5
  isplitl [Hfr5]; · iexact Hfr5
  isplitl [Hwt3]; · iexact Hwt3
  iintro %v549_ %v562_ ⟨HO, Hwt4, Hacc2, Hwt5, Hsp3, Hdn3, Hrb0⟩
  try dsimp only
  rw [wp_bind, k0_part18_eq_skeleton]
  iapply (part18 m K c  v23_ v528_ v562_ _)
  isplitr; · iexact HR
  isplitl [Hacc0]; · iexact Hacc0
  isplitl [Hrb0]; · iexact Hrb0
  isplitl [HO]; · iexact HO
  isplitl [Hwt4]; · iexact Hwt4
  isplitl [Hacc1]; · iexact Hacc1
  isplitl [Hwt5]; · iexact Hwt5
  iintro %c1_i32_419_ ⟨Hacc0, Hrb0, HO, Hsp4, Hdn4, Hrb1, Hacc1, Hwr5, Hsp5⟩
  try dsimp only
  rw [wp_bind, k0_part19_eq_skeleton]
  iapply (part19 m K c f_sc0 v23_ v40_ v57_ v549_ c1_i32_419_ _)
  isplitr; · iexact HR
  isplitl [HO]; · iexact HO
  isplitl [Hwr5]; · iexact Hwr5
  isplitl [Hacc2]; · iexact Hacc2
  isplitl [Hacc0]; · iexact Hacc0
  isplitl [Hsc0]; · iexact Hsc0
  iintro %v619_ ⟨HO, Hdn5, Hrb2, Hacc2, Hacc0, Hsc0⟩
  try dsimp only
  rw [wp_bind, k0_part20_eq_skeleton]
  iapply (part20 m K c f_sc1 f_sc2 v23_ v40_ v57_ _)
  isplitr; · iexact HR
  isplitl [HO]; · iexact HO
  isplitl [Htk6]; · iexact Htk6
  isplitl [Hsc0]; · iexact Hsc0
  isplitl [Hfr6]; · iexact Hfr6
  isplitl [Hacc1]; · iexact Hacc1
  isplitl [Hsc1]; · iexact Hsc1
  isplitl [Htk7]; · iexact Htk7
  isplitl [Hfr7]; · iexact Hfr7
  isplitl [Hacc2]; · iexact Hacc2
  isplitl [Hsc2]; · iexact Hsc2
  iintro %v641_ ⟨HO, Hwt6, Hacc1, Hwt7, Hacc2, Hsc2⟩
  try dsimp only
  rw [wp_bind, k0_part21_eq_skeleton]
  iapply (part21 m K c  v23_ v40_ v57_ v619_ _)
  isplitr; · iexact HR
  isplitl [HO]; · iexact HO
  isplitl [Htk8]; · iexact Htk8
  isplitl [Hsc2]; · iexact Hsc2
  isplitl [Hfr8]; · iexact Hfr8
  isplitl [HsxM]; · iexact HsxM
  isplitl [HswM]; · iexact HswM
  isplitl [Hwt6]; · iexact Hwt6
  isplitl [Hacc0]; · iexact Hacc0
  iintro %v663_ ⟨HO, Hwt8, HsxM, HswM, Hsp6, Hdn6, Hrc0, Hacc0⟩
  try dsimp only
  rw [wp_bind, k0_part22_eq_skeleton]
  iapply (part22 m K c f_oM v23_ v57_ v641_ v663_ _)
  isplitr; · iexact HR
  isplitl [HoM]; · iexact HoM
  isplitl [HO]; · iexact HO
  isplitl [Hwt7]; · iexact Hwt7
  isplitl [Hacc1]; · iexact Hacc1
  isplitl [Hwt8]; · iexact Hwt8
  iintro %v719_ ⟨HoM, HO, Hsp7, Hdn7, Hrc1, Hacc1, Hsp8, Hdn8, Hrc2⟩
  try dsimp only
  simp only [Prog.lift, Prog.bind_op, Prog.bind_ret, Prog.pure_eq_ret]
  iapply (wp_load 𝒱₀ (c : Thread nD τ) none Set.univ (m := acc2) (Finset.subset_univ _)) $$ Hacc2; iintro Hacc2
  iapply (wp_load 𝒱₀ (c : Thread nD τ) none Set.univ (m := rc2) (Finset.subset_univ _)) $$ Hrc2; iintro Hrc2
  rw [rd_rc2]
  iapply (wp_load 𝒱₀ (c : Thread nD τ) none Set.univ (m := oM) (Finset.subset_univ _)) $$ HoM; iintro HoM
  iapply (wp_store_writes (Val := Elt F) 𝒱₀ (c : Thread nD τ) none Set.univ (m := oM) (r := (Rect.unit (s := S512x2048) ![0, 1280] S512x768.size inb_S512x2048_S512x768_0_1280)) (w := o2 m c) (f := f_oM) (L := [⟨(Rect.unit (s := S512x2048) ![0, 640] S512x640.size inb_S512x2048_S512x640_0_640), o1 m c⟩, ⟨(Rect.unit (s := S512x2048) ![0, 0] S512x640.size inb_S512x2048_S512x640_0_0), o0 m c⟩]) (Finset.subset_univ _)) $$ HoM; iintro HoM
  ihave HoM := (ptsCast c cc0_stg4_0 (b := outC m c) (outC_eq m c (f_oM))) $$ HoM
  iapply (wp_done (c := c) (Q := Kt) ⟨⟩)
  iapply Hk
  isplitl [HO]; · iexact HO
  isplitl [HzB]; · iexact HzB
  isplitl [Hdn0]; · iexact Hdn0
  isplitl [Hdn1]; · iexact Hdn1
  isplitl [Hdn2]; · iexact Hdn2
  isplitl [Hdn3]; · iexact Hdn3
  isplitl [Hdn4]; · iexact Hdn4
  isplitl [Hdn5]; · iexact Hdn5
  isplitl [Hdn6]; · iexact Hdn6
  isplitl [Hdn7]; · iexact Hdn7
  isplitl [Hdn8]; · iexact Hdn8
  isplitl [Hsp0]; · iexact Hsp0
  isplitl [Hsp1]; · iexact Hsp1
  isplitl [Hsp2]; · iexact Hsp2
  isplitl [Hsp3]; · iexact Hsp3
  isplitl [Hsp4]; · iexact Hsp4
  isplitl [Hsp5]; · iexact Hsp5
  isplitl [Hsp6]; · iexact Hsp6
  isplitl [Hsp7]; · iexact Hsp7
  isplitl [Hsp8]; · iexact Hsp8
  isplitl [HxM]; · iexact HxM
  isplitl [HwM]; · iexact HwM
  isplitl [HsxM]; · iexact HsxM
  isplitl [HswM]; · iexact HswM
  isplitl [HoM]; · iexact HoM
  isplitl [Hacc0]; · iexact Hacc0
  isplitl [Hacc1]; · iexact Hacc1
  isplitl [Hacc2]; · iexact Hacc2
  isplitl [Hra0]; · iexact Hra0
  isplitl [Hra1]; · iexact Hra1
  isplitl [Hra2]; · iexact Hra2
  isplitl [Hrb0]; · iexact Hrb0
  isplitl [Hrb1]; · iexact Hrb1
  isplitl [Hrb2]; · iexact Hrb2
  isplitl [Hrc0]; · iexact Hrc0
  isplitl [Hrc1]; · iexact Hrc1
  iexact Hrc2

end Cert.KernelIdeal.Pf

end
-- ==== Proof.KiLaunch.lean ====
/-
# The run

The body's run (`body_run`) under the staging of the windows, at the launch of `KiGhost`: every execution on the eight devices
ends, with all counters at zero, the arguments as they were and the result array holding `outC`.
-/
module

public import proofs.«01_k».proof.Proof.KiGhost
public import proofs.«01_k».proof.Proof.KiRoot
public import proofs.«01_k».proof.Proof.Gen.KernelIdeal.Launch
public import proofs.«01_k».proof.Proof.Gen.KernelIdeal.Points
public import Idealize.ShloMosaic.Lib.Pipeline.CollectiveSegs

@[expose] public section

set_option maxRecDepth 16384

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Before the body: what it starts from and its scratch buffers; after it: all counters at zero and the buffers back. -/
def Φ₀ (c : Dev nD) : sProp 𝕄 := iprop(start m c ∗ Pipeline.scopedRest cfg0.spec c)
def Φ₁ (c : Dev nD) : sProp 𝕄 :=
  iprop(semVal (barCell c) 0 ∗ (bigSep Finset.univ fun i : Fin 9 => dn i c) ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body finds, its scratch buffers named. -/
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What it leaves. -/
def bodyPost (c : Dev nD) : sProp 𝕄 :=
  iprop(Φ₁ c ∗ (dats m ρ 0 c).owesAt () t0_0.succ
    ∗ stg c cc0_stg0_0 (xstg m c)
    ∗ stg c cc0_stg1_0 (wstg m c)
    ∗ stg c cc0_stg2_0 (sxstg m c)
    ∗ stg c cc0_stg3_0 (swstg m c)
    ∗ stg c cc0_stg4_0 (outC m c))

theorem before_x (c : Dev nD) (d) : (dats m ρ 0 c).before (0 : Fin 5) t0_0 d = xstg m c := by
  unfold Dat.before; rw [if_pos (fetch0_0 t0_0)]; rfl
theorem before_w (c : Dev nD) (d) : (dats m ρ 0 c).before (1 : Fin 5) t0_0 d = wstg m c := by
  unfold Dat.before; rw [if_pos (fetch0_1 t0_0)]; rfl
theorem before_sx (c : Dev nD) (d) : (dats m ρ 0 c).before (2 : Fin 5) t0_0 d = sxstg m c := by
  unfold Dat.before; rw [if_pos (fetch0_2 t0_0)]; rfl
theorem before_sw (c : Dev nD) (d) : (dats m ρ 0 c).before (3 : Fin 5) t0_0 d = swstg m c := by
  unfold Dat.before; rw [if_pos (fetch0_3 t0_0)]; rfl

set_option maxHeartbeats 4000000 in
/-- The body, from what it finds to what it leaves. -/
theorem sound (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26) (fun _ => bodyPost m ρ c) := by
  rw [cc0_body_eq_skeleton]
  unfold bodyPre Φ₀ start Dat.owesAt Pipeline.owesWithin
  simp only [before_x, before_w, before_sx, before_sw]
  rw [show (dats m ρ 0 c).owed t0_0.castSucc = owe c 12 from rfl, scopedRest0_eq, sep_fin9]
  iintro ⟨⟨⟨⟨%K, #HR⟩, Htb, Htk0, Htk1, Htk2, Htk3, Htk4, Htk5, Htk6, Htk7, Htk8⟩, ⟨⟨%f0, H0⟩, ⟨%f1, H1⟩, ⟨%f2, H2⟩, ⟨%f3, H3⟩, ⟨%f4, H4⟩, ⟨%f5, H5⟩, ⟨%f6, H6⟩, ⟨%f9, H9⟩, ⟨%f10, H10⟩, ⟨%f11, H11⟩, ⟨%f12, H12⟩, ⟨%f13, H13⟩, ⟨%f14, H14⟩, ⟨%f15, H15⟩, ⟨%f18, H18⟩, ⟨%f19, H19⟩, ⟨%f20, H20⟩, ⟨%f21, H21⟩, ⟨%f22, H22⟩, ⟨%f23, H23⟩, ⟨%f24, H24⟩⟩⟩, ⟨%W, %hW, HO⟩, ⟨%dx, %gx, %hgx, Hx⟩, ⟨%dw, %gw, %hgw, Hw⟩, ⟨%dsx, %gsx, %hgsx, Hsx⟩, ⟨%dsw, %gsw, %hgsw, Hsw⟩, ⟨%d_, %go, %hgo, Ho⟩⟩
  subst hgx hgw hgsx hgsw hgo
  iapply (body_run m K c _ f0 f1 f3 f5 f9 f10 f12 f14 f18 f19 f21 f23 (fun _ => bodyPost m ρ c))
  isplitr; · iexact HR
  isplitl [HO]; · unfold ow; iexists W; iexact HO
  isplitl [Htb]; · iexact Htb
  isplitl [Htk0]; · iexact Htk0
  isplitl [Htk1]; · iexact Htk1
  isplitl [Htk2]; · iexact Htk2
  isplitl [Htk3]; · iexact Htk3
  isplitl [Htk4]; · iexact Htk4
  isplitl [Htk5]; · iexact Htk5
  isplitl [Htk6]; · iexact Htk6
  isplitl [Htk7]; · iexact Htk7
  isplitl [Htk8]; · iexact Htk8
  isplitl [Hx]; · iexact Hx
  isplitl [Hw]; · iexact Hw
  isplitl [Hsx]; · iexact Hsx
  isplitl [Hsw]; · iexact Hsw
  isplitl [Ho]; · iexact Ho
  isplitl [H0]; · iexact H0
  isplitl [H1]; · iexact H1
  isplitl [H3]; · iexact H3
  isplitl [H5]; · iexact H5
  isplitl [H9]; · iexact H9
  isplitl [H10]; · iexact H10
  isplitl [H12]; · iexact H12
  isplitl [H14]; · iexact H14
  isplitl [H18]; · iexact H18
  isplitl [H19]; · iexact H19
  isplitl [H21]; · iexact H21
  isplitl [H23]; · iexact H23
  isplitl [H2]; · unfold freePay; dsimp only; iexists f2; iexact H2
  isplitl [H11]; · unfold freePay; dsimp only; iexists f11; iexact H11
  isplitl [H20]; · unfold freePay; dsimp only; iexists f20; iexact H20
  isplitl [H4]; · unfold freePay; dsimp only; iexists f4; iexact H4
  isplitl [H13]; · unfold freePay; dsimp only; iexists f13; iexact H13
  isplitl [H22]; · unfold freePay; dsimp only; iexists f22; iexact H22
  isplitl [H6]; · unfold freePay; dsimp only; iexists f6; iexact H6
  isplitl [H15]; · unfold freePay; dsimp only; iexists f15; iexact H15
  isplitl [H24]; · unfold freePay; dsimp only; iexists f24; iexact H24
  skip
  iintro ⟨HO, Hbar, Hdn0, Hdn1, Hdn2, Hdn3, Hdn4, Hdn5, Hdn6, Hdn7, Hdn8, Hsp0, Hsp1, Hsp2, Hsp3, Hsp4, Hsp5, Hsp6, Hsp7, Hsp8, Hx, Hw, Hsx, Hsw, Ho, H0, H9, H18, H2, H11, H20, H4, H13, H22, H6, H15, H24⟩
  unfold bodyPost Φ₁ Dat.owesAt Pipeline.owesWithin ow
  rw [show (dats m ρ 0 c).owed t0_0.succ = owe c 0 from rfl, scopedRest0_eq, sep_fin9]
  isplitl [Hbar Hdn0 Hsp0 Hdn1 Hsp1 Hdn2 Hsp2 Hdn3 Hsp3 Hdn4 Hsp4 Hdn5 Hsp5 Hdn6 Hsp6 Hdn7 Hsp7 Hdn8 Hsp8 H0 H2 H4 H6 H9 H11 H13 H15 H18 H20 H22 H24]
  · isplitl [Hbar]; · iexact Hbar
    isplitl [Hdn0 Hdn1 Hdn2 Hdn3 Hdn4 Hdn5 Hdn6 Hdn7 Hdn8]
    · isplitl [Hdn0]; · iexact Hdn0
      isplitl [Hdn1]; · iexact Hdn1
      isplitl [Hdn2]; · iexact Hdn2
      isplitl [Hdn3]; · iexact Hdn3
      isplitl [Hdn4]; · iexact Hdn4
      isplitl [Hdn5]; · iexact Hdn5
      isplitl [Hdn6]; · iexact Hdn6
      isplitl [Hdn7]; · iexact Hdn7
      iexact Hdn8
    isplitl [H0]; · iexists _; iexact H0
    isplitl [Hsp0]; · ihave H' := (show sendPay 0 c ⊢ iprop(∃ f, (((c : Thread nD τ).loc cc0_scratch1) ↦{fullShare} f : sProp 𝕄)) from Entails.of_eq rfl) $$ Hsp0; iexact H'
    isplitl [H2]; · iexists _; iexact H2
    isplitl [Hsp3]; · ihave H' := (show sendPay 3 c ⊢ iprop(∃ f, (((c : Thread nD τ).loc cc0_scratch3) ↦{fullShare} f : sProp 𝕄)) from Entails.of_eq rfl) $$ Hsp3; iexact H'
    isplitl [H4]; · iexists _; iexact H4
    isplitl [Hsp6]; · ihave H' := (show sendPay 6 c ⊢ iprop(∃ f, (((c : Thread nD τ).loc cc0_scratch5) ↦{fullShare} f : sProp 𝕄)) from Entails.of_eq rfl) $$ Hsp6; iexact H'
    isplitl [H6]; · iexists _; iexact H6
    isplitl [H9]; · iexists _; iexact H9
    isplitl [Hsp1]; · ihave H' := (show sendPay 1 c ⊢ iprop(∃ f, (((c : Thread nD τ).loc cc0_scratch10) ↦{fullShare} f : sProp 𝕄)) from Entails.of_eq rfl) $$ Hsp1; iexact H'
    isplitl [H11]; · iexists _; iexact H11
    isplitl [Hsp4]; · ihave H' := (show sendPay 4 c ⊢ iprop(∃ f, (((c : Thread nD τ).loc cc0_scratch12) ↦{fullShare} f : sProp 𝕄)) from Entails.of_eq rfl) $$ Hsp4; iexact H'
    isplitl [H13]; · iexists _; iexact H13
    isplitl [Hsp7]; · ihave H' := (show sendPay 7 c ⊢ iprop(∃ f, (((c : Thread nD τ).loc cc0_scratch14) ↦{fullShare} f : sProp 𝕄)) from Entails.of_eq rfl) $$ Hsp7; iexact H'
    isplitl [H15]; · iexists _; iexact H15
    isplitl [H18]; · iexists _; iexact H18
    isplitl [Hsp2]; · ihave H' := (show sendPay 2 c ⊢ iprop(∃ f, (((c : Thread nD τ).loc cc0_scratch19) ↦{fullShare} f : sProp 𝕄)) from Entails.of_eq rfl) $$ Hsp2; iexact H'
    isplitl [H20]; · iexists _; iexact H20
    isplitl [Hsp5]; · ihave H' := (show sendPay 5 c ⊢ iprop(∃ f, (((c : Thread nD τ).loc cc0_scratch21) ↦{fullShare} f : sProp 𝕄)) from Entails.of_eq rfl) $$ Hsp5; iexact H'
    isplitl [H22]; · iexists _; iexact H22
    isplitl [Hsp8]; · ihave H' := (show sendPay 8 c ⊢ iprop(∃ f, (((c : Thread nD τ).loc cc0_scratch23) ↦{fullShare} f : sProp 𝕄)) from Entails.of_eq rfl) $$ Hsp8; iexact H'
    iexists _; iexact H24
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Ho

set_option maxHeartbeats 1000000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  isplitl
  · iapply (start_make m c)
    isplitl [Hlev]; · iexact Hlev
    isplitl [Hcr]; · iexact Hcr
    iexact HG
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_eq, unscoped_eq]
  unfold Φ₁
  iintro ⟨Hb, Hd, Hr⟩
  isplitl [Hb]; · iexact Hb
  isplitl [Hd]; · iexact Hd
  iexact Hr

/-- A staging semaphore is none of the exchange's. -/
theorem lv_stage (c : Dev nD) (sm : SemLoc sig) (h : ∀ k, csem k ≠ sm) : lv ((c : Thread nD τ), sm) () = 0 := by
  unfold lv
  show lvOf (dec sm) = 0
  rcases hd : dec sm with _ | k
  · rfl
  · exact absurd (csem_of_dec hd) (h k)

theorem waits (c : Dev nD) : (levAts L lv : sProp 𝕄) ⊢ Pipeline.cellsWaits cfgs (dats m ρ) () 0 c :=
  Pipeline.cellsWaits_intro cfgs (dats m ρ) () 0 c fun w s t => by
    have hs : ∀ k, csem k ≠ .dma (((cfgs 0).win w).sem s) := by
      fin_cases w <;> fin_cases s <;> decide +kernel
    rcases t with ⟨_ | _, ht⟩
    · exact mayWait c _ 12 0 (le_refl _) (le_of_eq (lv_stage c _ hs)) (by decide)
    · exact mayWait c _ 0 0 (by decide) (le_of_eq (lv_stage c _ hs)) (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution on the eight devices ends, each array at its final contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) :
    finalA m ρ c w = (s₀ m ρ).mem ((cfg0.win w).arr.view.loc (c : Thread nD τ)) := (dats (F := F) m ρ 0 c).arrAt_in w h _

/-- The arguments are unchanged, the counters are at zero. -/
theorem frame_main : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨(h.1 c (0 : Fin 5)).trans (finalA_in m ρ c (0 : Fin 5) rfl), (h.1 c (1 : Fin 5)).trans (finalA_in m ρ c (1 : Fin 5) rfl),
      (h.1 c (2 : Fin 5)).trans (finalA_in m ρ c (2 : Fin 5) rfl), (h.1 c (3 : Fin 5)).trans (finalA_in m ρ c (3 : Fin 5) rfl)⟩, h.2⟩) (run_main m ρ)

end Cert.KernelIdeal.Pf

end
-- ==== Proof.Same.lean ====
/-
# The kernel at bits

The ideal kernel is the printed kernel's own text, no operation replaced. What was proved of the one, at any values of the
floats, is what is said of the other at bits.
-/
module

public import proofs.«01_k».proof.Proof.Gen.Kernel
public import proofs.«01_k».proof.Proof.KiLaunch
public import Idealize.ShloMosaic.PureOps.BitExact

@[expose] public section

set_option maxRecDepth 16384

noncomputable section

namespace Cert.Same

open Idealize.ShloMosaic Idealize.ShloMosaic.TcCoe Idealize.SL.Sem

theorem body_eq (F : FTy → Type) [FloatOps F] :
    @Cert.Kernel.cc0_body F _ Cert.Kernel.Gen.facts = @Cert.KernelIdeal.cc0_body F _ Cert.KernelIdeal.Gen.facts := rfl
set_option maxHeartbeats 4000000 in
theorem defs₀_eq (F : FTy → Type) [FloatOps F] :
    @Cert.Kernel.defs₀ F _ Cert.Kernel.Gen.facts = @Cert.KernelIdeal.defs₀ F _ Cert.KernelIdeal.Gen.facts := by
  unfold Cert.Kernel.defs₀ Cert.KernelIdeal.defs₀
  rw [body_eq]
  refine congrArg Defs.onTc (funext fun x => ?_)
  match x with
  | 0 => rfl
  | ⟨n + 1, h⟩ => exact absurd h (Nat.not_lt.2 (Nat.le_add_left _ _))
set_option maxHeartbeats 4000000 in
theorem defs_eq (F : FTy → Type) [FloatOps F] :
    @Cert.Kernel.defs F _ Cert.Kernel.Gen.facts = @Cert.KernelIdeal.defs F _ Cert.KernelIdeal.Gen.facts := by
  unfold Cert.Kernel.defs
  rw [defs₀_eq]
  rfl
theorem main_eq (F : FTy → Type) [FloatOps F] :
    Cert.Kernel.main (F := F) = Cert.KernelIdeal.main (F := F) := rfl

theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq, main_eq]
  exact Cert.KernelIdeal.Pf.frame_main (F := Bits) m g

end Cert.Same

end
-- ==== Proof.KiSlabs.lean ====
/-
# The slabs over the extended reals

Over the extended reals every conversion is the identity. So a slab a device computes is a block of rows of the product of its
columns of `x` with its rows of `w`: the entry at `(r, j)` of slab `s` is `P d R J`, `d`'s share of the whole product at a row `R` and a
column `J` of the result. This module reads the four slabs of each buffer so, and says how a window of a stack of slabs reads it.
-/
module

public import proofs.«01_k».proof.Proof.KiVals
public import Idealize.ShloMosaic.Lib.VecWindow
public import Idealize.ShloMosaic.Lib.WritesUnit
public import Idealize.ShloMosaic.Lib.ValueLayout
public import Idealize.ShloMosaic.Lib.MatmulPlain
public import Idealize.ShloMosaic.Lib.Pipeline.Value

@[expose] public section

set_option maxRecDepth 16384

noncomputable section

namespace Cert.KernelIdeal.Pf.Value

open Cert.KernelIdeal Cert.KernelIdeal.Gen
open Idealize.ShloMosaic Idealize.ShloMosaic.TcCoe Idealize.ShloMosaic.ValueIdx

/-! ## Stacks of slabs -/

section stack
variable {Val : EltTy → Type} {κ : Kind} {sp : Space} {e : EltTy} {n : Nat}

/-- A window of `k` slabs from slab `off 0` reads at slab `t` what the stack holds at slab `off 0 + t`. -/
theorem slabs_read {k : Nat} (v : View sig κ sp ⟨3, ![4, 512, n]⟩ e) (f : v.ty.Contents Val) (off : Fin 3 → Nat)
    (h : ∀ a, off a + (![k, 512, n] : Fin 3 → Nat) a ≤ (⟨3, ![4, 512, n]⟩ : Shape).size a) (h1 : off 1 = 0) (h2 : off 2 = 0)
    (s : Fin 4) (t : Fin k) (hs : s.val = off 0 + t.val) (r : Fin 512) (j : Fin n) :
    v.readAt Val (Rect.unit (s := ⟨3, ![4, 512, n]⟩) off ![k, 512, n] h).toLoadRect f (ix3 t r j) = v.read Val f (ix3 s r j) := by
  refine congrArg (v.read Val f) (funext fun a => Fin.ext ?_)
  match a with
  | ⟨0, _⟩ => show off 0 + 1 * t.val = s.val; omega
  | ⟨1, _⟩ => show off 1 + 1 * r.val = r.val; omega
  | ⟨2, _⟩ => show off 2 + 1 * j.val = j.val; omega

/-- A write of `k` slabs from slab `off 0` leaves at slab `off 0 + t` the slab `t` written. -/
theorem slabs_write {k : Nat} (v : View sig κ sp ⟨3, ![4, 512, n]⟩ e) (f : v.ty.Contents Val) (off : Fin 3 → Nat)
    (h : ∀ a, off a + (![k, 512, n] : Fin 3 → Nat) a ≤ (⟨3, ![4, 512, n]⟩ : Shape).size a) (h1 : off 1 = 0) (h2 : off 2 = 0)
    (w : (⟨3, ![k, 512, n]⟩ : Shape).Idx → Val e) (L : List (View.Piece Val ⟨3, ![4, 512, n]⟩ e))
    (s : Fin 4) (t : Fin k) (hs : s.val = off 0 + t.val) (r : Fin 512) (j : Fin n) :
    v.read Val (v.writes Val f ((⟨Rect.unit (s := ⟨3, ![4, 512, n]⟩) off ![k, 512, n] h, w⟩ : View.Piece Val ⟨3, ![4, 512, n]⟩ e) :: L)) (ix3 s r j) = w (ix3 t r j) := by
  refine View.read_writes_cons_unit_of_mem v f h w L (ix3 s r j) (ix3 t r j) rfl fun a => ?_
  match a with
  | ⟨0, _⟩ => exact hs
  | ⟨1, _⟩ => show r.val = off 1 + r.val; omega
  | ⟨2, _⟩ => show j.val = off 2 + j.val; omega

/-- A write of one slab at `i` leaves the other slabs. -/
theorem slabs_write_ne (v : View sig κ sp ⟨3, ![4, 512, n]⟩ e) (f : v.ty.Contents Val) (i : Nat)
    (h : ∀ a, (![i, 0, 0] : Fin 3 → Nat) a + (![1, 512, n] : Fin 3 → Nat) a ≤ (⟨3, ![4, 512, n]⟩ : Shape).size a)
    (w : (⟨3, ![1, 512, n]⟩ : Shape).Idx → Val e) (L : List (View.Piece Val ⟨3, ![4, 512, n]⟩ e))
    (s : Fin 4) (hs : s.val ≠ i) (r : Fin 512) (j : Fin n) :
    v.read Val (v.writes Val f ((⟨Rect.unit (s := ⟨3, ![4, 512, n]⟩) ![i, 0, 0] ![1, 512, n] h, w⟩ : View.Piece Val ⟨3, ![4, 512, n]⟩ e) :: L)) (ix3 s r j)
      = v.read Val (v.writes Val f L) (ix3 s r j) := by
  refine View.read_writes_cons_unit_of_not_mem v f h w L (ix3 s r j) rfl (0 : Fin 3) ?_
  show s.val < i ∨ i + 1 ≤ s.val
  omega

/-- Four slabs written one after another are read back each as written. -/
theorem stack4 (v : View sig κ sp ⟨3, ![4, 512, n]⟩ e) (f : v.ty.Contents Val)
    (h0 : ∀ a, (![0, 0, 0] : Fin 3 → Nat) a + (![1, 512, n] : Fin 3 → Nat) a ≤ (⟨3, ![4, 512, n]⟩ : Shape).size a)
    (h1 : ∀ a, (![1, 0, 0] : Fin 3 → Nat) a + (![1, 512, n] : Fin 3 → Nat) a ≤ (⟨3, ![4, 512, n]⟩ : Shape).size a)
    (h2 : ∀ a, (![2, 0, 0] : Fin 3 → Nat) a + (![1, 512, n] : Fin 3 → Nat) a ≤ (⟨3, ![4, 512, n]⟩ : Shape).size a)
    (h3 : ∀ a, (![3, 0, 0] : Fin 3 → Nat) a + (![1, 512, n] : Fin 3 → Nat) a ≤ (⟨3, ![4, 512, n]⟩ : Shape).size a)
    (w0 w1 w2 w3 : (⟨3, ![1, 512, n]⟩ : Shape).Idx → Val e) (s : Fin 4) (r : Fin 512) (j : Fin n) :
    v.read Val (v.writes Val f [(⟨Rect.unit (s := ⟨3, ![4, 512, n]⟩) ![3, 0, 0] ![1, 512, n] h3, w3⟩ : View.Piece Val ⟨3, ![4, 512, n]⟩ e),
      ⟨Rect.unit (s := ⟨3, ![4, 512, n]⟩) ![2, 0, 0] ![1, 512, n] h2, w2⟩, ⟨Rect.unit (s := ⟨3, ![4, 512, n]⟩) ![1, 0, 0] ![1, 512, n] h1, w1⟩,
      ⟨Rect.unit (s := ⟨3, ![4, 512, n]⟩) ![0, 0, 0] ![1, 512, n] h0, w0⟩]) (ix3 s r j) = (![w0, w1, w2, w3] : Fin 4 → _) s (ix3 0 r j) := by
  match s with
  | 3 => exact slabs_write v f _ h3 rfl rfl w3 _ _ 0 rfl r j
  | 2 =>
    rw [slabs_write_ne v f 3 h3 w3 _ _ (by decide) r j]
    exact slabs_write v f _ h2 rfl rfl w2 _ _ 0 rfl r j
  | 1 =>
    rw [slabs_write_ne v f 3 h3 w3 _ _ (by decide) r j, slabs_write_ne v f 2 h2 w2 _ _ (by decide) r j]
    exact slabs_write v f _ h1 rfl rfl w1 _ _ 0 rfl r j
  | 0 =>
    rw [slabs_write_ne v f 3 h3 w3 _ _ (by decide) r j, slabs_write_ne v f 2 h2 w2 _ _ (by decide) r j, slabs_write_ne v f 1 h1 w1 _ _ (by decide) r j]
    exact slabs_write v f _ h0 rfl rfl w0 _ _ 0 rfl r j

/-- So a property each slab written has, slab by slab, the stack has. -/
theorem stack4_eq (v : View sig κ sp ⟨3, ![4, 512, n]⟩ e) (f : v.ty.Contents Val)
    (h0 : ∀ a, (![0, 0, 0] : Fin 3 → Nat) a + (![1, 512, n] : Fin 3 → Nat) a ≤ (⟨3, ![4, 512, n]⟩ : Shape).size a)
    (h1 : ∀ a, (![1, 0, 0] : Fin 3 → Nat) a + (![1, 512, n] : Fin 3 → Nat) a ≤ (⟨3, ![4, 512, n]⟩ : Shape).size a)
    (h2 : ∀ a, (![2, 0, 0] : Fin 3 → Nat) a + (![1, 512, n] : Fin 3 → Nat) a ≤ (⟨3, ![4, 512, n]⟩ : Shape).size a)
    (h3 : ∀ a, (![3, 0, 0] : Fin 3 → Nat) a + (![1, 512, n] : Fin 3 → Nat) a ≤ (⟨3, ![4, 512, n]⟩ : Shape).size a)
    {w0 w1 w2 w3 : (⟨3, ![1, 512, n]⟩ : Shape).Idx → Val e} (Q : Fin 4 → Val e) (s : Fin 4) (r : Fin 512) (j : Fin n)
    (e0 : w0 (ix3 0 r j) = Q 0) (e1 : w1 (ix3 0 r j) = Q 1) (e2 : w2 (ix3 0 r j) = Q 2) (e3 : w3 (ix3 0 r j) = Q 3) :
    v.read Val (v.writes Val f [(⟨Rect.unit (s := ⟨3, ![4, 512, n]⟩) ![3, 0, 0] ![1, 512, n] h3, w3⟩ : View.Piece Val ⟨3, ![4, 512, n]⟩ e),
      ⟨Rect.unit (s := ⟨3, ![4, 512, n]⟩) ![2, 0, 0] ![1, 512, n] h2, w2⟩, ⟨Rect.unit (s := ⟨3, ![4, 512, n]⟩) ![1, 0, 0] ![1, 512, n] h1, w1⟩,
      ⟨Rect.unit (s := ⟨3, ![4, 512, n]⟩) ![0, 0, 0] ![1, 512, n] h0, w0⟩]) (ix3 s r j) = Q s := by
  rw [stack4 v f h0 h1 h2 h3 w0 w1 w2 w3 s r j]
  match s with
  | 0 => exact e0
  | 1 => exact e1
  | 2 => exact e2
  | 3 => exact e3

end stack

/-! ## A slab's entries -/

variable (m : (ℓ : Loc nD τ sig) → Buf (Elt Ideal) ℓ)

/-- Row `r` of the row block `q` of the result. -/
def row (q : Fin 8) (r : Fin 512) : Fin 4096 := ⟨q.val * 512 + r.val, by omega⟩
/-- Device `d`'s columns of `x` and rows of `w`, as extended reals. -/
def Xe (d : Dev nD) : S4096x512.Idx → EReal := xstg m d
def We (d : Dev nD) : S512x2048.Idx → EReal := wstg m d
/-- Device `d`'s share of the whole product at row `R` and column `J`. -/
def P (d : Dev nD) (R : Fin 4096) (J : Fin 2048) : EReal :=
  ∑ k : Fin 512, Xe m d (ix2 R k) * We m d (ix2 k J)
/-- The row block of `x` that an offset names. -/
def blkOf (off : Fin 2 → Nat) : Fin 8 := ⟨off 0 / 512 % 8, Nat.mod_lt _ (by decide)⟩
/-- The offset is that of a whole row block. -/
abbrev OffOk (off : Fin 2 → Nat) : Prop := off 0 = (blkOf off).val * 512 ∧ off 1 = 0

theorem xRd_apply (c : Dev nD) (off : Fin 2 → Nat) (h) (ho : OffOk off) (r k : Fin 512) :
    xRd m c off h (ix2 r k) = Xe m c (ix2 (row (blkOf off) r) k) := by
  refine congrArg (xstg m c) (funext fun a => Fin.ext ?_)
  match a with
  | ⟨0, _⟩ => show off 0 + 1 * r.val = (blkOf off).val * 512 + r.val; have := ho.1; omega
  | ⟨1, _⟩ => show off 1 + 1 * k.val = k.val; have := ho.2; omega

/-- The product of a row block of `x` with columns of `w`, as a slab, has `P` for its entries. -/
theorem slab_P {n : Nat} (c : Dev nD) (off : Fin 2 → Nat) (h) (ho : OffOk off) (w : FVec Ideal ⟨2, ![512, n]⟩ .bf16) (J : Fin n → Fin 2048)
    (hw : ∀ k j, w (ix2 k j) = We m c (ix2 k (J j))) (hc) (r : Fin 512) (j : Fin n) :
    shapeCast (⟨3, ![1, 512, n]⟩ : Shape) (matmul (DotDims.plain 512 512 n) none (shapeCast S512x512 (xRd m c off h) shapeCasts_S512x512_S512x512 : FVec Ideal S512x512 .bf16) w
      (constant ⟨2, ![512, n]⟩ .f32 0x00000000#32)) hc (ix3 0 r j) = P m c (row (blkOf off) r) (J j) := by
  rw [shapeCast_ab_1ab_apply]
  refine (Ideal.matmul_plain_apply none _ _ _ r j).trans ?_
  have h0 : (constant ⟨2, ![512, n]⟩ .f32 0x00000000#32 : FVec Ideal ⟨2, ![512, n]⟩ .f32) (ix2 r j) = 0 := Ideal.ofBits_zero_f32
  rw [h0, zero_add]
  refine Finset.sum_congr rfl fun k _ => ?_
  rw [shapeCast_self, xRd_apply m c off h ho r k, hw]

/-! ## The columns of `w` -/
def col0 (j : Fin 640) : Fin 2048 := ⟨0 + j.val, by omega⟩
def col1 (j : Fin 640) : Fin 2048 := ⟨640 + j.val, by omega⟩
def col2 (j : Fin 768) : Fin 2048 := ⟨1280 + j.val, by omega⟩

/-- A window of `w` over all rows and the columns from `o`. -/
theorem wRd_apply {n : Nat} (c : Dev nD) (o : Nat) (h) (k : Fin 512) (j : Fin n) (J : Fin 2048) (hJ : J.val = o + j.val) :
    wM.view.readAt (Elt Ideal) (Rect.unit (s := S512x2048) ![0, o] ![512, n] h).toLoadRect (wstg m c) (ix2 k j)
      = We m c (ix2 k J) := by
  refine congrArg (wstg m c) (funext fun a => Fin.ext ?_)
  match a with
  | ⟨0, _⟩ => show 0 + 1 * k.val = k.val; omega
  | ⟨1, _⟩ => show o + 1 * j.val = J.val; omega

theorem wv0_apply (c : Dev nD) (k : Fin 512) (j : Fin 640) : wv0 m c (ix2 k j) = We m c (ix2 k (col0 j)) :=
  (congrFun (shapeCast_self (wRd0 m c) _) _).trans (wRd_apply m c 0 _ k j (col0 j) rfl)
theorem wv1_apply (c : Dev nD) (k : Fin 512) (j : Fin 640) : wv1 m c (ix2 k j) = We m c (ix2 k (col1 j)) :=
  (congrFun (shapeCast_self (wRd1 m c) _) _).trans (wRd_apply m c 640 _ k j (col1 j) rfl)
theorem wv2_apply (c : Dev nD) (k : Fin 512) (j : Fin 768) : wv2 m c (ix2 k j) = We m c (ix2 k (col2 j)) :=
  (congrFun (shapeCast_self (wRd2 m c) _) _).trans (wRd_apply m c 1280 _ k j (col2 j) rfl)

/-! ## The row blocks of the slabs sent and kept -/
def offS0 (c : Dev nD) : Fin 4 → Fin 2 → Nat := ![k0_off1 c 0#32 0#32, k0_off1 c 1#32 0#32, k0_off1 c 0#32 3#32, k0_off1 c 1#32 1#32]
def offK0 (c : Dev nD) : Fin 4 → Fin 2 → Nat := ![k0_off4 c 0#32 0#32, k0_off4 c 1#32 0#32, k0_off4 c 0#32 3#32, k0_off4 c 1#32 1#32]
def offS1 (c : Dev nD) : Fin 4 → Fin 2 → Nat := ![k0_off2 c 0#32 3#32, k0_off2 c 4#32 3#32, k0_off2 c 1#32 1#32, k0_off2 c 5#32 1#32]
def offK1 (c : Dev nD) : Fin 4 → Fin 2 → Nat := ![k0_off5 c 0#32 3#32, k0_off5 c 4#32 3#32, k0_off5 c 1#32 1#32, k0_off5 c 5#32 1#32]
def offS2 (c : Dev nD) : Fin 4 → Fin 2 → Nat := ![k0_off3 c 0#32 0#32, k0_off3 c 0#32 1#32, k0_off3 c 4#32 0#32, k0_off3 c 4#32 1#32]
def offK2 (c : Dev nD) : Fin 4 → Fin 2 → Nat := ![k0_off6 c 0#32 0#32, k0_off6 c 0#32 1#32, k0_off6 c 4#32 0#32, k0_off6 c 4#32 1#32]

theorem offS0_ok : ∀ c s, OffOk (offS0 c s) := by decide +kernel
theorem offK0_ok : ∀ c s, OffOk (offK0 c s) := by decide +kernel
theorem offS1_ok : ∀ c s, OffOk (offS1 c s) := by decide +kernel
theorem offK1_ok : ∀ c s, OffOk (offK1 c s) := by decide +kernel
theorem offS2_ok : ∀ c s, OffOk (offS2 c s) := by decide +kernel
theorem offK2_ok : ∀ c s, OffOk (offK2 c s) := by decide +kernel

/-! ## The buffers of the first stage -/

theorem S1_0_apply (c : Dev nD) (s : Fin 4) (r : Fin 512) (j : Fin 640) :
    S1_0 m c (ix3 s r j) = P m c (row (blkOf (offS0 c s)) r) (col0 j) := by
  have h2 : S1_0 m c = sa0.view.read (Elt Ideal) (sa0.view.writes (Elt Ideal) sa0.view.junk (L1_0 m c)) := by unfold S1_0; exact (View.read_whole cc0_scratch1 _).symm
  rw [h2]
  have e := fun s h ho => slab_P m c (offS0 c s) h ho (wv0 m c) col0 (wv0_apply m c) shapeCasts_S512x640_S1x512x640 r j
  exact stack4_eq (Val := Elt Ideal) (n := 640) sa0.view sa0.view.junk inb_S4x512x640_S1x512x640_0_0_0 inb_S4x512x640_S1x512x640_1_0_0 inb_S4x512x640_S1x512x640_2_0_0 inb_S4x512x640_S1x512x640_3_0_0
    (fun s => P m c (row (blkOf (offS0 c s)) r) (col0 j)) s r j
    (e 0 (k0_off1_inb c 0) (offS0_ok c 0))
    (e 1 (k0_off1_inb c 1) (offS0_ok c 1))
    (e 2 (k0_off1_inb c 2) (offS0_ok c 2))
    (e 3 (k0_off1_inb c 3) (offS0_ok c 3))
theorem A0_0_apply (c : Dev nD) (s : Fin 4) (r : Fin 512) (j : Fin 640) :
    A0_0 m c (ix3 s r j) = P m c (row (blkOf (offK0 c s)) r) (col0 j) := by
  have h2 : A0_0 m c = acc0.view.read (Elt Ideal) (acc0.view.writes (Elt Ideal) acc0.view.junk (L0_0 m c)) := by unfold A0_0; exact (View.read_whole cc0_scratch0 _).symm
  rw [h2]
  have e := fun s h ho => slab_P m c (offK0 c s) h ho (wv0 m c) col0 (wv0_apply m c) shapeCasts_S512x640_S1x512x640 r j
  exact stack4_eq (Val := Elt Ideal) (n := 640) acc0.view acc0.view.junk inb_S4x512x640_S1x512x640_0_0_0 inb_S4x512x640_S1x512x640_1_0_0 inb_S4x512x640_S1x512x640_2_0_0 inb_S4x512x640_S1x512x640_3_0_0
    (fun s => P m c (row (blkOf (offK0 c s)) r) (col0 j)) s r j
    (e 0 (k0_off4_inb c 0) (offK0_ok c 0))
    (e 1 (k0_off4_inb c 1) (offK0_ok c 1))
    (e 2 (k0_off4_inb c 2) (offK0_ok c 2))
    (e 3 (k0_off4_inb c 3) (offK0_ok c 3))
theorem S1_1_apply (c : Dev nD) (s : Fin 4) (r : Fin 512) (j : Fin 640) :
    S1_1 m c (ix3 s r j) = P m c (row (blkOf (offS1 c s)) r) (col1 j) := by
  have h2 : S1_1 m c = sa1.view.read (Elt Ideal) (sa1.view.writes (Elt Ideal) sa1.view.junk (L1_1 m c)) := by unfold S1_1; exact (View.read_whole cc0_scratch10 _).symm
  rw [h2]
  have e := fun s h ho => slab_P m c (offS1 c s) h ho (wv1 m c) col1 (wv1_apply m c) shapeCasts_S512x640_S1x512x640 r j
  exact stack4_eq (Val := Elt Ideal) (n := 640) sa1.view sa1.view.junk inb_S4x512x640_S1x512x640_0_0_0 inb_S4x512x640_S1x512x640_1_0_0 inb_S4x512x640_S1x512x640_2_0_0 inb_S4x512x640_S1x512x640_3_0_0
    (fun s => P m c (row (blkOf (offS1 c s)) r) (col1 j)) s r j
    (e 0 (k0_off2_inb c 0) (offS1_ok c 0))
    (e 1 (k0_off2_inb c 1) (offS1_ok c 1))
    (e 2 (k0_off2_inb c 2) (offS1_ok c 2))
    (e 3 (k0_off2_inb c 3) (offS1_ok c 3))
theorem A0_1_apply (c : Dev nD) (s : Fin 4) (r : Fin 512) (j : Fin 640) :
    A0_1 m c (ix3 s r j) = P m c (row (blkOf (offK1 c s)) r) (col1 j) := by
  have h2 : A0_1 m c = acc1.view.read (Elt Ideal) (acc1.view.writes (Elt Ideal) acc1.view.junk (L0_1 m c)) := by unfold A0_1; exact (View.read_whole cc0_scratch9 _).symm
  rw [h2]
  have e := fun s h ho => slab_P m c (offK1 c s) h ho (wv1 m c) col1 (wv1_apply m c) shapeCasts_S512x640_S1x512x640 r j
  exact stack4_eq (Val := Elt Ideal) (n := 640) acc1.view acc1.view.junk inb_S4x512x640_S1x512x640_0_0_0 inb_S4x512x640_S1x512x640_1_0_0 inb_S4x512x640_S1x512x640_2_0_0 inb_S4x512x640_S1x512x640_3_0_0
    (fun s => P m c (row (blkOf (offK1 c s)) r) (col1 j)) s r j
    (e 0 (k0_off5_inb c 0) (offK1_ok c 0))
    (e 1 (k0_off5_inb c 1) (offK1_ok c 1))
    (e 2 (k0_off5_inb c 2) (offK1_ok c 2))
    (e 3 (k0_off5_inb c 3) (offK1_ok c 3))
theorem S1_2_apply (c : Dev nD) (s : Fin 4) (r : Fin 512) (j : Fin 768) :
    S1_2 m c (ix3 s r j) = P m c (row (blkOf (offS2 c s)) r) (col2 j) := by
  have h2 : S1_2 m c = sa2.view.read (Elt Ideal) (sa2.view.writes (Elt Ideal) sa2.view.junk (L1_2 m c)) := by unfold S1_2; exact (View.read_whole cc0_scratch19 _).symm
  rw [h2]
  have e := fun s h ho => slab_P m c (offS2 c s) h ho (wv2 m c) col2 (wv2_apply m c) shapeCasts_S512x768_S1x512x768 r j
  exact stack4_eq (Val := Elt Ideal) (n := 768) sa2.view sa2.view.junk inb_S4x512x768_S1x512x768_0_0_0 inb_S4x512x768_S1x512x768_1_0_0 inb_S4x512x768_S1x512x768_2_0_0 inb_S4x512x768_S1x512x768_3_0_0
    (fun s => P m c (row (blkOf (offS2 c s)) r) (col2 j)) s r j
    (e 0 (k0_off3_inb c 0 0) (offS2_ok c 0))
    (e 1 (k0_off3_inb c 0 1) (offS2_ok c 1))
    (e 2 (k0_off3_inb c 1 0) (offS2_ok c 2))
    (e 3 (k0_off3_inb c 1 1) (offS2_ok c 3))
theorem A0_2_apply (c : Dev nD) (s : Fin 4) (r : Fin 512) (j : Fin 768) :
    A0_2 m c (ix3 s r j) = P m c (row (blkOf (offK2 c s)) r) (col2 j) := by
  have h2 : A0_2 m c = acc2.view.read (Elt Ideal) (acc2.view.writes (Elt Ideal) acc2.view.junk (L0_2 m c)) := by unfold A0_2; exact (View.read_whole cc0_scratch18 _).symm
  rw [h2]
  have e := fun s h ho => slab_P m c (offK2 c s) h ho (wv2 m c) col2 (wv2_apply m c) shapeCasts_S512x768_S1x512x768 r j
  exact stack4_eq (Val := Elt Ideal) (n := 768) acc2.view acc2.view.junk inb_S4x512x768_S1x512x768_0_0_0 inb_S4x512x768_S1x512x768_1_0_0 inb_S4x512x768_S1x512x768_2_0_0 inb_S4x512x768_S1x512x768_3_0_0
    (fun s => P m c (row (blkOf (offK2 c s)) r) (col2 j)) s r j
    (e 0 (k0_off6_inb c 0 0) (offK2_ok c 0))
    (e 1 (k0_off6_inb c 0 1) (offK2_ok c 1))
    (e 2 (k0_off6_inb c 1 0) (offK2_ok c 2))
    (e 3 (k0_off6_inb c 1 1) (offK2_ok c 3))

end Cert.KernelIdeal.Pf.Value
end
-- ==== Proof.KiStages.lean ====
/-
# The stages over the extended reals

Each stage adds to the slabs a device keeps those its partner sent. After the three stages a device's last slab is the sum, over all
eight devices, of their shares of the row block the device owns.
-/
module

public import proofs.«01_k».proof.Proof.KiSlabs

@[expose] public section

set_option maxRecDepth 16384

noncomputable section

namespace Cert.KernelIdeal.Pf.Value

open Cert.KernelIdeal Cert.KernelIdeal.Gen
open Idealize.ShloMosaic Idealize.ShloMosaic.TcCoe Idealize.ShloMosaic.ValueIdx

/-! ## The eight devices from one of them -/

theorem cube_list : ∀ a1 a2 a3 : Fin 3, a1 ≠ a2 ∧ a1 ≠ a3 ∧ a2 ≠ a3 → ∀ c : Dev nD, (Finset.univ : Finset (Dev nD)).val =
    (([c, pt a1 c, pt a2 c, pt a1 (pt a2 c), pt a3 c, pt a1 (pt a3 c), pt a2 (pt a3 c), pt a1 (pt a2 (pt a3 c))] : List (Dev nD)) : Multiset (Dev nD)) := by
  decide +kernel

/-- The eight devices are those reached from `c` across any of the three axes. -/
theorem sum_cube (a1 a2 a3 : Fin 3) (h : a1 ≠ a2 ∧ a1 ≠ a3 ∧ a2 ≠ a3) (f : Dev nD → EReal) (c : Dev nD) :
    (f c + f (pt a1 c) + (f (pt a2 c) + f (pt a1 (pt a2 c))))
      + (f (pt a3 c) + f (pt a1 (pt a3 c)) + (f (pt a2 (pt a3 c)) + f (pt a1 (pt a2 (pt a3 c))))) = ∑ d : Dev nD, f d := by
  rw [Finset.sum_eq_multiset_sum, cube_list a1 a2 a3 h c, Multiset.map_coe, Multiset.sum_coe]
  simp only [List.map_cons, List.map_nil, List.sum_cons, List.sum_nil, add_zero, add_assoc]

/-! ## A stage's slabs -/

/-- An update in place of two slabs of a stack, read at one of them: the slab there plus the slab added. -/
theorem update_read {κ : Kind} {sp : Space} {n : Nat} (v : View sig κ sp ⟨3, ![4, 512, n]⟩ .f32) (A : v.ty.Contents (Elt Ideal)) (o w : Fin 3 → Nat)
    (ho : ∀ a, o a + (![2, 512, n] : Fin 3 → Nat) a ≤ (⟨3, ![4, 512, n]⟩ : Shape).size a)
    (hw : ∀ a, w a + (![1, 512, n] : Fin 3 → Nat) a ≤ (⟨3, ![4, 512, n]⟩ : Shape).size a)
    (o1 : o 1 = 0) (o2 : o 2 = 0) (w1 : w 1 = 0) (w2 : w 2 = 0) (p : FVec Ideal ⟨3, ![2, 512, n]⟩ .f32) (S : (⟨3, ![2, 512, n]⟩ : Shape).Idx → EReal)
    (hp : ∀ y, p y = ((v.readAt (Elt Ideal) (Rect.unit (s := ⟨3, ![4, 512, n]⟩) o ![2, 512, n] ho).toLoadRect A y : EReal) + S y : EReal))
    (s : Fin 4) (t : Fin 2) (hs : s.val = w 0) (ht : s.val = o 0 + t.val) (r : Fin 512) (j : Fin n) :
    v.readAt (Elt Ideal) (Rect.unit (s := ⟨3, ![4, 512, n]⟩) w ![1, 512, n] hw).toLoadRect
      (v.writes (Elt Ideal) A [⟨Rect.unit (s := ⟨3, ![4, 512, n]⟩) o ![2, 512, n] ho, p⟩])
      (ix3 0 r j) = ((v.read (Elt Ideal) A (ix3 s r j) : EReal) + S (ix3 t r j) : EReal) := by
  rw [slabs_read v _ w hw w1 w2 s 0 (by simpa using hs) r j, slabs_write v A o ho o1 o2 _ _ s t ht r j, hp]
  exact congrArg (· + S (ix3 t r j)) (slabs_read v A o ho o1 o2 s t ht r j)

/-- What the offsets of a group must satisfy at a slab a device `c` reads last, of the row block of device `e`: the slab is one of the two
that stage 2 updates there; and it, the slab its stage-1 partner sent, and the same two at its stage-2 partner, hold row block `e`. -/
def Meets (offK offS : Dev nD → Fin 4 → Fin 2 → Nat) (o s w : Dev nD → Fin 3 → Nat) (a1 a2 : Fin 3) (c e : Dev nD) : Prop :=
  ∃ (k : Fin 4) (t : Fin 2) (k' : Fin 4), k.val = w c 0 ∧ k.val = o c 0 + t.val ∧ k'.val = s (pt a2 c) 0 + t.val
    ∧ blkOf (offK c k) = e ∧ blkOf (offS (pt a1 c) k) = e ∧ blkOf (offK (pt a2 c) k') = e ∧ blkOf (offS (pt a1 (pt a2 c)) k') = e

instance (offK offS o s w a1 a2 c e) : Decidable (Meets offK offS o s w a1 a2 c e) := by unfold Meets; infer_instance

/-- Windows of a stack span all rows and columns of a slab. -/
abbrev Flat (o : Dev nD → Fin 3 → Nat) : Prop := ∀ c, o c 1 = 0 ∧ o c 2 = 0

attribute [local irreducible] A0_0 S1_0 A0_1 S1_1 A0_2 S1_2 A1_0 A1_1 A1_2 S2_0 S2_1 S2_2 A2_0 A2_1 A2_2 S3_0 S3_1 S3_2 fin0 fin1 fin2

variable (m : (ℓ : Loc nD τ sig) → Buf (Elt Ideal) ℓ)

/-- Four devices' shares: `c`, its stage-1 partner, its stage-2 partner and that one's stage-1 partner. -/
def four (a1 a2 : Fin 3) (c e : Dev nD) (r : Fin 512) (J : Fin 2048) : EReal :=
  (P m c (row e r) J + P m (pt a1 c) (row e r) J) + (P m (pt a2 c) (row e r) J + P m (pt a1 (pt a2 c)) (row e r) J)

/-! ## Group 0 -/

theorem flat_0 : Flat k0_off7 ∧ Flat k0_off10 ∧ Flat k0_off13 ∧ Flat k0_off16 := by decide +kernel
theorem keep_0 : ∀ c, Meets offK0 offS0 k0_off10 k0_off7 k0_off16 2 1 c c := by decide +kernel
theorem send_0 : ∀ c, Meets offK0 offS0 k0_off10 k0_off7 k0_off13 2 1 c (pt 0 c) := by decide +kernel

theorem add_0 (A : FVec Ideal S4x512x640 .f32) (S : FVec Ideal S4x512x640 .bf16) (y) : k0_pay31 A S y = ((A y : EReal) + S y : EReal) :=
  congrFun (shapeCast_self (fun y => (A y : EReal) + S y) shapeCasts_S4x512x640_S4x512x640) y
theorem upd_0 (A : FVec Ideal S2x512x640 .f32) (S : FVec Ideal S2x512x640 .bf16) (y) : k0_pay38 A S y = ((A y : EReal) + S y : EReal) :=
  congrFun (shapeCast_self (fun y => (A y : EReal) + S y) shapeCasts_S2x512x640_S2x512x640) y
theorem two_0 (A : FVec Ideal S2x512x640 .f32) (y) : (k0_pay35 (F := Ideal) (k0_pay34 (F := Ideal) A) y : EReal) = A y :=
  congrFun (shapeCast_self A shapeCasts_S2x512x640_S2x512x640) y
theorem one_0 (A : FVec Ideal S1x512x640 .f32) (y) : (k0_pay41 (F := Ideal) A y : EReal) = A y :=
  congrFun (shapeCast_self A shapeCasts_S1x512x640_S1x512x640) y

theorem A1_0_apply (c : Dev nD) (s : Fin 4) (r : Fin 512) (j : Fin 640) : A1_0 m c (ix3 s r j) =
    P m c (row (blkOf (offK0 c s)) r) (col0 j) + P m (pt 2 c) (row (blkOf (offS0 (pt 2 c) s)) r) (col0 j) := by
  unfold A1_0
  exact (add_0 _ _ _).trans (congrArg₂ (fun a b : EReal => a + b) (A0_0_apply m c s r j) (S1_0_apply m (pt 2 c) s r j))

theorem S2_0_apply (c : Dev nD) (s : Fin 4) (t : Fin 2) (h : s.val = k0_off7 c 0 + t.val) (r : Fin 512) (j : Fin 640) :
    S2_0 m c (ix3 t r j) = A1_0 m c (ix3 s r j) := by
  have e := slabs_read (Val := Elt Ideal) (n := 640) acc0.view (A1_0 m c) _ (k0_off7_inb c) (flat_0.1 c).1 (flat_0.1 c).2 s t h r j
  unfold S2_0
  refine (two_0 _ _).trans (e.trans ?_)
  exact congrFun (View.read_whole (Val := Elt Ideal) cc0_scratch0 (A1_0 m c)) _

/-- A slab read after stage 2 is four devices' shares of its row block. -/
theorem last_0 (c e : Dev nD) (w : Dev nD → Fin 3 → Nat) (hw : ∀ a, w c a + S1x512x640.size a ≤ S4x512x640.size a) (f : Flat w)
    (h : Meets offK0 offS0 k0_off10 k0_off7 w 2 1 c e) (r : Fin 512) (j : Fin 640) :
    acc0.view.readAt (Elt Ideal) (Rect.unit (s := S4x512x640) (w c) S1x512x640.size hw).toLoadRect (A2_0 m c) (ix3 0 r j)
      = four m 2 1 c e r (col0 j) := by
  obtain ⟨k, t, k', h1, h2, h3, e1, e2, e3, e4⟩ := h
  have h0 := update_read (n := 640) acc0.view (A1_0 m c) _ _ (k0_off10_inb c) hw (flat_0.2.1 c).1 (flat_0.2.1 c).2 (f c).1 (f c).2
    (p2_0 m c) (S2_0 m (pt 1 c)) (fun y => upd_0 _ _ y) k t h1 h2 r j
  have hA := congrFun (View.read_whole (Val := Elt Ideal) cc0_scratch0 (A1_0 m c)) (ix3 k r j)
  have hS := S2_0_apply m (pt 1 c) k' t h3 r j
  rw [A1_0_apply, e1, e2] at hA
  rw [A1_0_apply, e3, e4] at hS
  unfold A2_0
  exact h0.trans (congrArg₂ (fun a b : EReal => a + b) hA hS)

theorem total_0 (c : Dev nD) (r : Fin 512) (j : Fin 640) :
    (fin0 m c (ix3 0 r j) : EReal) + S3_0 m (pt 0 c) (ix3 0 r j) = ∑ d : Dev nD, P m d (row c r) (col0 j) := by
  have e1 : fin0 m c (ix3 0 r j) = four m 2 1 c c r (col0 j) := by
    unfold fin0; exact last_0 m c c k0_off16 (k0_off16_inb c) flat_0.2.2.2 (keep_0 c) r j
  have h := send_0 (pt 0 c)
  rw [pt_pt] at h
  have e2 : S3_0 m (pt 0 c) (ix3 0 r j) = four m 2 1 (pt 0 c) c r (col0 j) := by
    unfold S3_0
    exact (one_0 _ _).trans
      (last_0 m (pt 0 c) c k0_off13 (k0_off13_inb _) flat_0.2.2.1 h r j)
  exact (congrArg₂ (fun a b : EReal => a + b) e1 e2).trans (sum_cube 2 1 0 (by decide) (fun d => P m d (row c r) (col0 j)) c)

/-! ## Group 1 -/

theorem flat_1 : Flat k0_off8 ∧ Flat k0_off11 ∧ Flat k0_off14 ∧ Flat k0_off17 := by decide +kernel
theorem keep_1 : ∀ c, Meets offK1 offS1 k0_off11 k0_off8 k0_off17 1 0 c c := by decide +kernel
theorem send_1 : ∀ c, Meets offK1 offS1 k0_off11 k0_off8 k0_off14 1 0 c (pt 2 c) := by decide +kernel

theorem add_1 (A : FVec Ideal S4x512x640 .f32) (S : FVec Ideal S4x512x640 .bf16) (y) : k0_pay32 A S y = ((A y : EReal) + S y : EReal) :=
  congrFun (shapeCast_self (fun y => (A y : EReal) + S y) shapeCasts_S4x512x640_S4x512x640) y
theorem upd_1 (A : FVec Ideal S2x512x640 .f32) (S : FVec Ideal S2x512x640 .bf16) (y) : k0_pay39 A S y = ((A y : EReal) + S y : EReal) :=
  congrFun (shapeCast_self (fun y => (A y : EReal) + S y) shapeCasts_S2x512x640_S2x512x640) y
theorem two_1 (A : FVec Ideal S2x512x640 .f32) (y) : (k0_pay36 (F := Ideal) A y : EReal) = A y :=
  congrFun (shapeCast_self A shapeCasts_S2x512x640_S2x512x640) y
theorem one_1 (A : FVec Ideal S1x512x640 .f32) (y) : (k0_pay42 (F := Ideal) A y : EReal) = A y :=
  congrFun (shapeCast_self A shapeCasts_S1x512x640_S1x512x640) y

theorem A1_1_apply (c : Dev nD) (s : Fin 4) (r : Fin 512) (j : Fin 640) : A1_1 m c (ix3 s r j) =
    P m c (row (blkOf (offK1 c s)) r) (col1 j) + P m (pt 1 c) (row (blkOf (offS1 (pt 1 c) s)) r) (col1 j) := by
  unfold A1_1
  exact (add_1 _ _ _).trans (congrArg₂ (fun a b : EReal => a + b) (A0_1_apply m c s r j) (S1_1_apply m (pt 1 c) s r j))

theorem S2_1_apply (c : Dev nD) (s : Fin 4) (t : Fin 2) (h : s.val = k0_off8 c 0 + t.val) (r : Fin 512) (j : Fin 640) :
    S2_1 m c (ix3 t r j) = A1_1 m c (ix3 s r j) := by
  have e := slabs_read (Val := Elt Ideal) (n := 640) acc1.view (A1_1 m c) _ (k0_off8_inb c) (flat_1.1 c).1 (flat_1.1 c).2 s t h r j
  unfold S2_1
  refine (two_1 _ _).trans (e.trans ?_)
  exact congrFun (View.read_whole (Val := Elt Ideal) cc0_scratch9 (A1_1 m c)) _

/-- A slab read after stage 2 is four devices' shares of its row block. -/
theorem last_1 (c e : Dev nD) (w : Dev nD → Fin 3 → Nat) (hw : ∀ a, w c a + S1x512x640.size a ≤ S4x512x640.size a) (f : Flat w)
    (h : Meets offK1 offS1 k0_off11 k0_off8 w 1 0 c e) (r : Fin 512) (j : Fin 640) :
    acc1.view.readAt (Elt Ideal) (Rect.unit (s := S4x512x640) (w c) S1x512x640.size hw).toLoadRect (A2_1 m c) (ix3 0 r j)
      = four m 1 0 c e r (col1 j) := by
  obtain ⟨k, t, k', h1, h2, h3, e1, e2, e3, e4⟩ := h
  have h0 := update_read (n := 640) acc1.view (A1_1 m c) _ _ (k0_off11_inb c) hw (flat_1.2.1 c).1 (flat_1.2.1 c).2 (f c).1 (f c).2
    (p2_1 m c) (S2_1 m (pt 0 c)) (fun y => upd_1 _ _ y) k t h1 h2 r j
  have hA := congrFun (View.read_whole (Val := Elt Ideal) cc0_scratch9 (A1_1 m c)) (ix3 k r j)
  have hS := S2_1_apply m (pt 0 c) k' t h3 r j
  rw [A1_1_apply, e1, e2] at hA
  rw [A1_1_apply, e3, e4] at hS
  unfold A2_1
  exact h0.trans (congrArg₂ (fun a b : EReal => a + b) hA hS)

theorem total_1 (c : Dev nD) (r : Fin 512) (j : Fin 640) :
    (fin1 m c (ix3 0 r j) : EReal) + S3_1 m (pt 2 c) (ix3 0 r j) = ∑ d : Dev nD, P m d (row c r) (col1 j) := by
  have e1 : fin1 m c (ix3 0 r j) = four m 1 0 c c r (col1 j) := by
    unfold fin1; exact last_1 m c c k0_off17 (k0_off17_inb c) flat_1.2.2.2 (keep_1 c) r j
  have h := send_1 (pt 2 c)
  rw [pt_pt] at h
  have e2 : S3_1 m (pt 2 c) (ix3 0 r j) = four m 1 0 (pt 2 c) c r (col1 j) := by
    unfold S3_1
    exact (one_1 _ _).trans
      (last_1 m (pt 2 c) c k0_off14 (k0_off14_inb _) flat_1.2.2.1 h r j)
  exact (congrArg₂ (fun a b : EReal => a + b) e1 e2).trans (sum_cube 1 0 2 (by decide) (fun d => P m d (row c r) (col1 j)) c)

/-! ## Group 2 -/

theorem flat_2 : Flat k0_off9 ∧ Flat k0_off12 ∧ Flat k0_off15 ∧ Flat k0_off18 := by decide +kernel
theorem keep_2 : ∀ c, Meets offK2 offS2 k0_off12 k0_off9 k0_off18 0 2 c c := by decide +kernel
theorem send_2 : ∀ c, Meets offK2 offS2 k0_off12 k0_off9 k0_off15 0 2 c (pt 1 c) := by decide +kernel

theorem add_2 (A : FVec Ideal S4x512x768 .f32) (S : FVec Ideal S4x512x768 .bf16) (y) : k0_pay33 A S y = ((A y : EReal) + S y : EReal) :=
  congrFun (shapeCast_self (fun y => (A y : EReal) + S y) shapeCasts_S4x512x768_S4x512x768) y
theorem upd_2 (A : FVec Ideal S2x512x768 .f32) (S : FVec Ideal S2x512x768 .bf16) (y) : k0_pay40 A S y = ((A y : EReal) + S y : EReal) :=
  congrFun (shapeCast_self (fun y => (A y : EReal) + S y) shapeCasts_S2x512x768_S2x512x768) y
theorem two_2 (A : FVec Ideal S2x512x768 .f32) (y) : (k0_pay37 (F := Ideal) A y : EReal) = A y :=
  congrFun (shapeCast_self A shapeCasts_S2x512x768_S2x512x768) y
theorem one_2 (A : FVec Ideal S1x512x768 .f32) (y) : (k0_pay43 (F := Ideal) A y : EReal) = A y :=
  congrFun (shapeCast_self A shapeCasts_S1x512x768_S1x512x768) y

theorem A1_2_apply (c : Dev nD) (s : Fin 4) (r : Fin 512) (j : Fin 768) : A1_2 m c (ix3 s r j) =
    P m c (row (blkOf (offK2 c s)) r) (col2 j) + P m (pt 0 c) (row (blkOf (offS2 (pt 0 c) s)) r) (col2 j) := by
  unfold A1_2
  exact (add_2 _ _ _).trans (congrArg₂ (fun a b : EReal => a + b) (A0_2_apply m c s r j) (S1_2_apply m (pt 0 c) s r j))

theorem S2_2_apply (c : Dev nD) (s : Fin 4) (t : Fin 2) (h : s.val = k0_off9 c 0 + t.val) (r : Fin 512) (j : Fin 768) :
    S2_2 m c (ix3 t r j) = A1_2 m c (ix3 s r j) := by
  have e := slabs_read (Val := Elt Ideal) (n := 768) acc2.view (A1_2 m c) _ (k0_off9_inb c) (flat_2.1 c).1 (flat_2.1 c).2 s t h r j
  unfold S2_2
  refine (two_2 _ _).trans (e.trans ?_)
  exact congrFun (View.read_whole (Val := Elt Ideal) cc0_scratch18 (A1_2 m c)) _

/-- A slab read after stage 2 is four devices' shares of its row block. -/
theorem last_2 (c e : Dev nD) (w : Dev nD → Fin 3 → Nat) (hw : ∀ a, w c a + S1x512x768.size a ≤ S4x512x768.size a) (f : Flat w)
    (h : Meets offK2 offS2 k0_off12 k0_off9 w 0 2 c e) (r : Fin 512) (j : Fin 768) :
    acc2.view.readAt (Elt Ideal) (Rect.unit (s := S4x512x768) (w c) S1x512x768.size hw).toLoadRect (A2_2 m c) (ix3 0 r j)
      = four m 0 2 c e r (col2 j) := by
  obtain ⟨k, t, k', h1, h2, h3, e1, e2, e3, e4⟩ := h
  have h0 := update_read (n := 768) acc2.view (A1_2 m c) _ _ (k0_off12_inb c) hw (flat_2.2.1 c).1 (flat_2.2.1 c).2 (f c).1 (f c).2
    (p2_2 m c) (S2_2 m (pt 2 c)) (fun y => upd_2 _ _ y) k t h1 h2 r j
  have hA := congrFun (View.read_whole (Val := Elt Ideal) cc0_scratch18 (A1_2 m c)) (ix3 k r j)
  have hS := S2_2_apply m (pt 2 c) k' t h3 r j
  rw [A1_2_apply, e1, e2] at hA
  rw [A1_2_apply, e3, e4] at hS
  unfold A2_2
  exact h0.trans (congrArg₂ (fun a b : EReal => a + b) hA hS)

theorem total_2 (c : Dev nD) (r : Fin 512) (j : Fin 768) :
    (fin2 m c (ix3 0 r j) : EReal) + S3_2 m (pt 1 c) (ix3 0 r j) = ∑ d : Dev nD, P m d (row c r) (col2 j) := by
  have e1 : fin2 m c (ix3 0 r j) = four m 0 2 c c r (col2 j) := by
    unfold fin2; exact last_2 m c c k0_off18 (k0_off18_inb c) flat_2.2.2.2 (keep_2 c) r j
  have h := send_2 (pt 1 c)
  rw [pt_pt] at h
  have e2 : S3_2 m (pt 1 c) (ix3 0 r j) = four m 0 2 (pt 1 c) c r (col2 j) := by
    unfold S3_2
    exact (one_2 _ _).trans
      (last_2 m (pt 1 c) c k0_off15 (k0_off15_inb _) flat_2.2.2.1 h r j)
  exact (congrArg₂ (fun a b : EReal => a + b) e1 e2).trans (sum_cube 0 2 1 (by decide) (fun d => P m d (row c r) (col2 j)) c)

end Cert.KernelIdeal.Pf.Value
end
-- ==== Proof.KiOut.lean ====
/-
# The result the kernel leaves

A device's block of the result, entry by entry: `y` times the logistic of `y`, where `y` is the sum of the eight devices' shares times
the two scales. And the arrays at the two ends of the run: the staged operands are the arguments, the result array the block.
-/
module

public import proofs.«01_k».proof.Proof.KiStages
public import proofs.«01_k».proof.Proof.KiLaunch

@[expose] public section

set_option maxRecDepth 16384

noncomputable section

namespace Cert.KernelIdeal.Pf.Value

open Cert.KernelIdeal Cert.KernelIdeal.Gen
open Idealize.ShloMosaic Idealize.ShloMosaic.TcCoe Idealize.ShloMosaic.ValueIdx
open Idealize.ShloMosaic.Pipeline (Dat Cfg Window)

/-- `y` times the logistic of `y`. -/
def silu (y : EReal) : EReal := y * Ideal.logistic y

section gate
variable {n : Nat}

/-- The sum of two slabs, scaled and gated, entry by entry. -/
theorem gate_apply (f S : FVec Ideal ⟨3, ![1, 512, n]⟩ .f32) (hf hS) (s : EReal) (r : Fin 512) (j : Fin n) :
    mulf (mulf (addf (shapeCast ⟨2, ![512, n]⟩ f hf) (shapeCast ⟨2, ![512, n]⟩ S hS) : FVec Ideal ⟨2, ![512, n]⟩ .f32) (broadcast ⟨2, ![512, n]⟩ s))
      (logistic (mulf (addf (shapeCast ⟨2, ![512, n]⟩ f hf) (shapeCast ⟨2, ![512, n]⟩ S hS) : FVec Ideal ⟨2, ![512, n]⟩ .f32) (broadcast ⟨2, ![512, n]⟩ s))) (ix2 r j)
      = silu (((f (ix3 0 r j) : EReal) + S (ix3 0 r j)) * s) := by
  have e1 := shapeCast_1ab_ab_apply f hf r j
  have e2 := shapeCast_1ab_ab_apply S hS r j
  rw [← e1, ← e2]
  rfl

end gate

attribute [local irreducible] A0_0 S1_0 A0_1 S1_1 A0_2 S1_2 A1_0 A1_1 A1_2 S2_0 S2_1 S2_2 A2_0 A2_1 A2_2 S3_0 S3_1 S3_2 fin0 fin1 fin2 scv

variable (m : (ℓ : Loc nD τ sig) → Buf (Elt Ideal) ℓ) (ρ : Dev nD → PrngReg)

/-- What device `c` holds at row `r` and column `J` of its block of the result. -/
def res (c : Dev nD) (r : Fin 512) (J : Fin 2048) : EReal := silu ((∑ d : Dev nD, P m d (row c r) J) * scv m c)

theorem o0_apply (c : Dev nD) (r : Fin 512) (j : Fin 640) : o0 m c (ix2 r j) = res m c r (col0 j) := by
  unfold res o0 scv; rw [← total_0]
  exact gate_apply (n := 640) (fin0 m c) (S3_0 m (pt 0 c)) shapeCasts_S1x512x640_S512x640 shapeCasts_S1x512x640_S512x640 _ r j
theorem o1_apply (c : Dev nD) (r : Fin 512) (j : Fin 640) : o1 m c (ix2 r j) = res m c r (col1 j) := by
  unfold res o1; rw [← total_1]
  exact gate_apply (n := 640) (fin1 m c) (S3_1 m (pt 2 c)) shapeCasts_S1x512x640_S512x640 shapeCasts_S1x512x640_S512x640 _ r j
theorem o2_apply (c : Dev nD) (r : Fin 512) (j : Fin 768) : o2 m c (ix2 r j) = res m c r (col2 j) := by
  unfold res o2; rw [← total_2]
  exact gate_apply (n := 768) (fin2 m c) (S3_2 m (pt 1 c)) shapeCasts_S1x512x768_S512x768 shapeCasts_S1x512x768_S512x768 _ r j

attribute [local irreducible] o0 o1 o2

/-- A block of columns, read where it was written. -/
theorem cols_mem {n : Nat} (v : View sig .tc .vmem S512x2048 .f32) (f : v.ty.Contents (Elt Ideal)) (o : Nat) (h) (w : (⟨2, ![512, n]⟩ : Shape).Idx → EReal)
    (L : List (View.Piece (Elt Ideal) S512x2048 .f32)) (r : Fin 512) (J : Fin 2048) (j : Fin n) (hj : J.val = o + j.val) :
    v.read (Elt Ideal) (v.writes (Elt Ideal) f ((⟨Rect.unit (s := S512x2048) ![0, o] ![512, n] h, w⟩ : View.Piece (Elt Ideal) S512x2048 .f32) :: L)) (ix2 r J) = w (ix2 r j) := by
  refine View.read_writes_cons_unit_of_mem v f h w L (ix2 r J) (ix2 r j) rfl fun a => ?_
  match a with
  | ⟨0, _⟩ => show r.val = 0 + r.val; omega
  | ⟨1, _⟩ => exact hj

/-- A block of columns, read before its first column. -/
theorem cols_before {n : Nat} (v : View sig .tc .vmem S512x2048 .f32) (f : v.ty.Contents (Elt Ideal)) (o : Nat) (h) (w : (⟨2, ![512, n]⟩ : Shape).Idx → EReal)
    (L : List (View.Piece (Elt Ideal) S512x2048 .f32)) (r : Fin 512) (J : Fin 2048) (hj : J.val < o) :
    v.read (Elt Ideal) (v.writes (Elt Ideal) f ((⟨Rect.unit (s := S512x2048) ![0, o] ![512, n] h, w⟩ : View.Piece (Elt Ideal) S512x2048 .f32) :: L)) (ix2 r J)
      = v.read (Elt Ideal) (v.writes (Elt Ideal) f L) (ix2 r J) :=
  View.read_writes_cons_unit_of_not_mem v f h w L (ix2 r J) rfl (1 : Fin 2) (.inl hj)

theorem outC_apply (c : Dev nD) (r : Fin 512) (J : Fin 2048) : outC m c (ix2 r J) = res m c r J := by
  have e : outC m c = oM.view.read (Elt Ideal) (oM.view.writes (Elt Ideal) oM.view.junk (LO m c)) := by
    unfold outC; exact (View.read_whole (Val := Elt Ideal) cc0_stg4_0 _).symm
  rw [e]
  by_cases h2 : 1280 ≤ J.val
  · have hJ : col2 ⟨J.val - 1280, by omega⟩ = J := Fin.ext (by show 1280 + (J.val - 1280) = J.val; omega)
    exact (cols_mem (n := 768) oM.view _ 1280 _ _ _ r J ⟨J.val - 1280, by omega⟩ (by show J.val = 1280 + (J.val - 1280); omega)).trans
      ((o2_apply m c r _).trans (congrArg (res m c r) hJ))
  · refine (cols_before (n := 768) oM.view _ 1280 _ _ _ r J (by omega)).trans ?_
    by_cases h1 : 640 ≤ J.val
    · have hJ : col1 ⟨J.val - 640, by omega⟩ = J := Fin.ext (by show 640 + (J.val - 640) = J.val; omega)
      exact (cols_mem (n := 640) oM.view _ 640 _ _ _ r J ⟨J.val - 640, by omega⟩ (by show J.val = 640 + (J.val - 640); omega)).trans
        ((o1_apply m c r _).trans (congrArg (res m c r) hJ))
    · refine (cols_before (n := 640) oM.view _ 640 _ _ _ r J (by omega)).trans ?_
      have hJ : col0 ⟨J.val, by omega⟩ = J := Fin.ext (by show 0 + J.val = J.val; omega)
      exact (cols_mem (n := 640) oM.view _ 0 _ _ _ r J ⟨J.val, by omega⟩ (by show J.val = 0 + J.val; omega)).trans
        ((o0_apply m c r _).trans (congrArg (res m c r) hJ))

/-! ## The arrays at the ends of the run -/

theorem emb_x (y : S4096x512.Idx) : ((cfg0.win 0).blk t0_0).view.emb y = y := by
  funext a; apply Fin.ext
  match a with
  | ⟨0, _⟩ => show 0 * 4096 + 1 * (y 0).val = (y 0).val; omega
  | ⟨1, _⟩ => show 0 * 512 + 1 * (y 1).val = (y 1).val; omega
theorem emb_w (y : S512x2048.Idx) : ((cfg0.win 1).blk t0_0).view.emb y = y := by
  funext a; apply Fin.ext
  match a with
  | ⟨0, _⟩ => show 0 * 512 + 1 * (y 0).val = (y 0).val; omega
  | ⟨1, _⟩ => show 0 * 2048 + 1 * (y 1).val = (y 1).val; omega
theorem emb_o (y : S512x2048.Idx) : ((cfg0.win 4).blk t0_0).view.emb y = y := by
  funext a; apply Fin.ext
  match a with
  | ⟨0, _⟩ => show 0 * 512 + 1 * (y 0).val = (y 0).val; omega
  | ⟨1, _⟩ => show 0 * 2048 + 1 * (y 1).val = (y 1).val; omega

theorem Xe_eq (c : Dev nD) (y) : Xe m c y = m ((c.tc : Thread nD τ).loc main_arg0) y :=
  congrArg (m ((c.tc : Thread nD τ).loc main_arg0)) (emb_x y)
theorem We_eq (c : Dev nD) (y) : We m c y = m ((c.tc : Thread nD τ).loc main_arg1) y :=
  congrArg (m ((c.tc : Thread nD τ).loc main_arg1)) (emb_w y)
/-- A one-element array has one index. -/
theorem idx1 (y z : S1.Idx) : y = z := funext fun a => by
  match a with
  | ⟨0, _⟩ => exact Subsingleton.elim (α := Fin 1) _ _
theorem scv_eq (c : Dev nD) : (scv m c : EReal) =
    (fun a b : EReal => a * b) (m ((c.tc : Thread nD τ).loc main_arg2) (ix1 0)) (m ((c.tc : Thread nD τ).loc main_arg3) (ix1 0)) := by
  unfold scv
  exact congrArg₂ (fun a b : EReal => a * b) (congrArg (m ((c.tc : Thread nD τ).loc main_arg2)) (idx1 _ _))
    (congrArg (m ((c.tc : Thread nD τ).loc main_arg3)) (idx1 _ _))

attribute [local irreducible] outC

/-- The result array at the end of the run. -/
theorem finalA_out (c : Dev nD) (y : S512x2048.Idx) : finalA m ρ c 4 y = outC m c y := by
  have h : ((cfg0.win 4).blk t0_0).view.read (Elt Ideal) ((dats m ρ 0 c).arrAt 4 cfg0.N) = (dats m ρ 0 c).flushed 4 t0_0 :=
    (dats m ρ 0 c).read_blk_arrAt_eq_flushed 4 (fun t t' _ _ hne => absurd (Subsingleton.elim (α := Fin 1) t t') hne) cfg0.N t0_0 t0_0.isLt rfl
  have e : (dats m ρ 0 c).flushed 4 t0_0 = (cfg0.win 4).cut (grid0.coords t0_0) (outC m c) := rfl
  rw [e] at h
  refine Eq.trans ?_ (congrFun h y)
  exact congrArg ((dats m ρ 0 c).arrAt 4 cfg0.N) (emb_o y).symm

end Cert.KernelIdeal.Pf.Value
end
-- ==== Proof.RefOut.lean ====
/-
# What the reference computes

The run of the reference leaves in its result array `y / (1 + exp (-y))`, where `y` is the product of the two whole operands
times the two scales.
-/
module

public import proofs.«01_k».proof.Proof.Gen.ReferenceIdeal.Value
public import Idealize.ShloMosaic.Lib.VecWindow
public import Idealize.ShloMosaic.Lib.MatmulPlain
public import Idealize.ShloMosaic.Lib.IdealHost
public import Idealize.ShloMosaic.Lib.Pipeline.ValueKit.Tiles

@[expose] public section

noncomputable section

namespace Cert.RefOut

open Cert.ReferenceIdeal Cert.ReferenceIdeal.Gen
open Idealize.ShloMosaic Idealize.ShloMosaic.TcCoe Idealize.ShloMosaic.ValueIdx

/-- A one-element array has one index. -/
theorem idx1 (y z : S1.Idx) : y = z := funext fun a => by
  match a with
  | ⟨0, _⟩ => exact Subsingleton.elim (α := Fin 1) _ _

section run
variable {F : FTy → Type} [FloatOps F] [Named F]

/-- The one store covers the whole block: the block is its payload. -/
theorem out_eq (c : Dev nD) (arg0 : Memref sig .tc .vmem S4096x4096 .fp8e5m2) (harg0 : arg0.IsWhole) (arg1 : Memref sig .tc .vmem S4096x2048 .fp8e5m2) (harg1 : arg1.IsWhole)
    (arg2 : Memref sig .tc .smem S1 .f32) (harg2 : arg2.IsWhole) (arg3 : Memref sig .tc .smem S1 .f32) (harg3 : arg3.IsWhole) (arg4 : Memref sig .tc .vmem S4096x2048 .f32) (harg4 : arg4.IsWhole)
    (x0 : Vec F S4096x4096 .fp8e5m2) (x1 : Vec F S4096x2048 .fp8e5m2) (x2 x3 : Vec F S1 .f32) :
    out0_A_4 c arg0 harg0 arg1 harg1 arg2 harg2 arg3 harg3 arg4 harg4 x0 x1 x2 x3 = k0_pay1 x0 x1 (x2 (ix1 0)) (x3 (ix1 0)) := by
  unfold out0_A_4 kernelRun0_A
  refine (View.read_writes_full _ _ _ _ _).trans ?_
  rw [View.readAt_full, View.readAt_full, harg0.read_unread, harg1.read_unread]
  congr 1
  · unfold kernelRun0_A.sl.r; rw [View.readAt_apply, harg2.read_unread]; exact congrArg x2 (idx1 _ _)
  · unfold kernelRun0_A.sl.r_1; rw [View.readAt_apply, harg3.read_unread]; exact congrArg x3 (idx1 _ _)

/-- The one point of the grid of no axis. -/
abbrev t0 : Fin cfg0.N := ⟨0, by decide⟩

variable (m : (ℓ : Loc nD τ sig) → Buf (Elt F) ℓ)

/-! The windows are whole arrays: a block's index is placed at itself. -/
theorem emb0 (y : S4096x4096.Idx) : ((cfg0.win 0).blk t0).view.emb y = y := by
  funext a; apply Fin.ext
  match a with
  | ⟨0, _⟩ => show 0 * 4096 + 1 * (y 0).val = (y 0).val; omega
  | ⟨1, _⟩ => show 0 * 4096 + 1 * (y 1).val = (y 1).val; omega
theorem emb1 (y : S4096x2048.Idx) : ((cfg0.win 1).blk t0).view.emb y = y := by
  funext a; apply Fin.ext
  match a with
  | ⟨0, _⟩ => show 0 * 4096 + 1 * (y 0).val = (y 0).val; omega
  | ⟨1, _⟩ => show 0 * 2048 + 1 * (y 1).val = (y 1).val; omega
theorem emb4 (y : S4096x2048.Idx) : ((cfg0.win 4).blk t0).view.emb y = y := by
  funext a; apply Fin.ext
  match a with
  | ⟨0, _⟩ => show 0 * 4096 + 1 * (y 0).val = (y 0).val; omega
  | ⟨1, _⟩ => show 0 * 2048 + 1 * (y 1).val = (y 1).val; omega

theorem iblk0 (c : Dev nD) : (iblk m c 0 t0 : Vec F S4096x4096 .fp8e5m2) = m ((c.tc : Thread nD τ).loc main_arg0) :=
  funext fun y => congrArg (m ((c.tc : Thread nD τ).loc main_arg0)) (emb0 y)
theorem iblk1 (c : Dev nD) : (iblk m c 1 t0 : Vec F S4096x2048 .fp8e5m2) = m ((c.tc : Thread nD τ).loc main_arg1) :=
  funext fun y => congrArg (m ((c.tc : Thread nD τ).loc main_arg1)) (emb1 y)
theorem iblk2 (c : Dev nD) (y : S1.Idx) : (iblk m c 2 t0 : Vec F S1 .f32) y = m ((c.tc : Thread nD τ).loc main_arg2) y :=
  congrArg (m ((c.tc : Thread nD τ).loc main_arg2)) (idx1 _ _)
theorem iblk3 (c : Dev nD) (y : S1.Idx) : (iblk m c 3 t0 : Vec F S1 .f32) y = m ((c.tc : Thread nD τ).loc main_arg3) y :=
  congrArg (m ((c.tc : Thread nD τ).loc main_arg3)) (idx1 _ _)

/-- The array the run leaves: the payload of the four arguments. -/
theorem final (c : Dev nD) : (dats m 0 c).arrAt 4 cfg0.N = k0_pay1 (m ((c.tc : Thread nD τ).loc main_arg0))
    (m ((c.tc : Thread nD τ).loc main_arg1)) (m ((c.tc : Thread nD τ).loc main_arg2) (ix1 0))
    (m ((c.tc : Thread nD τ).loc main_arg3) (ix1 0)) := by
  funext y
  have h := congrFun (Cert.ReferenceIdeal.Value.blocks4 m c t0 rfl) y
  rw [Cert.ReferenceIdeal.Value.flushed4_A, out_eq, iblk0, iblk1, iblk2, iblk3] at h
  refine Eq.trans ?_ h
  exact congrArg ((dats m 0 c).arrAt 4 cfg0.N) (emb4 y).symm

end run

/-! ## The payload over the extended reals -/

/-- `1 + exp (-y)` is never zero, so the quotient by it is the product with its inverse; and it is the argument of the
logistic function. Both say `y` times the logistic of `y`. -/
theorem one_add_exp_ne (y : EReal) : 1 + Ideal.exp y ≠ 0 := by
  have h : (0 : EReal) ≤ Ideal.exp y := by
    induction y using EReal.rec with
    | bot => exact le_of_eq rfl
    | coe r => exact EReal.coe_nonneg.mpr (Real.exp_pos r).le
    | top => exact le_top
  intro h0
  have h1 : (1 : EReal) ≤ 1 + Ideal.exp y := le_add_of_nonneg_right h
  rw [h0] at h1
  exact absurd h1 (by norm_num)

/-- The reference's gate is `y` times the logistic of `y`, at the infinities too. -/
theorem gate_eq (y : EReal) : Ideal.div y (1 + Ideal.exp (0 - min ⊤ (max ⊥ y))) = y * Ideal.logistic y := by
  have hm : min ⊤ (max ⊥ y) = y := by simp
  have h := one_add_exp_ne (-y)
  rw [hm, zero_sub]
  unfold Ideal.logistic Ideal.div
  rw [if_neg h, if_neg h, one_mul]

/-- With the clip at the literal ±60 the gate is the same for every `y` between them. -/
theorem gate_within (y : EReal) (h : ((-60 : ℝ) : EReal) ≤ y) (h' : y ≤ ((60 : ℝ) : EReal)) :
    Ideal.div y (1 + Ideal.exp (0 - min ((60 : ℝ) : EReal) (max ((-60 : ℝ) : EReal) y))) = y * Ideal.logistic y := by
  rw [← gate_eq, max_eq_right h, min_eq_right h', max_eq_right bot_le, min_eq_right le_top]

theorem pay_apply (x : Vec Ideal S4096x4096 .fp8e5m2) (w : Vec Ideal S4096x2048 .fp8e5m2) (a b : EReal) (r : Fin 4096) (j : Fin 2048) :
    k0_pay1 (F := Ideal) x w a b (ix2 r j) = ((∑ k : Fin 4096, (x (ix2 r k) : EReal) * w (ix2 k j)) * (a * b))
      * Ideal.logistic ((∑ k : Fin 4096, (x (ix2 r k) : EReal) * w (ix2 k j)) * (a * b)) := by
  have h := Ideal.matmul_plain_apply (M := 4096) (K := 4096) (N := 2048) (φ₁ := .f32) (φ₂ := .f32) none x w (constant S4096x2048 .f32 0x00000000#32) r j
  have h0 : (constant S4096x2048 .f32 0x00000000#32 : FVec Ideal S4096x2048 .f32) (ix2 r j) = 0 := Ideal.ofBits_zero_f32
  rw [h0, zero_add] at h
  rw [← gate_eq, ← h]
  have h1 : (Scalar.ofBits (F := Ideal) .f32 0x3F800000#32 : EReal) = 1 := Ideal.ofBits_one_f32
  have h2 : (Scalar.ofBits (F := Ideal) .f32 0x00000000#32 : EReal) = 0 := Ideal.ofBits_zero_f32
  rw [← h1, ← h2]
  rfl

end Cert.RefOut
end
-- ==== Proof.Algebraic.lean ====
/-
# The kernel computes what the reference computes

Device `c`'s block of the result is row block `c` of the reference's result: the eight shares of a product add up to the whole
product, summed tile by tile, and both gates are `y` times the logistic of `y`.
-/
module

public import proofs.«01_k».proof.Proof.KiOut
public import proofs.«01_k».proof.Proof.RefOut
public import proofs.«01_k».proof.Defs
public import Idealize.ShloMosaic.Lib.Pointwise.Sums

@[expose] public section

set_option maxRecDepth 16384

noncomputable section

namespace Cert.Agree

open Idealize.ShloMosaic Idealize.ShloMosaic.TcCoe Idealize.SL.Sem
open Cert.KernelIdeal.Pf.Value (Xe We P row res silu)

/-- A memory of the kernel's devices, and one of the reference's. -/
abbrev KM := (ℓ : Loc Cert.KernelIdeal.nD Cert.KernelIdeal.τ Cert.KernelIdeal.sig) → Buf (Elt Ideal) ℓ
abbrev RM := (ℓ : Loc Cert.ReferenceIdeal.nD Cert.ReferenceIdeal.τ Cert.ReferenceIdeal.sig) → Buf (Elt Ideal) ℓ

/-- The reference's operands. -/
abbrev x' (m' : RM) : Vec Ideal Cert.ReferenceIdeal.S4096x4096 .fp8e5m2 := m' ((((0 : Dev Cert.ReferenceIdeal.nD).tc : Thread Cert.ReferenceIdeal.nD Cert.ReferenceIdeal.τ)).loc Cert.ReferenceIdeal.main_arg0)
abbrev w' (m' : RM) : Vec Ideal Cert.ReferenceIdeal.S4096x2048 .fp8e5m2 := m' ((((0 : Dev Cert.ReferenceIdeal.nD).tc : Thread Cert.ReferenceIdeal.nD Cert.ReferenceIdeal.τ)).loc Cert.ReferenceIdeal.main_arg1)

/-- Column `k` of device `d`'s columns of `x`, and row `k` of its rows of `w`. -/
def at8 (d : Fin 8) (k : Fin 512) : Fin 4096 := ⟨d.val * 512 + k.val, by omega⟩

/-- The two initial memories agree on the operands: those of the kernel are blocks of the reference's. -/
def Agrees (m : KM) (m' : RM) : Prop := ∀ c : Dev Cert.KernelIdeal.nD,
  m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
    ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
    ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
    ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)

variable (m : KM) (m' : RM) (h : Agrees m m')

include h

theorem Xe_at (d : Fin 8) (R : Fin 4096) (k : Fin 512) : Xe m d (ValueIdx.ix2 R k) = x' m' (ValueIdx.ix2 R (at8 d k)) := by
  rw [Cert.KernelIdeal.Pf.Value.Xe_eq, (h d).1]
  refine congrArg (x' m') (funext fun a => Fin.ext ?_)
  match a with
  | ⟨0, _⟩ => rfl
  | ⟨1, _⟩ => rfl
theorem We_at (d : Fin 8) (k : Fin 512) (J : Fin 2048) : We m d (ValueIdx.ix2 k J) = w' m' (ValueIdx.ix2 (at8 d k) J) := by
  rw [Cert.KernelIdeal.Pf.Value.We_eq, (h d).2.1]
  refine congrArg (w' m') (funext fun a => Fin.ext ?_)
  match a with
  | ⟨0, _⟩ => rfl
  | ⟨1, _⟩ => rfl

/-- The eight devices' shares make the whole product. -/
theorem shares (R : Fin 4096) (J : Fin 2048) :
    ∑ d : Fin 8, P m d R J = ∑ k : Fin 4096, (fun a b : EReal => a * b) (x' m' (ValueIdx.ix2 R k)) (w' m' (ValueIdx.ix2 k J)) := by
  rw [Fin.sum_univ_tiles 8 512 (rfl : 8 * 512 = 4096)]
  refine Finset.sum_congr rfl fun d _ => Finset.sum_congr rfl fun k _ => ?_
  exact congrArg₂ (fun a b : EReal => a * b) (Xe_at m m' h d R k) (We_at m m' h d k J)

/-- The reference's result. -/
abbrev out' (m' : RM) : Vec Ideal Cert.ReferenceIdeal.S4096x2048 .f32 := Cert.ReferenceIdeal.Gen.k0_pay1 (F := Ideal) (x' m') (w' m')
  (m' (((0 : Dev Cert.ReferenceIdeal.nD).tc : Thread Cert.ReferenceIdeal.nD Cert.ReferenceIdeal.τ).loc Cert.ReferenceIdeal.main_arg2) (ValueIdx.ix1 0))
  (m' (((0 : Dev Cert.ReferenceIdeal.nD).tc : Thread Cert.ReferenceIdeal.nD Cert.ReferenceIdeal.τ).loc Cert.ReferenceIdeal.main_arg3) (ValueIdx.ix1 0))

/-- Device `c`'s block of the result is row block `c` of the reference's. -/
theorem block_eq (c : Fin 8) : (Cert.KernelIdeal.Pf.outC m c : Vec Ideal Cert.KernelIdeal.S512x2048 .f32) = Layout.block ⟨2, ![512, 2048]⟩ ⟨2, ![4096, 2048]⟩ 0 8 c (out' m') := by
  funext y
  obtain ⟨r, J, rfl⟩ : ∃ (r : Fin 512) (J : Fin 2048), y = ValueIdx.ix2 r J := ⟨y 0, y 1, ValueIdx.eq_ix2 y⟩
  rw [Cert.KernelIdeal.Pf.Value.outC_apply]
  have e : (Layout.block ⟨2, ![512, 2048]⟩ ⟨2, ![4096, 2048]⟩ 0 8 c (out' m') : Vec Ideal Cert.KernelIdeal.S512x2048 .f32) (ValueIdx.ix2 r J) = out' m' (ValueIdx.ix2 (row c r) J) := by
    refine congrArg (out' m') (funext fun a => Fin.ext ?_)
    match a with
    | ⟨0, _⟩ => rfl
    | ⟨1, _⟩ => rfl
  rw [e]
  refine Eq.trans ?_ (Cert.RefOut.pay_apply _ _ _ _ (row c r) J).symm
  have hs := Cert.KernelIdeal.Pf.Value.scv_eq m c
  rw [(h c).2.2.1, (h c).2.2.2] at hs
  exact congrArg silu (congrArg₂ (fun a b : EReal => a * b) (shares m m' h (row c r) J) hs)

omit h in
/-- The two runs, from memories that agree on the operands. -/
theorem agree (g : Dev Cert.KernelIdeal.nD → PrngReg) (g' : Dev Cert.ReferenceIdeal.nD → PrngReg) (h : Agrees m m') :
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)) := by
  refine ⟨out' m', (θ_run Cert.KernelIdeal.defs _ _).mono (fun r hr c => ⟨?_, ?_, ?_, ?_, ?_⟩) (Cert.KernelIdeal.Pf.run_main m g),
    (θ_run Cert.ReferenceIdeal.defs _ _).mono (fun r hr => ⟨(hr 0).1.trans (Cert.RefOut.final m' 0), (hr 0).2⟩) (Cert.ReferenceIdeal.Value.run_blocks m' g')⟩
  · exact (hr.1 c (4 : Fin 5)).trans ((funext (Cert.KernelIdeal.Pf.Value.finalA_out m g c)).trans (block_eq m m' h c))
  · exact (hr.1 c (0 : Fin 5)).trans (Cert.KernelIdeal.Pf.finalA_in m g c (0 : Fin 5) rfl)
  · exact (hr.1 c (1 : Fin 5)).trans (Cert.KernelIdeal.Pf.finalA_in m g c (1 : Fin 5) rfl)
  · exact (hr.1 c (2 : Fin 5)).trans (Cert.KernelIdeal.Pf.finalA_in m g c (2 : Fin 5) rfl)
  · exact (hr.1 c (3 : Fin 5)).trans (Cert.KernelIdeal.Pf.finalA_in m g c (3 : Fin 5) rfl)

end Cert.Agree
end
-- ==== Proof.lean ====
/-
The proof of `Cert.Claim`. The witnesses of the programs' stated facts come first, then the frames of the four programs, the two
`preserves` claims and the value claim (`Cert.Agree.agree`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KiLaunch
public import proofs.«01_k».proof.Proof.Gen.ReferenceIdeal.Value
public import proofs.«01_k».proof.Proof.Gen.Reference.Frame
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  fun m g _ => Cert.Same.frame_kernel m g,
  fun m g _ => Cert.KernelIdeal.Pf.frame_main m g,
  fun m g _ => Cert.ReferenceIdeal.Gen.frame m g,
  fun m g _ => Cert.Reference.Gen.frame m g,
  trivial,
  ⟨IdealRules.named_const.statement Cert.ReferenceIdeal.κ "lo" .f32 0xC2700000#32 ⊥ rfl,
    IdealRules.named_const.statement Cert.ReferenceIdeal.κ "hi" .f32 0x42700000#32 ⊤ rfl⟩,
  fun m g m' g' _ h => Cert.Agree.agree m m' g g' h⟩

end Cert.Proof

end
